-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x96x224x224 : Shape := ⟨4, ![1, 96, 224, 224]⟩
abbrev S1x1x224x224 : Shape := ⟨4, ![1, 1, 224, 224]⟩
abbrev S1x96x4x2 : Shape := ⟨4, ![1, 96, 4, 2]⟩
abbrev S96x96x3x3 : Shape := ⟨4, ![96, 96, 3, 3]⟩
abbrev S96 : Shape := ⟨1, ![96]⟩
abbrev S96x384x1x1 : Shape := ⟨4, ![96, 384, 1, 1]⟩
abbrev S_ : Shape := ⟨0, ![]⟩

class Facts : Prop where
  bcast_S_S1x96x224x224 : S_.BroadcastsInDim S1x96x224x224 (![] : Fin 0 → Fin S1x96x224x224.rank)
  reducesTo_S1x96x224x224_S_d0_1_2_3 : S1x96x224x224.ReducesTo [0, 1, 2, 3] S_
  h_S_ : 0 < S_.numel
  bcast_S_S1x1x224x224 : S_.BroadcastsInDim S1x1x224x224 (![] : Fin 0 → Fin S1x1x224x224.rank)
  reducesTo_S1x1x224x224_S_d0_1_2_3 : S1x1x224x224.ReducesTo [0, 1, 2, 3] S_
  bcast_S_S1x96x4x2 : S_.BroadcastsInDim S1x96x4x2 (![] : Fin 0 → Fin S1x96x4x2.rank)
  reducesTo_S1x96x4x2_S_d0_1_2_3 : S1x96x4x2.ReducesTo [0, 1, 2, 3] S_
  bcast_S_S96x96x3x3 : S_.BroadcastsInDim S96x96x3x3 (![] : Fin 0 → Fin S96x96x3x3.rank)
  reducesTo_S96x96x3x3_S_d0_1_2_3 : S96x96x3x3.ReducesTo [0, 1, 2, 3] S_
  bcast_S_S96 : S_.BroadcastsInDim S96 (![] : Fin 0 → Fin S96.rank)
  reducesTo_S96_S_d0 : S96.ReducesTo [0] S_

variable [Facts]

def fn_part3 {F : FTy → Type} [FloatOps F] (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  main_v53

def fn_part2 {F : FTy → Type} [FloatOps F] (main_arg7 : FVec F S96x96x3x3 .f32) (main_arg8 : FVec F S96 .f32) (main_arg9 : FVec F S96x96x3x3 .f32) (main_arg10 : FVec F S96 .f32) (main_v33 : IVec S_ 1) : IVec S_ 1 :=
  let main_v34 : FVec F S96x96x3x3 .f32 := Host.absf main_arg7
  let main_cst_12 : FVec F S_ .f32 := constant S_ .f32 0x7F800000#32
  let main_v35 : FVec F S96x96x3x3 .f32 := broadcastInDim S96x96x3x3 ![] bcast_S_S96x96x3x3 main_cst_12
  let main_v36 : IVec S96x96x3x3 1 := cmpf .olt main_v34 main_v35
  let main_c_13 : IVec S_ 1 := constantI S_ 1 1#1
  let main_v37 : IVec S_ 1 := (fun x v => Host.reduce IntOp.andi x v reducesTo_S96x96x3x3_S_d0_1_2_3 h_S_) main_v36 main_c_13
  let main_v38 : IVec S_ 1 := andi main_v33 main_v37
  let main_v39 : FVec F S96 .f32 := Host.absf main_arg8
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x96x3x3 .f32 := Host.absf main_arg9
  let main_cst_16 : FVec F S_ .f32 := constant S_ .f32 0x7F800000#32
  let main_v45 : FVec F S96x96x3x3 .f32 := broadcastInDim S96x96x3x3 ![] bcast_S_S96x96x3x3 main_cst_16
  let main_v46 : IVec S96x96x3x3 1 := cmpf .olt main_v44 main_v45
  let main_c_17 : IVec S_ 1 := constantI S_ 1 1#1
  let main_v47 : IVec S_ 1 := (fun x v => Host.reduce IntOp.andi x v reducesTo_S96x96x3x3_S_d0_1_2_3 h_S_) main_v46 main_c_17
  let main_v48 : IVec S_ 1 := andi main_v43 main_v47
  let main_v49 : FVec F S96 .f32 := Host.absf main_arg10
  let main_cst_18 : FVec F S_ .f32 := constant S_ .f32 0x7F800000#32
  let main_v50 : FVec F S96 .f32 := broadcastInDim S96 ![] bcast_S_S96 main_cst_18
  fn_part3 (F := F) main_v48 main_v49 main_v50

def fn_part1 {F : FTy → Type} [FloatOps F] (main_arg4 : FVec F S96 .f32) (main_arg5 : FVec F S96x96x3x3 .f32) (main_arg6 : FVec F S96 .f32) (main_arg7 : FVec F S96x96x3x3 .f32) (main_arg8 : FVec F S96 .f32) (main_arg9 : FVec F S96x96x3x3 .f32) (main_arg10 : FVec F S96 .f32) (main_v13 : IVec S_ 1) (main_v16 : IVec S96x96x3x3 1) : IVec S_ 1 :=
  let main_c_5 : IVec S_ 1 := constantI S_ 1 1#1
  let main_v17 : IVec S_ 1 := (fun x v => Host.reduce IntOp.andi x v reducesTo_S96x96x3x3_S_d0_1_2_3 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96x3x3 .f32 := Host.absf main_arg5
  let main_cst_8 : FVec F S_ .f32 := constant S_ .f32 0x7F800000#32
  let main_v25 : FVec F S96x96x3x3 .f32 := broadcastInDim S96x96x3x3 ![] bcast_S_S96x96x3x3 main_cst_8
  let main_v26 : IVec S96x96x3x3 1 := cmpf .olt main_v24 main_v25
  let main_c_9 : IVec S_ 1 := constantI S_ 1 1#1
  let main_v27 : IVec S_ 1 := (fun x v => Host.reduce IntOp.andi x v reducesTo_S96x96x3x3_S_d0_1_2_3 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x96x224x224 .f32) (main_arg1 : FVec F S1x1x224x224 .f32) (main_arg2 : FVec F S1x96x4x2 .f32) (main_arg3 : FVec F S96x96x3x3 .f32) (main_arg4 : FVec F S96 .f32) (main_arg5 : FVec F S96x96x3x3 .f32) (main_arg6 : FVec F S96 .f32) (main_arg7 : FVec F S96x96x3x3 .f32) (main_arg8 : FVec F S96 .f32) (main_arg9 : FVec F S96x96x3x3 .f32) (main_arg10 : FVec F S96 .f32) (main_arg11 : FVec F S96x384x1x1 .f32) (main_arg12 : FVec F S96 .f32) : IVec S_ 1 :=
  let main_v0 : FVec F S1x96x224x224 .f32 := Host.absf main_arg0
  let main_cst : FVec F S_ .f32 := constant S_ .f32 0x7F800000#32
  let main_v1 : FVec F S1x96x224x224 .f32 := broadcastInDim S1x96x224x224 ![] bcast_S_S1x96x224x224 main_cst
  let main_v2 : IVec S1x96x224x224 1 := cmpf .olt main_v0 main_v1
  let main_c : IVec S_ 1 := constantI S_ 1 1#1
  let main_v3 : IVec S_ 1 := (fun x v => Host.reduce IntOp.andi x v reducesTo_S1x96x224x224_S_d0_1_2_3 h_S_) main_v2 main_c
  let main_v4 : FVec F S1x1x224x224 .f32 := Host.absf main_arg1
  let main_cst_0 : FVec F S_ .f32 := constant S_ .f32 0x7F800000#32
  let main_v5 : FVec F S1x1x224x224 .f32 := broadcastInDim S1x1x224x224 ![] bcast_S_S1x1x224x224 main_cst_0
  let main_v6 : IVec S1x1x224x224 1 := cmpf .olt main_v4 main_v5
  let main_c_1 : IVec S_ 1 := constantI S_ 1 1#1
  let main_v7 : IVec S_ 1 := (fun x v => Host.reduce IntOp.andi x v reducesTo_S1x1x224x224_S_d0_1_2_3 h_S_) main_v6 main_c_1
  let main_v8 : IVec S_ 1 := andi main_v3 main_v7
  let main_v9 : FVec F S1x96x4x2 .f32 := Host.absf main_arg2
  let main_cst_2 : FVec F S_ .f32 := constant S_ .f32 0x7F800000#32
  let main_v10 : FVec F S1x96x4x2 .f32 := broadcastInDim S1x96x4x2 ![] bcast_S_S1x96x4x2 main_cst_2
  let main_v11 : IVec S1x96x4x2 1 := cmpf .olt main_v9 main_v10
  let main_c_3 : IVec S_ 1 := constantI S_ 1 1#1
  let main_v12 : IVec S_ 1 := (fun x v => Host.reduce IntOp.andi x v reducesTo_S1x96x4x2_S_d0_1_2_3 h_S_) main_v11 main_c_3
  let main_v13 : IVec S_ 1 := andi main_v8 main_v12
  let main_v14 : FVec F S96x96x3x3 .f32 := Host.absf main_arg3
  let main_cst_4 : FVec F S_ .f32 := constant S_ .f32 0x7F800000#32
  let main_v15 : FVec F S96x96x3x3 .f32 := broadcastInDim S96x96x3x3 ![] bcast_S_S96x96x3x3 main_cst_4
  let main_v16 : IVec S96x96x3x3 1 := cmpf .olt main_v14 main_v15
  fn_part1 (F := F) main_arg4 main_arg5 main_arg6 main_arg7 main_arg8 main_arg9 main_arg10 main_v13 main_v16
-- ==== Kernel.lean ====
abbrev S1x96x224x224 : Shape := ⟨4, ![1, 96, 224, 224]⟩
abbrev S1x1x224x224 : Shape := ⟨4, ![1, 1, 224, 224]⟩
abbrev S1x96x4x2 : Shape := ⟨4, ![1, 96, 4, 2]⟩
abbrev S96x96x3x3 : Shape := ⟨4, ![96, 96, 3, 3]⟩
abbrev S96 : Shape := ⟨1, ![96]⟩
abbrev S96x384x1x1 : Shape := ⟨4, ![96, 384, 1, 1]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S1x96x4 : Shape := ⟨3, ![1, 96, 4]⟩
abbrev S1x96x4x1 : Shape := ⟨4, ![1, 96, 4, 1]⟩
abbrev S224x224 : Shape := ⟨2, ![224, 224]⟩
abbrev S96x224x224 : Shape := ⟨3, ![96, 224, 224]⟩
abbrev S3x3x96x96 : Shape := ⟨4, ![3, 3, 96, 96]⟩
abbrev S9x96x96 : Shape := ⟨3, ![9, 96, 96]⟩
abbrev S1x96x1x1 : Shape := ⟨4, ![1, 96, 1, 1]⟩
abbrev S1x96 : Shape := ⟨2, ![1, 96]⟩
abbrev S8x96 : Shape := ⟨2, ![8, 96]⟩
abbrev S224x224x96 : Shape := ⟨3, ![224, 224, 96]⟩
abbrev S32x224 : Shape := ⟨2, ![32, 224]⟩
abbrev S32x224x96 : Shape := ⟨3, ![32, 224, 96]⟩
abbrev S3x34x224x96 : Shape := ⟨4, ![3, 34, 224, 96]⟩
abbrev S1x224x96 : Shape := ⟨3, ![1, 224, 96]⟩
abbrev S96x40x224 : Shape := ⟨3, ![96, 40, 224]⟩
abbrev S40x224x96 : Shape := ⟨3, ![40, 224, 96]⟩
abbrev S33x224x96 : Shape := ⟨3, ![33, 224, 96]⟩
abbrev S1x1x224x96 : Shape := ⟨4, ![1, 1, 224, 96]⟩
abbrev S33x1x96 : Shape := ⟨3, ![33, 1, 96]⟩
abbrev S33x223x96 : Shape := ⟨3, ![33, 223, 96]⟩
abbrev S1x33x224x96 : Shape := ⟨4, ![1, 33, 224, 96]⟩
abbrev S96x48x224 : Shape := ⟨3, ![96, 48, 224]⟩
abbrev S48x224x96 : Shape := ⟨3, ![48, 224, 96]⟩
abbrev S34x224x96 : Shape := ⟨3, ![34, 224, 96]⟩
abbrev S34x1x96 : Shape := ⟨3, ![34, 1, 96]⟩
abbrev S34x223x96 : Shape := ⟨3, ![34, 223, 96]⟩
abbrev S1x34x224x96 : Shape := ⟨4, ![1, 34, 224, 96]⟩
abbrev S7168x96 : Shape := ⟨2, ![7168, 96]⟩
abbrev S1x32x224x96 : Shape := ⟨4, ![1, 32, 224, 96]⟩
abbrev S1x96x96 : Shape := ⟨3, ![1, 96, 96]⟩
abbrev S96x96 : Shape := ⟨2, ![96, 96]⟩
abbrev S32x224x1 : Shape := ⟨3, ![32, 224, 1]⟩
abbrev S1x1x96 : Shape := ⟨3, ![1, 1, 96]⟩
abbrev S96x4x96 : Shape := ⟨3, ![96, 4, 96]⟩
abbrev S4x96x96 : Shape := ⟨3, ![4, 96, 96]⟩
abbrev S1x96x96x3x3 : Shape := ⟨5, ![1, 96, 96, 3, 3]⟩
abbrev S3x96x96x3x3 : Shape := ⟨5, ![3, 96, 96, 3, 3]⟩
abbrev S3x3x3x96x96 : Shape := ⟨5, ![3, 3, 3, 96, 96]⟩
abbrev S3x9x96x96 : Shape := ⟨4, ![3, 9, 96, 96]⟩
abbrev S1x96x3x1 : Shape := ⟨4, ![1, 96, 3, 1]⟩
abbrev S96x3 : Shape := ⟨2, ![96, 3]⟩
abbrev S3x96 : Shape := ⟨2, ![3, 96]⟩
abbrev S3x1x96x1 : Shape := ⟨4, ![3, 1, 96, 1]⟩
abbrev S3x9x96x32 : Shape := ⟨4, ![3, 9, 96, 32]⟩
abbrev S3x9x96x256 : Shape := ⟨4, ![3, 9, 96, 256]⟩
abbrev S3x1x96 : Shape := ⟨3, ![3, 1, 96]⟩
abbrev S3x8x96 : Shape := ⟨3, ![3, 8, 96]⟩
abbrev S1x9x96x256 : Shape := ⟨4, ![1, 9, 96, 256]⟩
abbrev S9x96x256 : Shape := ⟨3, ![9, 96, 256]⟩
abbrev S1x8x96 : Shape := ⟨3, ![1, 8, 96]⟩
abbrev S7168x256 : Shape := ⟨2, ![7168, 256]⟩
abbrev S1x96x256 : Shape := ⟨3, ![1, 96, 256]⟩
abbrev S96x256 : Shape := ⟨2, ![96, 256]⟩
abbrev S96x32x224 : Shape := ⟨3, ![96, 32, 224]⟩

abbrev nBuf : Space → Nat
  | .hbm => 413
  | .vmem => 40
  | .smem => 0
  | _ => 0

abbrev hbmTy0_0 (i : Nat) : BufTy := match i % 128 with
  | 0 => ⟨S1x96x224x224, .f32⟩
  | 1 => ⟨S1x1x224x224, .f32⟩
  | 2 => ⟨S1x96x4x2, .f32⟩
  | 3 => ⟨S96x96x3x3, .f32⟩
  | 4 => ⟨S96, .f32⟩
  | 5 => ⟨S96x96x3x3, .f32⟩
  | 6 => ⟨S96, .f32⟩
  | 7 => ⟨S96x96x3x3, .f32⟩
  | 8 => ⟨S96, .f32⟩
  | 9 => ⟨S96x96x3x3, .f32⟩
  | 10 => ⟨S96, .f32⟩
  | 11 => ⟨S96x384x1x1, .f32⟩
  | 12 => ⟨S96, .f32⟩
  | 13 => ⟨S_, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S1, .i32⟩
  | 22 => ⟨S2, .i32⟩
  | 23 => ⟨S_, .f32⟩
  | 24 => ⟨S_, .f32⟩
  | 25 => ⟨S_, .f32⟩
  | 26 => ⟨S_, .f32⟩
  | 27 => ⟨S1x1x1x1, .f32⟩
  | 28 => ⟨S1x1x1x1, .f32⟩
  | 29 => ⟨S1, .i32⟩
  | 30 => ⟨S_, .i32⟩
  | 31 => ⟨S1, .i32⟩
  | 32 => ⟨S_, .i32⟩
  | 33 => ⟨S1x96x4x2, .i64⟩
  | 34 => ⟨S1x96x4x2, .i64⟩
  | 35 => ⟨S1x96x4x2, .i64⟩
  | 36 => ⟨S1x96x4x2, .i64⟩
  | 37 => ⟨S_, .i64⟩
  | 38 => ⟨S1x96x4x2, .i64⟩
  | 39 => ⟨S1x96x4x2, .i64⟩
  | 40 => ⟨S_, .i64⟩
  | 41 => ⟨S1x96x4x2, .i64⟩
  | 42 => ⟨S1x96x4x2, .i64⟩
  | 43 => ⟨S_, .i64⟩
  | 44 => ⟨S1x96x4x2, .i64⟩
  | 45 => ⟨S1x96x4x2, .i64⟩
  | 46 => ⟨S_, .i64⟩
  | 47 => ⟨S1x96x4x2, .i64⟩
  | 48 => ⟨S1x96x4x2, .i64⟩
  | 49 => ⟨S1x96x4x2, .i64⟩
  | 50 => ⟨S1x96x4x2, .i64⟩
  | 51 => ⟨S1x96x4x2, .i64⟩
  | 52 => ⟨S_, .i64⟩
  | 53 => ⟨S1x96x4x2, .i64⟩
  | 54 => ⟨S1x96x4x2, .i64⟩
  | 55 => ⟨S1x96x4x2, .i32⟩
  | 56 => ⟨S1x96x4x2, .i32⟩
  | 57 => ⟨S_, .i32⟩
  | 58 => ⟨S_, .i32⟩
  | 59 => ⟨S_, .i32⟩
  | 60 => ⟨S1x96x4x2, .i32⟩
  | 61 => ⟨S1x96x4x2, .i32⟩
  | 62 => ⟨S1x96x4x2, .i32⟩
  | 63 => ⟨S1x96x4x2, .i32⟩
  | 64 => ⟨S1x96x4x2, .i32⟩
  | 65 => ⟨S_, .i32⟩
  | 66 => ⟨S1x96x4x2, .i32⟩
  | 67 => ⟨S1x96x4x2, .i32⟩
  | 68 => ⟨S_, .i32⟩
  | 69 => ⟨S1x96x4x2, .i32⟩
  | 70 => ⟨S1x96x4x2, .i32⟩
  | 71 => ⟨S1x96x4x2, .i32⟩
  | 72 => ⟨S1x96x4x2, .i32⟩
  | 73 => ⟨S1x96x4x2, .i32⟩
  | 74 => ⟨S_, .i32⟩
  | 75 => ⟨S1x96x4x2, .i32⟩
  | 76 => ⟨S1x96x4x2, .i32⟩
  | 77 => ⟨S_, .i32⟩
  | 78 => ⟨S1x96x4x2, .i32⟩
  | 79 => ⟨S1x96x4x2, .i32⟩
  | 80 => ⟨S1x96x4x2, .i32⟩
  | 81 => ⟨S1x96x4x2, .i32⟩
  | 82 => ⟨S1x96x4x2, .i32⟩
  | 83 => ⟨S_, .i32⟩
  | 84 => ⟨S1x96x4x2, .i32⟩
  | 85 => ⟨S1x96x4x2, .i32⟩
  | 86 => ⟨S_, .i32⟩
  | 87 => ⟨S1x96x4x2, .i32⟩
  | 88 => ⟨S1x96x4x2, .i32⟩
  | 89 => ⟨S1x96x4x2, .i32⟩
  | 90 => ⟨S1x96x4x2, .i32⟩
  | 91 => ⟨S1x96x4x2, .i32⟩
  | 92 => ⟨S_, .i32⟩
  | 93 => ⟨S1x96x4x2, .i32⟩
  | 94 => ⟨S1x96x4x2, .i32⟩
  | 95 => ⟨S_, .i32⟩
  | 96 => ⟨S1x96x4x2, .i32⟩
  | 97 => ⟨S1x96x4x2, .i32⟩
  | 98 => ⟨S1x96x4x2, .i32⟩
  | 99 => ⟨S1x96x4x2, .i32⟩
  | 100 => ⟨S1x96x4x2, .i32⟩
  | 101 => ⟨S1x96x4x2, .i32⟩
  | 102 => ⟨S1x96x4x2, .i32⟩
  | 103 => ⟨S1x96x4x2, .i32⟩
  | 104 => ⟨S_, .i32⟩
  | 105 => ⟨S1x96x4x2, .i32⟩
  | 106 => ⟨S1x96x4x2, .i32⟩
  | 107 => ⟨S1x96x4x2, .i32⟩
  | 108 => ⟨S_, .i32⟩
  | 109 => ⟨S1x96x4x2, .i32⟩
  | 110 => ⟨S1x96x4x2, .i32⟩
  | 111 => ⟨S_, .i32⟩
  | 112 => ⟨S1x96x4x2, .i32⟩
  | 113 => ⟨S1x96x4x2, .i32⟩
  | 114 => ⟨S1x96x4x2, .i32⟩
  | 115 => ⟨S1x96x4x2, .i32⟩
  | 116 => ⟨S1x96x4x2, .i32⟩
  | 117 => ⟨S_, .i32⟩
  | 118 => ⟨S1x96x4x2, .i32⟩
  | 119 => ⟨S1x96x4x2, .i32⟩
  | 120 => ⟨S_, .i32⟩
  | 121 => ⟨S1x96x4x2, .i32⟩
  | 122 => ⟨S1x96x4x2, .i32⟩
  | 123 => ⟨S1x96x4x2, .i32⟩
  | 124 => ⟨S1x96x4x2, .i32⟩
  | 125 => ⟨S1x96x4x2, .i32⟩
  | 126 => ⟨S_, .i32⟩
  | 127 => ⟨S1x96x4x2, .i32⟩
  | _ => ⟨S1x96x224x224, .f32⟩

abbrev hbmTy0_1 (i : Nat) : BufTy := match i % 128 with
  | 0 => ⟨S1x96x4x2, .i32⟩
  | 1 => ⟨S_, .i32⟩
  | 2 => ⟨S1x96x4x2, .i32⟩
  | 3 => ⟨S1x96x4x2, .i32⟩
  | 4 => ⟨S1x96x4x2, .i32⟩
  | 5 => ⟨S1x96x4x2, .i32⟩
  | 6 => ⟨S1x96x4x2, .i32⟩
  | 7 => ⟨S_, .i32⟩
  | 8 => ⟨S1x96x4x2, .i32⟩
  | 9 => ⟨S1x96x4x2, .i32⟩
  | 10 => ⟨S_, .i32⟩
  | 11 => ⟨S1x96x4x2, .i32⟩
  | 12 => ⟨S1x96x4x2, .i32⟩
  | 13 => ⟨S1x96x4x2, .i32⟩
  | 14 => ⟨S1x96x4x2, .i32⟩
  | 15 => ⟨S1x96x4x2, .i32⟩
  | 16 => ⟨S1x96x4x2, .i32⟩
  | 17 => ⟨S1x96x4x2, .i32⟩
  | 18 => ⟨S1x96x4x2, .i32⟩
  | 19 => ⟨S_, .i32⟩
  | 20 => ⟨S1x96x4x2, .i32⟩
  | 21 => ⟨S1x96x4x2, .i32⟩
  | 22 => ⟨S1x96x4x2, .i32⟩
  | 23 => ⟨S_, .i32⟩
  | 24 => ⟨S1x96x4x2, .i32⟩
  | 25 => ⟨S1x96x4x2, .i32⟩
  | 26 => ⟨S_, .i32⟩
  | 27 => ⟨S1x96x4x2, .i32⟩
  | 28 => ⟨S1x96x4x2, .i32⟩
  | 29 => ⟨S1x96x4x2, .i32⟩
  | 30 => ⟨S1x96x4x2, .i32⟩
  | 31 => ⟨S1x96x4x2, .i32⟩
  | 32 => ⟨S_, .i32⟩
  | 33 => ⟨S1x96x4x2, .i32⟩
  | 34 => ⟨S1x96x4x2, .i32⟩
  | 35 => ⟨S_, .i32⟩
  | 36 => ⟨S1x96x4x2, .i32⟩
  | 37 => ⟨S1x96x4x2, .i32⟩
  | 38 => ⟨S1x96x4x2, .i32⟩
  | 39 => ⟨S1x96x4x2, .i32⟩
  | 40 => ⟨S1x96x4x2, .i32⟩
  | 41 => ⟨S_, .i32⟩
  | 42 => ⟨S1x96x4x2, .i32⟩
  | 43 => ⟨S1x96x4x2, .i32⟩
  | 44 => ⟨S_, .i32⟩
  | 45 => ⟨S1x96x4x2, .i32⟩
  | 46 => ⟨S1x96x4x2, .i32⟩
  | 47 => ⟨S1x96x4x2, .i32⟩
  | 48 => ⟨S1x96x4x2, .i32⟩
  | 49 => ⟨S1x96x4x2, .i32⟩
  | 50 => ⟨S_, .i32⟩
  | 51 => ⟨S1x96x4x2, .i32⟩
  | 52 => ⟨S1x96x4x2, .i32⟩
  | 53 => ⟨S_, .i32⟩
  | 54 => ⟨S1x96x4x2, .i32⟩
  | 55 => ⟨S1x96x4x2, .i32⟩
  | 56 => ⟨S1x96x4x2, .i32⟩
  | 57 => ⟨S1x96x4x2, .i32⟩
  | 58 => ⟨S1x96x4x2, .i32⟩
  | 59 => ⟨S1x96x4x2, .i32⟩
  | 60 => ⟨S1x96x4x2, .i32⟩
  | 61 => ⟨S1x96x4x2, .i32⟩
  | 62 => ⟨S_, .i32⟩
  | 63 => ⟨S1x96x4x2, .i32⟩
  | 64 => ⟨S1x96x4x2, .i32⟩
  | 65 => ⟨S1x96x4x2, .i32⟩
  | 66 => ⟨S_, .i32⟩
  | 67 => ⟨S1x96x4x2, .i32⟩
  | 68 => ⟨S1x96x4x2, .i32⟩
  | 69 => ⟨S_, .i32⟩
  | 70 => ⟨S1x96x4x2, .i32⟩
  | 71 => ⟨S1x96x4x2, .i32⟩
  | 72 => ⟨S1x96x4x2, .i32⟩
  | 73 => ⟨S1x96x4x2, .i32⟩
  | 74 => ⟨S1x96x4x2, .i32⟩
  | 75 => ⟨S_, .i32⟩
  | 76 => ⟨S1x96x4x2, .i32⟩
  | 77 => ⟨S1x96x4x2, .i32⟩
  | 78 => ⟨S_, .i32⟩
  | 79 => ⟨S1x96x4x2, .i32⟩
  | 80 => ⟨S1x96x4x2, .i32⟩
  | 81 => ⟨S1x96x4x2, .i32⟩
  | 82 => ⟨S1x96x4x2, .i32⟩
  | 83 => ⟨S1x96x4x2, .i32⟩
  | 84 => ⟨S_, .i32⟩
  | 85 => ⟨S1x96x4x2, .i32⟩
  | 86 => ⟨S1x96x4x2, .i32⟩
  | 87 => ⟨S_, .i32⟩
  | 88 => ⟨S1x96x4x2, .i32⟩
  | 89 => ⟨S1x96x4x2, .i32⟩
  | 90 => ⟨S1x96x4x2, .i32⟩
  | 91 => ⟨S1x96x4x2, .i32⟩
  | 92 => ⟨S1x96x4x2, .i32⟩
  | 93 => ⟨S_, .i32⟩
  | 94 => ⟨S1x96x4x2, .i32⟩
  | 95 => ⟨S1x96x4x2, .i32⟩
  | 96 => ⟨S_, .i32⟩
  | 97 => ⟨S1x96x4x2, .i32⟩
  | 98 => ⟨S1x96x4x2, .i32⟩
  | 99 => ⟨S1x96x4x2, .i32⟩
  | 100 => ⟨S1x96x4x2, .i32⟩
  | 101 => ⟨S1x96x4x2, .i32⟩
  | 102 => ⟨S1x96x4x2, .i32⟩
  | 103 => ⟨S1x96x4x2, .i32⟩
  | 104 => ⟨S1x96x4x2, .i32⟩
  | 105 => ⟨S_, .i32⟩
  | 106 => ⟨S1x96x4x2, .i32⟩
  | 107 => ⟨S1x96x4x2, .i32⟩
  | 108 => ⟨S1x96x4x2, .i32⟩
  | 109 => ⟨S_, .i32⟩
  | 110 => ⟨S1x96x4x2, .i32⟩
  | 111 => ⟨S1x96x4x2, .i32⟩
  | 112 => ⟨S_, .i32⟩
  | 113 => ⟨S1x96x4x2, .i32⟩
  | 114 => ⟨S1x96x4x2, .i32⟩
  | 115 => ⟨S1x96x4x2, .i32⟩
  | 116 => ⟨S1x96x4x2, .i32⟩
  | 117 => ⟨S1x96x4x2, .i32⟩
  | 118 => ⟨S_, .i32⟩
  | 119 => ⟨S1x96x4x2, .i32⟩
  | 120 => ⟨S1x96x4x2, .i32⟩
  | 121 => ⟨S_, .i32⟩
  | 122 => ⟨S1x96x4x2, .i32⟩
  | 123 => ⟨S1x96x4x2, .i32⟩
  | 124 => ⟨S1x96x4x2, .i32⟩
  | 125 => ⟨S1x96x4x2, .i32⟩
  | 126 => ⟨S1x96x4x2, .i32⟩
  | 127 => ⟨S_, .i32⟩
  | _ => ⟨S1x96x224x224, .f32⟩

abbrev hbmTy0_2 (i : Nat) : BufTy := match i % 128 with
  | 0 => ⟨S1x96x4x2, .i32⟩
  | 1 => ⟨S1x96x4x2, .i32⟩
  | 2 => ⟨S_, .i32⟩
  | 3 => ⟨S1x96x4x2, .i32⟩
  | 4 => ⟨S1x96x4x2, .i32⟩
  | 5 => ⟨S1x96x4x2, .i32⟩
  | 6 => ⟨S1x96x4x2, .i32⟩
  | 7 => ⟨S1x96x4x2, .i32⟩
  | 8 => ⟨S_, .i32⟩
  | 9 => ⟨S1x96x4x2, .i32⟩
  | 10 => ⟨S1x96x4x2, .i32⟩
  | 11 => ⟨S_, .i32⟩
  | 12 => ⟨S1x96x4x2, .i32⟩
  | 13 => ⟨S1x96x4x2, .i32⟩
  | 14 => ⟨S1x96x4x2, .i32⟩
  | 15 => ⟨S1x96x4x2, .i32⟩
  | 16 => ⟨S1x96x4x2, .i32⟩
  | 17 => ⟨S1x96x4x2, .i32⟩
  | 18 => ⟨S1x96x4x2, .i32⟩
  | 19 => ⟨S1x96x4x2, .i32⟩
  | 20 => ⟨S_, .i32⟩
  | 21 => ⟨S1x96x4x2, .i32⟩
  | 22 => ⟨S1x96x4x2, .i32⟩
  | 23 => ⟨S1x96x4x2, .i32⟩
  | 24 => ⟨S_, .i32⟩
  | 25 => ⟨S1x96x4x2, .i32⟩
  | 26 => ⟨S1x96x4x2, .i32⟩
  | 27 => ⟨S_, .i32⟩
  | 28 => ⟨S1x96x4x2, .i32⟩
  | 29 => ⟨S1x96x4x2, .i32⟩
  | 30 => ⟨S1x96x4x2, .f32⟩
  | 31 => ⟨S_, .f32⟩
  | 32 => ⟨S1x96x4x2, .f32⟩
  | 33 => ⟨S1x96x4x2, .f32⟩
  | 34 => ⟨S1x1x1x1, .f32⟩
  | 35 => ⟨S1x96x4x2, .f32⟩
  | 36 => ⟨S1x96x4x2, .f32⟩
  | 37 => ⟨S1x96x4x2, .f32⟩
  | 38 => ⟨S1x96x4x2, .f32⟩
  | 39 => ⟨S1x96x4x2, .f32⟩
  | 40 => ⟨S1x96x4x2, .f32⟩
  | 41 => ⟨S1x96x4x2, .f32⟩
  | 42 => ⟨S1x96x4x2, .f32⟩
  | 43 => ⟨S1x96x4x2, .f32⟩
  | 44 => ⟨S1x96x4x2, .f32⟩
  | 45 => ⟨S1x96x4x2, .f32⟩
  | 46 => ⟨S_, .f32⟩
  | 47 => ⟨S1x96x4x2, .f32⟩
  | 48 => ⟨S1x96x4x2, .f32⟩
  | 49 => ⟨S_, .f32⟩
  | 50 => ⟨S1x96x4, .f32⟩
  | 51 => ⟨S_, .f32⟩
  | 52 => ⟨S1x96x4, .f32⟩
  | 53 => ⟨S1x96x4, .f32⟩
  | 54 => ⟨S1x96x4x1, .f32⟩
  | 55 => ⟨S1x96x4x2, .f32⟩
  | 56 => ⟨S1x96x4x2, .f32⟩
  | 57 => ⟨S1x96x4x2, .f32⟩
  | 58 => ⟨S_, .f32⟩
  | 59 => ⟨S1x96x4, .f32⟩
  | 60 => ⟨S1x96x4x1, .f32⟩
  | 61 => ⟨S1x96x4x2, .f32⟩
  | 62 => ⟨S1x96x4x2, .f32⟩
  | 63 => ⟨S224x224, .f32⟩
  | 64 => ⟨S224x224, .bf16⟩
  | 65 => ⟨S96x224x224, .f32⟩
  | 66 => ⟨S3x3x96x96, .f32⟩
  | 67 => ⟨S9x96x96, .f32⟩
  | 68 => ⟨S9x96x96, .bf16⟩
  | 69 => ⟨S1x96x1x1, .f32⟩
  | 70 => ⟨S96, .f32⟩
  | 71 => ⟨S1x96x1x1, .f32⟩
  | 72 => ⟨S96, .f32⟩
  | 73 => ⟨S_, .f32⟩
  | 74 => ⟨S96, .f32⟩
  | 75 => ⟨S1x96, .f32⟩
  | 76 => ⟨S1x96, .f32⟩
  | 77 => ⟨S1x96, .f32⟩
  | 78 => ⟨S1x96, .f32⟩
  | 79 => ⟨S1x96, .f32⟩
  | 80 => ⟨S1x96, .f32⟩
  | 81 => ⟨S1x96, .f32⟩
  | 82 => ⟨S1x96, .f32⟩
  | 83 => ⟨S8x96, .f32⟩
  | 84 => ⟨S224x224x96, .bf16⟩
  | 85 => ⟨S96x4x96, .f32⟩
  | 86 => ⟨S4x96x96, .f32⟩
  | 87 => ⟨S4x96x96, .bf16⟩
  | 88 => ⟨S_, .f32⟩
  | 89 => ⟨S96, .f32⟩
  | 90 => ⟨S1x96, .f32⟩
  | 91 => ⟨S1x96, .f32⟩
  | 92 => ⟨S1x96, .f32⟩
  | 93 => ⟨S1x96, .f32⟩
  | 94 => ⟨S1x96, .f32⟩
  | 95 => ⟨S1x96, .f32⟩
  | 96 => ⟨S1x96, .f32⟩
  | 97 => ⟨S1x96, .f32⟩
  | 98 => ⟨S8x96, .f32⟩
  | 99 => ⟨S1x96x96x3x3, .f32⟩
  | 100 => ⟨S1x96x96x3x3, .f32⟩
  | 101 => ⟨S1x96x96x3x3, .f32⟩
  | 102 => ⟨S3x96x96x3x3, .f32⟩
  | 103 => ⟨S3x3x3x96x96, .f32⟩
  | 104 => ⟨S3x9x96x96, .f32⟩
  | 105 => ⟨S1x96x3x1, .f32⟩
  | 106 => ⟨S96x3, .f32⟩
  | 107 => ⟨S3x96, .f32⟩
  | 108 => ⟨S3x1x96x1, .f32⟩
  | 109 => ⟨S3x9x96x96, .f32⟩
  | 110 => ⟨S3x9x96x96, .f32⟩
  | 111 => ⟨S_, .f32⟩
  | 112 => ⟨S3x9x96x32, .f32⟩
  | 113 => ⟨S3x9x96x256, .f32⟩
  | 114 => ⟨S3x9x96x256, .bf16⟩
  | 115 => ⟨S1x96x3x1, .f32⟩
  | 116 => ⟨S96x3, .f32⟩
  | 117 => ⟨S3x96, .f32⟩
  | 118 => ⟨S1x96x3x1, .f32⟩
  | 119 => ⟨S96x3, .f32⟩
  | 120 => ⟨S3x96, .f32⟩
  | 121 => ⟨S1x96, .f32⟩
  | 122 => ⟨S1x96, .f32⟩
  | 123 => ⟨S1x96, .f32⟩
  | 124 => ⟨S3x96, .f32⟩
  | 125 => ⟨S3x96, .f32⟩
  | 126 => ⟨S_, .f32⟩
  | 127 => ⟨S3x96, .f32⟩
  | _ => ⟨S1x96x224x224, .f32⟩

abbrev hbmTy0_3 (i : Nat) : BufTy := match i % 128 with
  | 0 => ⟨S3x96, .f32⟩
  | 1 => ⟨S3x96, .f32⟩
  | 2 => ⟨S_, .f32⟩
  | 3 => ⟨S3x96, .f32⟩
  | 4 => ⟨S3x1x96, .f32⟩
  | 5 => ⟨S3x1x96, .f32⟩
  | 6 => ⟨S3x1x96, .f32⟩
  | 7 => ⟨S3x1x96, .f32⟩
  | 8 => ⟨S3x1x96, .f32⟩
  | 9 => ⟨S3x1x96, .f32⟩
  | 10 => ⟨S3x1x96, .f32⟩
  | 11 => ⟨S3x1x96, .f32⟩
  | 12 => ⟨S3x8x96, .f32⟩
  | 13 => ⟨S1x9x96x256, .bf16⟩
  | 14 => ⟨S9x96x256, .bf16⟩
  | 15 => ⟨S1x8x96, .f32⟩
  | 16 => ⟨S8x96, .f32⟩
  | 17 => ⟨S224x224x96, .bf16⟩
  | 18 => ⟨S1x9x96x256, .bf16⟩
  | 19 => ⟨S9x96x256, .bf16⟩
  | 20 => ⟨S1x8x96, .f32⟩
  | 21 => ⟨S8x96, .f32⟩
  | 22 => ⟨S224x224x96, .bf16⟩
  | 23 => ⟨S1x9x96x256, .bf16⟩
  | 24 => ⟨S9x96x256, .bf16⟩
  | 25 => ⟨S1x8x96, .f32⟩
  | 26 => ⟨S8x96, .f32⟩
  | 27 => ⟨S96x224x224, .f32⟩
  | 28 => ⟨S1x96x224x224, .f32⟩
  | _ => ⟨S1x96x224x224, .f32⟩

abbrev hbmTy (i : Nat) : BufTy := match i / 128 with
  | 0 => hbmTy0_0 i
  | 1 => hbmTy0_1 i
  | 2 => hbmTy0_2 i
  | 3 => hbmTy0_3 i
  | _ => ⟨S1x96x224x224, .f32⟩

abbrev bufTy : (tb : Table) → Fin (tcTables nBuf tb) → BufTy
  | .hbm, ⟨i, _⟩ => hbmTy i
  | .local _ .vmem, ⟨0, _⟩ => ⟨S96x224x224, .f32⟩
  | .local _ .vmem, ⟨1, _⟩ => ⟨S32x224, .bf16⟩
  | .local _ .vmem, ⟨2, _⟩ => ⟨S32x224, .bf16⟩
  | .local _ .vmem, ⟨3, _⟩ => ⟨S9x96x96, .bf16⟩
  | .local _ .vmem, ⟨4, _⟩ => ⟨S8x96, .f32⟩
  | .local _ .vmem, ⟨5, _⟩ => ⟨S32x224x96, .bf16⟩
  | .local _ .vmem, ⟨6, _⟩ => ⟨S32x224x96, .bf16⟩
  | .local _ .vmem, ⟨7, _⟩ => ⟨S3x34x224x96, .bf16⟩
  | .local _ .vmem, ⟨8, _⟩ => ⟨S224x224x96, .bf16⟩
  | .local _ .vmem, ⟨9, _⟩ => ⟨S32x224, .bf16⟩
  | .local _ .vmem, ⟨10, _⟩ => ⟨S32x224, .bf16⟩
  | .local _ .vmem, ⟨11, _⟩ => ⟨S9x96x256, .bf16⟩
  | .local _ .vmem, ⟨12, _⟩ => ⟨S8x96, .f32⟩
  | .local _ .vmem, ⟨13, _⟩ => ⟨S32x224x96, .bf16⟩
  | .local _ .vmem, ⟨14, _⟩ => ⟨S32x224x96, .bf16⟩
  | .local _ .vmem, ⟨15, _⟩ => ⟨S3x34x224x96, .bf16⟩
  | .local _ .vmem, ⟨16, _⟩ => ⟨S224x224x96, .bf16⟩
  | .local _ .vmem, ⟨17, _⟩ => ⟨S32x224, .bf16⟩
  | .local _ .vmem, ⟨18, _⟩ => ⟨S32x224, .bf16⟩
  | .local _ .vmem, ⟨19, _⟩ => ⟨S9x96x256, .bf16⟩
  | .local _ .vmem, ⟨20, _⟩ => ⟨S8x96, .f32⟩
  | .local _ .vmem, ⟨21, _⟩ => ⟨S32x224x96, .bf16⟩
  | .local _ .vmem, ⟨22, _⟩ => ⟨S32x224x96, .bf16⟩
  | .local _ .vmem, ⟨23, _⟩ => ⟨S3x34x224x96, .bf16⟩
  | .local _ .vmem, ⟨24, _⟩ => ⟨S224x224x96, .bf16⟩
  | .local _ .vmem, ⟨25, _⟩ => ⟨S32x224, .bf16⟩
  | .local _ .vmem, ⟨26, _⟩ => ⟨S32x224, .bf16⟩
  | .local _ .vmem, ⟨27, _⟩ => ⟨S9x96x256, .bf16⟩
  | .local _ .vmem, ⟨28, _⟩ => ⟨S8x96, .f32⟩
  | .local _ .vmem, ⟨29, _⟩ => ⟨S32x224x96, .bf16⟩
  | .local _ .vmem, ⟨30, _⟩ => ⟨S32x224x96, .bf16⟩
  | .local _ .vmem, ⟨31, _⟩ => ⟨S32x224x96, .bf16⟩
  | .local _ .vmem, ⟨32, _⟩ => ⟨S32x224x96, .bf16⟩
  | .local _ .vmem, ⟨33, _⟩ => ⟨S32x224x96, .bf16⟩
  | .local _ .vmem, ⟨34, _⟩ => ⟨S32x224x96, .bf16⟩
  | .local _ .vmem, ⟨35, _⟩ => ⟨S4x96x96, .bf16⟩
  | .local _ .vmem, ⟨36, _⟩ => ⟨S8x96, .f32⟩
  | .local _ .vmem, ⟨37, _⟩ => ⟨S96x32x224, .f32⟩
  | .local _ .vmem, ⟨38, _⟩ => ⟨S96x32x224, .f32⟩
  | .local _ .vmem, ⟨39, _⟩ => ⟨S3x34x224x96, .bf16⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c : Ref sig .tc := ⟨.hbm, 37, rfl⟩
abbrev main_call0_v12 : Ref sig .tc := ⟨.hbm, 38, rfl⟩
abbrev main_call0_v13 : Ref sig .tc := ⟨.hbm, 39, rfl⟩
abbrev main_call0_c_0 : Ref sig .tc := ⟨.hbm, 40, rfl⟩
abbrev main_call0_v14 : Ref sig .tc := ⟨.hbm, 41, rfl⟩
abbrev main_call0_v15 : Ref sig .tc := ⟨.hbm, 42, rfl⟩
abbrev main_call0_c_1 : Ref sig .tc := ⟨.hbm, 43, rfl⟩
abbrev main_call0_v16 : Ref sig .tc := ⟨.hbm, 44, rfl⟩
abbrev main_call0_v17 : Ref sig .tc := ⟨.hbm, 45, rfl⟩
abbrev main_call0_c_2 : Ref sig .tc := ⟨.hbm, 46, rfl⟩
abbrev main_call0_v18 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_call0_v22 : Ref sig .tc := ⟨.hbm, 51, rfl⟩
abbrev main_call0_c_3 : Ref sig .tc := ⟨.hbm, 52, rfl⟩
abbrev main_call0_v23 : Ref sig .tc := ⟨.hbm, 53, rfl⟩
abbrev main_call0_v24 : Ref sig .tc := ⟨.hbm, 54, rfl⟩
abbrev main_call0_v25 : Ref sig .tc := ⟨.hbm, 55, rfl⟩
abbrev main_call0_v26 : Ref sig .tc := ⟨.hbm, 56, rfl⟩
abbrev main_call0_call0_v0 : Ref sig .tc := ⟨.hbm, 57, rfl⟩
abbrev main_call0_call0_c : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_c_0 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_c_1 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_call0_v12 : Ref sig .tc := ⟨.hbm, 72, rfl⟩
abbrev main_call0_call0_v13 : Ref sig .tc := ⟨.hbm, 73, rfl⟩
abbrev main_call0_call0_c_2 : Ref sig .tc := ⟨.hbm, 74, rfl⟩
abbrev main_call0_call0_v14 : Ref sig .tc := ⟨.hbm, 75, rfl⟩
abbrev main_call0_call0_v15 : Ref sig .tc := ⟨.hbm, 76, rfl⟩
abbrev main_call0_call0_c_3 : Ref sig .tc := ⟨.hbm, 77, rfl⟩
abbrev main_call0_call0_v16 : Ref sig .tc := ⟨.hbm, 78, rfl⟩
abbrev main_call0_call0_v17 : Ref sig .tc := ⟨.hbm, 79, rfl⟩
abbrev main_call0_call0_v18 : Ref sig .tc := ⟨.hbm, 80, rfl⟩
abbrev main_call0_call0_v19 : Ref sig .tc := ⟨.hbm, 81, rfl⟩
abbrev main_call0_call0_v20 : Ref sig .tc := ⟨.hbm, 82, rfl⟩
abbrev main_call0_call0_c_4 : Ref sig .tc := ⟨.hbm, 83, rfl⟩
abbrev main_call0_call0_v21 : Ref sig .tc := ⟨.hbm, 84, rfl⟩
abbrev main_call0_call0_v22 : Ref sig .tc := ⟨.hbm, 85, rfl⟩
abbrev main_call0_call0_c_5 : Ref sig .tc := ⟨.hbm, 86, rfl⟩
abbrev main_call0_call0_v23 : Ref sig .tc := ⟨.hbm, 87, rfl⟩
abbrev main_call0_call0_v24 : Ref sig .tc := ⟨.hbm, 88, rfl⟩
abbrev main_call0_call0_v25 : Ref sig .tc := ⟨.hbm, 89, rfl⟩
abbrev main_call0_call0_v26 : Ref sig .tc := ⟨.hbm, 90, rfl⟩
abbrev main_call0_call0_v27 : Ref sig .tc := ⟨.hbm, 91, rfl⟩
abbrev main_call0_call0_c_6 : Ref sig .tc := ⟨.hbm, 92, rfl⟩
abbrev main_call0_call0_v28 : Ref sig .tc := ⟨.hbm, 93, rfl⟩
abbrev main_call0_call0_v29 : Ref sig .tc := ⟨.hbm, 94, rfl⟩
abbrev main_call0_call0_c_7 : Ref sig .tc := ⟨.hbm, 95, rfl⟩
abbrev main_call0_call0_v30 : Ref sig .tc := ⟨.hbm, 96, rfl⟩
abbrev main_call0_call0_v31 : Ref sig .tc := ⟨.hbm, 97, rfl⟩
abbrev main_call0_call0_v32 : Ref sig .tc := ⟨.hbm, 98, rfl⟩
abbrev main_call0_call0_v33 : Ref sig .tc := ⟨.hbm, 99, rfl⟩
abbrev main_call0_call0_v34 : Ref sig .tc := ⟨.hbm, 100, rfl⟩
abbrev main_call0_call0_v35 : Ref sig .tc := ⟨.hbm, 101, rfl⟩
abbrev main_call0_call0_v36 : Ref sig .tc := ⟨.hbm, 102, rfl⟩
abbrev main_call0_call0_v37 : Ref sig .tc := ⟨.hbm, 103, rfl⟩
abbrev main_call0_call0_c_8 : Ref sig .tc := ⟨.hbm, 104, rfl⟩
abbrev main_call0_call0_v38 : Ref sig .tc := ⟨.hbm, 105, rfl⟩
abbrev main_call0_call0_v39 : Ref sig .tc := ⟨.hbm, 106, rfl⟩
abbrev main_call0_call0_v40 : Ref sig .tc := ⟨.hbm, 107, rfl⟩
abbrev main_call0_call0_c_9 : Ref sig .tc := ⟨.hbm, 108, rfl⟩
abbrev main_call0_call0_v41 : Ref sig .tc := ⟨.hbm, 109, rfl⟩
abbrev main_call0_call0_v42 : Ref sig .tc := ⟨.hbm, 110, rfl⟩
abbrev main_call0_call0_c_10 : Ref sig .tc := ⟨.hbm, 111, rfl⟩
abbrev main_call0_call0_v43 : Ref sig .tc := ⟨.hbm, 112, rfl⟩
abbrev main_call0_call0_v44 : Ref sig .tc := ⟨.hbm, 113, rfl⟩
abbrev main_call0_call0_v45 : Ref sig .tc := ⟨.hbm, 114, rfl⟩
abbrev main_call0_call0_v46 : Ref sig .tc := ⟨.hbm, 115, rfl⟩
abbrev main_call0_call0_v47 : Ref sig .tc := ⟨.hbm, 116, rfl⟩
abbrev main_call0_call0_c_11 : Ref sig .tc := ⟨.hbm, 117, rfl⟩
abbrev main_call0_call0_v48 : Ref sig .tc := ⟨.hbm, 118, rfl⟩
abbrev main_call0_call0_v49 : Ref sig .tc := ⟨.hbm, 119, rfl⟩
abbrev main_call0_call0_c_12 : Ref sig .tc := ⟨.hbm, 120, rfl⟩
abbrev main_call0_call0_v50 : Ref sig .tc := ⟨.hbm, 121, rfl⟩
abbrev main_call0_call0_v51 : Ref sig .tc := ⟨.hbm, 122, rfl⟩
abbrev main_call0_call0_v52 : Ref sig .tc := ⟨.hbm, 123, rfl⟩
abbrev main_call0_call0_v53 : Ref sig .tc := ⟨.hbm, 124, rfl⟩
abbrev main_call0_call0_v54 : Ref sig .tc := ⟨.hbm, 125, rfl⟩
abbrev main_call0_call0_c_13 : Ref sig .tc := ⟨.hbm, 126, rfl⟩
abbrev main_call0_call0_v55 : Ref sig .tc := ⟨.hbm, 127, rfl⟩
abbrev main_call0_call0_v56 : Ref sig .tc := ⟨.hbm, 128, rfl⟩
abbrev main_call0_call0_c_14 : Ref sig .tc := ⟨.hbm, 129, rfl⟩
abbrev main_call0_call0_v57 : Ref sig .tc := ⟨.hbm, 130, rfl⟩
abbrev main_call0_call0_v58 : Ref sig .tc := ⟨.hbm, 131, rfl⟩
abbrev main_call0_call0_v59 : Ref sig .tc := ⟨.hbm, 132, rfl⟩
abbrev main_call0_call0_v60 : Ref sig .tc := ⟨.hbm, 133, rfl⟩
abbrev main_call0_call0_v61 : Ref sig .tc := ⟨.hbm, 134, rfl⟩
abbrev main_call0_call0_c_15 : Ref sig .tc := ⟨.hbm, 135, rfl⟩
abbrev main_call0_call0_v62 : Ref sig .tc := ⟨.hbm, 136, rfl⟩
abbrev main_call0_call0_v63 : Ref sig .tc := ⟨.hbm, 137, rfl⟩
abbrev main_call0_call0_c_16 : Ref sig .tc := ⟨.hbm, 138, rfl⟩
abbrev main_call0_call0_v64 : Ref sig .tc := ⟨.hbm, 139, rfl⟩
abbrev main_call0_call0_v65 : Ref sig .tc := ⟨.hbm, 140, rfl⟩
abbrev main_call0_call0_v66 : Ref sig .tc := ⟨.hbm, 141, rfl⟩
abbrev main_call0_call0_v67 : Ref sig .tc := ⟨.hbm, 142, rfl⟩
abbrev main_call0_call0_v68 : Ref sig .tc := ⟨.hbm, 143, rfl⟩
abbrev main_call0_call0_v69 : Ref sig .tc := ⟨.hbm, 144, rfl⟩
abbrev main_call0_call0_v70 : Ref sig .tc := ⟨.hbm, 145, rfl⟩
abbrev main_call0_call0_v71 : Ref sig .tc := ⟨.hbm, 146, rfl⟩
abbrev main_call0_call0_c_17 : Ref sig .tc := ⟨.hbm, 147, rfl⟩
abbrev main_call0_call0_v72 : Ref sig .tc := ⟨.hbm, 148, rfl⟩
abbrev main_call0_call0_v73 : Ref sig .tc := ⟨.hbm, 149, rfl⟩
abbrev main_call0_call0_v74 : Ref sig .tc := ⟨.hbm, 150, rfl⟩
abbrev main_call0_call0_c_18 : Ref sig .tc := ⟨.hbm, 151, rfl⟩
abbrev main_call0_call0_v75 : Ref sig .tc := ⟨.hbm, 152, rfl⟩
abbrev main_call0_call0_v76 : Ref sig .tc := ⟨.hbm, 153, rfl⟩
abbrev main_call0_call0_c_19 : Ref sig .tc := ⟨.hbm, 154, rfl⟩
abbrev main_call0_call0_v77 : Ref sig .tc := ⟨.hbm, 155, rfl⟩
abbrev main_call0_call0_v78 : Ref sig .tc := ⟨.hbm, 156, rfl⟩
abbrev main_call0_call0_v79 : Ref sig .tc := ⟨.hbm, 157, rfl⟩
abbrev main_call0_call0_v80 : Ref sig .tc := ⟨.hbm, 158, rfl⟩
abbrev main_call0_call0_v81 : Ref sig .tc := ⟨.hbm, 159, rfl⟩
abbrev main_call0_call0_c_20 : Ref sig .tc := ⟨.hbm, 160, rfl⟩
abbrev main_call0_call0_v82 : Ref sig .tc := ⟨.hbm, 161, rfl⟩
abbrev main_call0_call0_v83 : Ref sig .tc := ⟨.hbm, 162, rfl⟩
abbrev main_call0_call0_c_21 : Ref sig .tc := ⟨.hbm, 163, rfl⟩
abbrev main_call0_call0_v84 : Ref sig .tc := ⟨.hbm, 164, rfl⟩
abbrev main_call0_call0_v85 : Ref sig .tc := ⟨.hbm, 165, rfl⟩
abbrev main_call0_call0_v86 : Ref sig .tc := ⟨.hbm, 166, rfl⟩
abbrev main_call0_call0_v87 : Ref sig .tc := ⟨.hbm, 167, rfl⟩
abbrev main_call0_call0_v88 : Ref sig .tc := ⟨.hbm, 168, rfl⟩
abbrev main_call0_call0_c_22 : Ref sig .tc := ⟨.hbm, 169, rfl⟩
abbrev main_call0_call0_v89 : Ref sig .tc := ⟨.hbm, 170, rfl⟩
abbrev main_call0_call0_v90 : Ref sig .tc := ⟨.hbm, 171, rfl⟩
abbrev main_call0_call0_c_23 : Ref sig .tc := ⟨.hbm, 172, rfl⟩
abbrev main_call0_call0_v91 : Ref sig .tc := ⟨.hbm, 173, rfl⟩
abbrev main_call0_call0_v92 : Ref sig .tc := ⟨.hbm, 174, rfl⟩
abbrev main_call0_call0_v93 : Ref sig .tc := ⟨.hbm, 175, rfl⟩
abbrev main_call0_call0_v94 : Ref sig .tc := ⟨.hbm, 176, rfl⟩
abbrev main_call0_call0_v95 : Ref sig .tc := ⟨.hbm, 177, rfl⟩
abbrev main_call0_call0_c_24 : Ref sig .tc := ⟨.hbm, 178, rfl⟩
abbrev main_call0_call0_v96 : Ref sig .tc := ⟨.hbm, 179, rfl⟩
abbrev main_call0_call0_v97 : Ref sig .tc := ⟨.hbm, 180, rfl⟩
abbrev main_call0_call0_c_25 : Ref sig .tc := ⟨.hbm, 181, rfl⟩
abbrev main_call0_call0_v98 : Ref sig .tc := ⟨.hbm, 182, rfl⟩
abbrev main_call0_call0_v99 : Ref sig .tc := ⟨.hbm, 183, rfl⟩
abbrev main_call0_call0_v100 : Ref sig .tc := ⟨.hbm, 184, rfl⟩
abbrev main_call0_call0_v101 : Ref sig .tc := ⟨.hbm, 185, rfl⟩
abbrev main_call0_call0_v102 : Ref sig .tc := ⟨.hbm, 186, rfl⟩
abbrev main_call0_call0_v103 : Ref sig .tc := ⟨.hbm, 187, rfl⟩
abbrev main_call0_call0_v104 : Ref sig .tc := ⟨.hbm, 188, rfl⟩
abbrev main_call0_call0_v105 : Ref sig .tc := ⟨.hbm, 189, rfl⟩
abbrev main_call0_call0_c_26 : Ref sig .tc := ⟨.hbm, 190, rfl⟩
abbrev main_call0_call0_v106 : Ref sig .tc := ⟨.hbm, 191, rfl⟩
abbrev main_call0_call0_v107 : Ref sig .tc := ⟨.hbm, 192, rfl⟩
abbrev main_call0_call0_v108 : Ref sig .tc := ⟨.hbm, 193, rfl⟩
abbrev main_call0_call0_c_27 : Ref sig .tc := ⟨.hbm, 194, rfl⟩
abbrev main_call0_call0_v109 : Ref sig .tc := ⟨.hbm, 195, rfl⟩
abbrev main_call0_call0_v110 : Ref sig .tc := ⟨.hbm, 196, rfl⟩
abbrev main_call0_call0_c_28 : Ref sig .tc := ⟨.hbm, 197, rfl⟩
abbrev main_call0_call0_v111 : Ref sig .tc := ⟨.hbm, 198, rfl⟩
abbrev main_call0_call0_v112 : Ref sig .tc := ⟨.hbm, 199, rfl⟩
abbrev main_call0_call0_v113 : Ref sig .tc := ⟨.hbm, 200, rfl⟩
abbrev main_call0_call0_v114 : Ref sig .tc := ⟨.hbm, 201, rfl⟩
abbrev main_call0_call0_v115 : Ref sig .tc := ⟨.hbm, 202, rfl⟩
abbrev main_call0_call0_c_29 : Ref sig .tc := ⟨.hbm, 203, rfl⟩
abbrev main_call0_call0_v116 : Ref sig .tc := ⟨.hbm, 204, rfl⟩
abbrev main_call0_call0_v117 : Ref sig .tc := ⟨.hbm, 205, rfl⟩
abbrev main_call0_call0_c_30 : Ref sig .tc := ⟨.hbm, 206, rfl⟩
abbrev main_call0_call0_v118 : Ref sig .tc := ⟨.hbm, 207, rfl⟩
abbrev main_call0_call0_v119 : Ref sig .tc := ⟨.hbm, 208, rfl⟩
abbrev main_call0_call0_v120 : Ref sig .tc := ⟨.hbm, 209, rfl⟩
abbrev main_call0_call0_v121 : Ref sig .tc := ⟨.hbm, 210, rfl⟩
abbrev main_call0_call0_v122 : Ref sig .tc := ⟨.hbm, 211, rfl⟩
abbrev main_call0_call0_c_31 : Ref sig .tc := ⟨.hbm, 212, rfl⟩
abbrev main_call0_call0_v123 : Ref sig .tc := ⟨.hbm, 213, rfl⟩
abbrev main_call0_call0_v124 : Ref sig .tc := ⟨.hbm, 214, rfl⟩
abbrev main_call0_call0_c_32 : Ref sig .tc := ⟨.hbm, 215, rfl⟩
abbrev main_call0_call0_v125 : Ref sig .tc := ⟨.hbm, 216, rfl⟩
abbrev main_call0_call0_v126 : Ref sig .tc := ⟨.hbm, 217, rfl⟩
abbrev main_call0_call0_v127 : Ref sig .tc := ⟨.hbm, 218, rfl⟩
abbrev main_call0_call0_v128 : Ref sig .tc := ⟨.hbm, 219, rfl⟩
abbrev main_call0_call0_v129 : Ref sig .tc := ⟨.hbm, 220, rfl⟩
abbrev main_call0_call0_c_33 : Ref sig .tc := ⟨.hbm, 221, rfl⟩
abbrev main_call0_call0_v130 : Ref sig .tc := ⟨.hbm, 222, rfl⟩
abbrev main_call0_call0_v131 : Ref sig .tc := ⟨.hbm, 223, rfl⟩
abbrev main_call0_call0_c_34 : Ref sig .tc := ⟨.hbm, 224, rfl⟩
abbrev main_call0_call0_v132 : Ref sig .tc := ⟨.hbm, 225, rfl⟩
abbrev main_call0_call0_v133 : Ref sig .tc := ⟨.hbm, 226, rfl⟩
abbrev main_call0_call0_v134 : Ref sig .tc := ⟨.hbm, 227, rfl⟩
abbrev main_call0_call0_v135 : Ref sig .tc := ⟨.hbm, 228, rfl⟩
abbrev main_call0_call0_v136 : Ref sig .tc := ⟨.hbm, 229, rfl⟩
abbrev main_call0_call0_v137 : Ref sig .tc := ⟨.hbm, 230, rfl⟩
abbrev main_call0_call0_v138 : Ref sig .tc := ⟨.hbm, 231, rfl⟩
abbrev main_call0_call0_v139 : Ref sig .tc := ⟨.hbm, 232, rfl⟩
abbrev main_call0_call0_c_35 : Ref sig .tc := ⟨.hbm, 233, rfl⟩
abbrev main_call0_call0_v140 : Ref sig .tc := ⟨.hbm, 234, rfl⟩
abbrev main_call0_call0_v141 : Ref sig .tc := ⟨.hbm, 235, rfl⟩
abbrev main_call0_call0_v142 : Ref sig .tc := ⟨.hbm, 236, rfl⟩
abbrev main_call0_call0_c_36 : Ref sig .tc := ⟨.hbm, 237, rfl⟩
abbrev main_call0_call0_v143 : Ref sig .tc := ⟨.hbm, 238, rfl⟩
abbrev main_call0_call0_v144 : Ref sig .tc := ⟨.hbm, 239, rfl⟩
abbrev main_call0_call0_c_37 : Ref sig .tc := ⟨.hbm, 240, rfl⟩
abbrev main_call0_call0_v145 : Ref sig .tc := ⟨.hbm, 241, rfl⟩
abbrev main_call0_call0_v146 : Ref sig .tc := ⟨.hbm, 242, rfl⟩
abbrev main_call0_call0_v147 : Ref sig .tc := ⟨.hbm, 243, rfl⟩
abbrev main_call0_call0_v148 : Ref sig .tc := ⟨.hbm, 244, rfl⟩
abbrev main_call0_call0_v149 : Ref sig .tc := ⟨.hbm, 245, rfl⟩
abbrev main_call0_call0_c_38 : Ref sig .tc := ⟨.hbm, 246, rfl⟩
abbrev main_call0_call0_v150 : Ref sig .tc := ⟨.hbm, 247, rfl⟩
abbrev main_call0_call0_v151 : Ref sig .tc := ⟨.hbm, 248, rfl⟩
abbrev main_call0_call0_c_39 : Ref sig .tc := ⟨.hbm, 249, rfl⟩
abbrev main_call0_call0_v152 : Ref sig .tc := ⟨.hbm, 250, rfl⟩
abbrev main_call0_call0_v153 : Ref sig .tc := ⟨.hbm, 251, rfl⟩
abbrev main_call0_call0_v154 : Ref sig .tc := ⟨.hbm, 252, rfl⟩
abbrev main_call0_call0_v155 : Ref sig .tc := ⟨.hbm, 253, rfl⟩
abbrev main_call0_call0_v156 : Ref sig .tc := ⟨.hbm, 254, rfl⟩
abbrev main_call0_call0_c_40 : Ref sig .tc := ⟨.hbm, 255, rfl⟩
abbrev main_call0_call0_v157 : Ref sig .tc := ⟨.hbm, 256, rfl⟩
abbrev main_call0_call0_v158 : Ref sig .tc := ⟨.hbm, 257, rfl⟩
abbrev main_call0_call0_c_41 : Ref sig .tc := ⟨.hbm, 258, rfl⟩
abbrev main_call0_call0_v159 : Ref sig .tc := ⟨.hbm, 259, rfl⟩
abbrev main_call0_call0_v160 : Ref sig .tc := ⟨.hbm, 260, rfl⟩
abbrev main_call0_call0_v161 : Ref sig .tc := ⟨.hbm, 261, rfl⟩
abbrev main_call0_call0_v162 : Ref sig .tc := ⟨.hbm, 262, rfl⟩
abbrev main_call0_call0_v163 : Ref sig .tc := ⟨.hbm, 263, rfl⟩
abbrev main_call0_call0_c_42 : Ref sig .tc := ⟨.hbm, 264, rfl⟩
abbrev main_call0_call0_v164 : Ref sig .tc := ⟨.hbm, 265, rfl⟩
abbrev main_call0_call0_v165 : Ref sig .tc := ⟨.hbm, 266, rfl⟩
abbrev main_call0_call0_c_43 : Ref sig .tc := ⟨.hbm, 267, rfl⟩
abbrev main_call0_call0_v166 : Ref sig .tc := ⟨.hbm, 268, rfl⟩
abbrev main_call0_call0_v167 : Ref sig .tc := ⟨.hbm, 269, rfl⟩
abbrev main_call0_call0_v168 : Ref sig .tc := ⟨.hbm, 270, rfl⟩
abbrev main_call0_call0_v169 : Ref sig .tc := ⟨.hbm, 271, rfl⟩
abbrev main_call0_call0_v170 : Ref sig .tc := ⟨.hbm, 272, rfl⟩
abbrev main_call0_v27_0 : Ref sig .tc := ⟨.hbm, 273, rfl⟩
abbrev main_call0_call0_v172 : Ref sig .tc := ⟨.hbm, 274, rfl⟩
abbrev main_call0_call0_v173 : Ref sig .tc := ⟨.hbm, 275, rfl⟩
abbrev main_call0_call0_c_44 : Ref sig .tc := ⟨.hbm, 276, rfl⟩
abbrev main_call0_call0_v174 : Ref sig .tc := ⟨.hbm, 277, rfl⟩
abbrev main_call0_v27_1 : Ref sig .tc := ⟨.hbm, 278, rfl⟩
abbrev main_call0_v28 : Ref sig .tc := ⟨.hbm, 279, rfl⟩
abbrev main_call0_c_4 : Ref sig .tc := ⟨.hbm, 280, rfl⟩
abbrev main_call0_v29 : Ref sig .tc := ⟨.hbm, 281, rfl⟩
abbrev main_call0_v30 : Ref sig .tc := ⟨.hbm, 282, rfl⟩
abbrev main_call0_c_5 : Ref sig .tc := ⟨.hbm, 283, rfl⟩
abbrev main_call0_v31 : Ref sig .tc := ⟨.hbm, 284, rfl⟩
abbrev main_call0_v32 : Ref sig .tc := ⟨.hbm, 285, rfl⟩
abbrev main_call0_v33 : Ref sig .tc := ⟨.hbm, 286, rfl⟩
abbrev main_call0_cst : Ref sig .tc := ⟨.hbm, 287, rfl⟩
abbrev main_call0_v34 : Ref sig .tc := ⟨.hbm, 288, rfl⟩
abbrev main_call0_v35 : Ref sig .tc := ⟨.hbm, 289, rfl⟩
abbrev main_call0_v36 : Ref sig .tc := ⟨.hbm, 290, rfl⟩
abbrev main_call0_v37 : Ref sig .tc := ⟨.hbm, 291, rfl⟩
abbrev main_call0_v38 : Ref sig .tc := ⟨.hbm, 292, rfl⟩
abbrev main_call0_v39 : Ref sig .tc := ⟨.hbm, 293, rfl⟩
abbrev main_call0_v40 : Ref sig .tc := ⟨.hbm, 294, rfl⟩
abbrev main_call0_v41 : Ref sig .tc := ⟨.hbm, 295, rfl⟩
abbrev main_v7 : Ref sig .tc := ⟨.hbm, 296, rfl⟩
abbrev main_v8 : Ref sig .tc := ⟨.hbm, 297, rfl⟩
abbrev main_v9 : Ref sig .tc := ⟨.hbm, 298, rfl⟩
abbrev main_v10 : Ref sig .tc := ⟨.hbm, 299, rfl⟩
abbrev main_v11 : Ref sig .tc := ⟨.hbm, 300, rfl⟩
abbrev main_v12 : Ref sig .tc := ⟨.hbm, 301, rfl⟩
abbrev main_cst_3 : Ref sig .tc := ⟨.hbm, 302, rfl⟩
abbrev main_v13 : Ref sig .tc := ⟨.hbm, 303, rfl⟩
abbrev main_v14 : Ref sig .tc := ⟨.hbm, 304, rfl⟩
abbrev main_cst_4 : Ref sig .tc := ⟨.hbm, 305, rfl⟩
abbrev main_v15 : Ref sig .tc := ⟨.hbm, 306, rfl⟩
abbrev main_cst_5 : Ref sig .tc := ⟨.hbm, 307, rfl⟩
abbrev main_v16 : Ref sig .tc := ⟨.hbm, 308, rfl⟩
abbrev main_v17 : Ref sig .tc := ⟨.hbm, 309, rfl⟩
abbrev main_v18 : Ref sig .tc := ⟨.hbm, 310, rfl⟩
abbrev main_v19 : Ref sig .tc := ⟨.hbm, 311, rfl⟩
abbrev main_v20 : Ref sig .tc := ⟨.hbm, 312, rfl⟩
abbrev main_v21 : Ref sig .tc := ⟨.hbm, 313, rfl⟩
abbrev main_cst_6 : Ref sig .tc := ⟨.hbm, 314, rfl⟩
abbrev main_v22 : Ref sig .tc := ⟨.hbm, 315, rfl⟩
abbrev main_v23 : Ref sig .tc := ⟨.hbm, 316, rfl⟩
abbrev main_v24 : Ref sig .tc := ⟨.hbm, 317, rfl⟩
abbrev main_v25 : Ref sig .tc := ⟨.hbm, 318, rfl⟩
abbrev main_v26 : Ref sig .tc := ⟨.hbm, 319, rfl⟩
abbrev main_v27 : Ref sig .tc := ⟨.hbm, 320, rfl⟩
abbrev main_v28 : Ref sig .tc := ⟨.hbm, 321, rfl⟩
abbrev main_v29 : Ref sig .tc := ⟨.hbm, 322, rfl⟩
abbrev main_v30 : Ref sig .tc := ⟨.hbm, 323, rfl⟩
abbrev main_v31 : Ref sig .tc := ⟨.hbm, 324, rfl⟩
abbrev main_v32 : Ref sig .tc := ⟨.hbm, 325, rfl⟩
abbrev main_v33 : Ref sig .tc := ⟨.hbm, 326, rfl⟩
abbrev main_v34 : Ref sig .tc := ⟨.hbm, 327, rfl⟩
abbrev main_v35 : Ref sig .tc := ⟨.hbm, 328, rfl⟩
abbrev main_cst_7 : Ref sig .tc := ⟨.hbm, 329, rfl⟩
abbrev main_v36 : Ref sig .tc := ⟨.hbm, 330, rfl⟩
abbrev main_v37 : Ref sig .tc := ⟨.hbm, 331, rfl⟩
abbrev main_v38 : Ref sig .tc := ⟨.hbm, 332, rfl⟩
abbrev main_v39 : Ref sig .tc := ⟨.hbm, 333, rfl⟩
abbrev main_v40 : Ref sig .tc := ⟨.hbm, 334, rfl⟩
abbrev main_v41 : Ref sig .tc := ⟨.hbm, 335, rfl⟩
abbrev main_v42 : Ref sig .tc := ⟨.hbm, 336, rfl⟩
abbrev main_v43 : Ref sig .tc := ⟨.hbm, 337, rfl⟩
abbrev main_v44 : Ref sig .tc := ⟨.hbm, 338, rfl⟩
abbrev main_v45 : Ref sig .tc := ⟨.hbm, 339, rfl⟩
abbrev main_v46 : Ref sig .tc := ⟨.hbm, 340, rfl⟩
abbrev main_v47 : Ref sig .tc := ⟨.hbm, 341, rfl⟩
abbrev main_v48 : Ref sig .tc := ⟨.hbm, 342, rfl⟩
abbrev main_v49 : Ref sig .tc := ⟨.hbm, 343, rfl⟩
abbrev main_cst_8 : Ref sig .tc := ⟨.hbm, 344, rfl⟩
abbrev main_v50 : Ref sig .tc := ⟨.hbm, 345, rfl⟩
abbrev main_v51 : Ref sig .tc := ⟨.hbm, 346, rfl⟩
abbrev main_v52 : Ref sig .tc := ⟨.hbm, 347, rfl⟩
abbrev main_v53 : Ref sig .tc := ⟨.hbm, 348, rfl⟩
abbrev main_v54 : Ref sig .tc := ⟨.hbm, 349, rfl⟩
abbrev main_v55 : Ref sig .tc := ⟨.hbm, 350, rfl⟩
abbrev main_v56 : Ref sig .tc := ⟨.hbm, 351, rfl⟩
abbrev main_v57 : Ref sig .tc := ⟨.hbm, 352, rfl⟩
abbrev main_v58 : Ref sig .tc := ⟨.hbm, 353, rfl⟩
abbrev main_v59 : Ref sig .tc := ⟨.hbm, 354, rfl⟩
abbrev main_v60 : Ref sig .tc := ⟨.hbm, 355, rfl⟩
abbrev main_v61 : Ref sig .tc := ⟨.hbm, 356, rfl⟩
abbrev main_v62 : Ref sig .tc := ⟨.hbm, 357, rfl⟩
abbrev main_v63 : Ref sig .tc := ⟨.hbm, 358, rfl⟩
abbrev main_v64 : Ref sig .tc := ⟨.hbm, 359, rfl⟩
abbrev main_v65 : Ref sig .tc := ⟨.hbm, 360, rfl⟩
abbrev main_v66 : Ref sig .tc := ⟨.hbm, 361, rfl⟩
abbrev main_v67 : Ref sig .tc := ⟨.hbm, 362, rfl⟩
abbrev main_v68 : Ref sig .tc := ⟨.hbm, 363, rfl⟩
abbrev main_v69 : Ref sig .tc := ⟨.hbm, 364, rfl⟩
abbrev main_v70 : Ref sig .tc := ⟨.hbm, 365, rfl⟩
abbrev main_v71 : Ref sig .tc := ⟨.hbm, 366, rfl⟩
abbrev main_cst_9 : Ref sig .tc := ⟨.hbm, 367, rfl⟩
abbrev main_v72 : Ref sig .tc := ⟨.hbm, 368, rfl⟩
abbrev main_v73 : Ref sig .tc := ⟨.hbm, 369, rfl⟩
abbrev main_v74 : Ref sig .tc := ⟨.hbm, 370, rfl⟩
abbrev main_v75 : Ref sig .tc := ⟨.hbm, 371, rfl⟩
abbrev main_v76 : Ref sig .tc := ⟨.hbm, 372, rfl⟩
abbrev main_v77 : Ref sig .tc := ⟨.hbm, 373, rfl⟩
abbrev main_v78 : Ref sig .tc := ⟨.hbm, 374, rfl⟩
abbrev main_v79 : Ref sig .tc := ⟨.hbm, 375, rfl⟩
abbrev main_v80 : Ref sig .tc := ⟨.hbm, 376, rfl⟩
abbrev main_v81 : Ref sig .tc := ⟨.hbm, 377, rfl⟩
abbrev main_v82 : Ref sig .tc := ⟨.hbm, 378, rfl⟩
abbrev main_v83 : Ref sig .tc := ⟨.hbm, 379, rfl⟩
abbrev main_v84 : Ref sig .tc := ⟨.hbm, 380, rfl⟩
abbrev main_v85 : Ref sig .tc := ⟨.hbm, 381, rfl⟩
abbrev main_cst_10 : Ref sig .tc := ⟨.hbm, 382, rfl⟩
abbrev main_v86 : Ref sig .tc := ⟨.hbm, 383, rfl⟩
abbrev main_v87 : Ref sig .tc := ⟨.hbm, 384, rfl⟩
abbrev main_v88 : Ref sig .tc := ⟨.hbm, 385, rfl⟩
abbrev main_cst_11 : Ref sig .tc := ⟨.hbm, 386, rfl⟩
abbrev main_v89 : Ref sig .tc := ⟨.hbm, 387, rfl⟩
abbrev main_v90 : Ref sig .tc := ⟨.hbm, 388, rfl⟩
abbrev main_v91 : Ref sig .tc := ⟨.hbm, 389, rfl⟩
abbrev main_v92 : Ref sig .tc := ⟨.hbm, 390, rfl⟩
abbrev main_v93 : Ref sig .tc := ⟨.hbm, 391, rfl⟩
abbrev main_v94 : Ref sig .tc := ⟨.hbm, 392, rfl⟩
abbrev main_v95 : Ref sig .tc := ⟨.hbm, 393, rfl⟩
abbrev main_v96 : Ref sig .tc := ⟨.hbm, 394, rfl⟩
abbrev main_v97 : Ref sig .tc := ⟨.hbm, 395, rfl⟩
abbrev main_v98 : Ref sig .tc := ⟨.hbm, 396, rfl⟩
abbrev main_v99 : Ref sig .tc := ⟨.hbm, 397, rfl⟩
abbrev main_v100 : Ref sig .tc := ⟨.hbm, 398, rfl⟩
abbrev main_v101 : Ref sig .tc := ⟨.hbm, 399, rfl⟩
abbrev main_v102 : Ref sig .tc := ⟨.hbm, 400, rfl⟩
abbrev main_v103 : Ref sig .tc := ⟨.hbm, 401, rfl⟩
abbrev main_v104 : Ref sig .tc := ⟨.hbm, 402, rfl⟩
abbrev main_v105 : Ref sig .tc := ⟨.hbm, 403, rfl⟩
abbrev main_v106 : Ref sig .tc := ⟨.hbm, 404, rfl⟩
abbrev main_v107 : Ref sig .tc := ⟨.hbm, 405, rfl⟩
abbrev main_v108 : Ref sig .tc := ⟨.hbm, 406, rfl⟩
abbrev main_v109 : Ref sig .tc := ⟨.hbm, 407, rfl⟩
abbrev main_v110 : Ref sig .tc := ⟨.hbm, 408, rfl⟩
abbrev main_v111 : Ref sig .tc := ⟨.hbm, 409, rfl⟩
abbrev main_v112 : Ref sig .tc := ⟨.hbm, 410, rfl⟩
abbrev main_v113 : Ref sig .tc := ⟨.hbm, 411, rfl⟩
abbrev main_v114 : Ref sig .tc := ⟨.hbm, 412, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg9_1 : Ref sig .tc := ⟨.vmem, 38, rfl⟩
abbrev cc3_scratch0 : Ref sig .tc := ⟨.vmem, 39, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc3_sem7_0 : DmaSem sig := 32
abbrev cc3_sem8_0 : DmaSem sig := 33
abbrev cc3_sem9_0 : DmaSem sig := 34
abbrev cc3_sem9_1 : DmaSem sig := 35

abbrev nD : Nat := 1
abbrev τ : Topo := Topo.v7x

variable {F : FTy → Type} [FloatOps F]

abbrev grid0 : Pipeline.Grid := ⟨1, ![7], ![false]⟩

def k0_cond3 (i : grid0.Coords) : BitVec 1 :=
  let arg0 : BitVec 32 := BitVec.ofNat 32 (i 0).val
  let c0_i32_2 : BitVec 32 := 0#32
  let v7 : BitVec 1 := Scalar.cmpi .sgt arg0 c0_i32_2
  let c6_i32_3 : BitVec 32 := 6#32
  let v8 : BitVec 1 := Scalar.cmpi .slt arg0 c6_i32_3
  let v9 : BitVec 1 := Scalar.andi v7 v8
  let v10 : BitVec 32 := Scalar.extui v9
  let c0_i32_4 : BitVec 32 := 0#32
  let v11 : BitVec 1 := Scalar.cmpi .ne v10 c0_i32_4
  v11

def k0_off1 (i : grid0.Coords) : Fin 3 → Nat :=
  let c0_81 : Index := 0#32
  let arg0 : BitVec 32 := BitVec.ofNat 32 (i 0).val
  let c32_i32 : BitVec 32 := 32#32
  let v102 : BitVec 32 := Scalar.muli arg0 c32_i32
  let c8_i32 : BitVec 32 := 8#32
  let v103 : BitVec 32 := Scalar.subi v102 c8_i32
  let v104 : Index := Scalar.indexCast v103
  let c0_82 : Index := 0#32
  ![0, v104.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S96x224x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x96x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x224x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![7], ![false]⟩

def k1_cond3 (i : grid1.Coords) : BitVec 1 :=
  let arg0 : BitVec 32 := BitVec.ofNat 32 (i 0).val
  let c0_i32_2 : BitVec 32 := 0#32
  let v8 : BitVec 1 := Scalar.cmpi .sgt arg0 c0_i32_2
  let c6_i32_3 : BitVec 32 := 6#32
  let v9 : BitVec 1 := Scalar.cmpi .slt arg0 c6_i32_3
  let v10 : BitVec 1 := Scalar.andi v8 v9
  let v11 : BitVec 32 := Scalar.extui v10
  let c0_i32_4 : BitVec 32 := 0#32
  let v12 : BitVec 1 := Scalar.cmpi .ne v11 c0_i32_4
  v12

def k1_off1 (i : grid1.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v108 : BitVec 32 := Scalar.subi v0 c1_i32
  let v109 : Index := Scalar.indexCast v108
  let c0_81 : Index := 0#32
  let c0_82 : Index := 0#32
  ![v109.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S224x224x96 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x224 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x96x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x224x96 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![7], ![false]⟩

def k2_cond3 (i : grid2.Coords) : BitVec 1 :=
  let arg0 : BitVec 32 := BitVec.ofNat 32 (i 0).val
  let c0_i32_2 : BitVec 32 := 0#32
  let v8 : BitVec 1 := Scalar.cmpi .sgt arg0 c0_i32_2
  let c6_i32_3 : BitVec 32 := 6#32
  let v9 : BitVec 1 := Scalar.cmpi .slt arg0 c6_i32_3
  let v10 : BitVec 1 := Scalar.andi v8 v9
  let v11 : BitVec 32 := Scalar.extui v10
  let c0_i32_4 : BitVec 32 := 0#32
  let v12 : BitVec 1 := Scalar.cmpi .ne v11 c0_i32_4
  v12

def k2_off1 (i : grid2.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v108 : BitVec 32 := Scalar.subi v0 c1_i32
  let v109 : Index := Scalar.indexCast v108
  let c0_81 : Index := 0#32
  let c0_82 : Index := 0#32
  ![v109.toNat, 0, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S224x224x96 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S32x224 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S9x96x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S32x224x96 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![7], ![false]⟩

def k3_cond3 (i : grid3.Coords) : BitVec 1 :=
  let arg0 : BitVec 32 := BitVec.ofNat 32 (i 0).val
  let c0_i32_2 : BitVec 32 := 0#32
  let v8 : BitVec 1 := Scalar.cmpi .sgt arg0 c0_i32_2
  let c6_i32_3 : BitVec 32 := 6#32
  let v9 : BitVec 1 := Scalar.cmpi .slt arg0 c6_i32_3
  let v10 : BitVec 1 := Scalar.andi v8 v9
  let v11 : BitVec 32 := Scalar.extui v10
  let c0_i32_4 : BitVec 32 := 0#32
  let v12 : BitVec 1 := Scalar.cmpi .ne v11 c0_i32_4
  v12

def k3_off1 (i : grid3.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v142 : BitVec 32 := Scalar.subi v0 c1_i32
  let v143 : Index := Scalar.indexCast v142
  let c0_109 : Index := 0#32
  let c0_110 : Index := 0#32
  ![v143.toNat, 0, 0]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S224x224x96 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S32x224 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S9x96x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S32x224x96 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S32x224x96 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S32x224x96 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S4x96x96 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8x96 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S96x32x224 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== ReferenceIdeal.lean ====
abbrev S1x96x224x224 : Shape := ⟨4, ![1, 96, 224, 224]⟩
abbrev S1x1x224x224 : Shape := ⟨4, ![1, 1, 224, 224]⟩
abbrev S1x96x4x2 : Shape := ⟨4, ![1, 96, 4, 2]⟩
abbrev S96x96x3x3 : Shape := ⟨4, ![96, 96, 3, 3]⟩
abbrev S96 : Shape := ⟨1, ![96]⟩
abbrev S96x384x1x1 : Shape := ⟨4, ![96, 384, 1, 1]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S1x96x4 : Shape := ⟨3, ![1, 96, 4]⟩
abbrev S1x96x4x1 : Shape := ⟨4, ![1, 96, 4, 1]⟩
abbrev S1x96x1x2 : Shape := ⟨4, ![1, 96, 1, 2]⟩
abbrev S1x96x226x226 : Shape := ⟨4, ![1, 96, 226, 226]⟩
abbrev S96x96x1x1 : Shape := ⟨4, ![96, 96, 1, 1]⟩
abbrev S96x96 : Shape := ⟨2, ![96, 96]⟩
abbrev S96x1x224x224 : Shape := ⟨4, ![96, 1, 224, 224]⟩
abbrev S1x96x1x1 : Shape := ⟨4, ![1, 96, 1, 1]⟩
abbrev S1x384x224x224 : Shape := ⟨4, ![1, 384, 224, 224]⟩
abbrev S96x384 : Shape := ⟨2, ![96, 384]⟩

abbrev nBuf : Space → Nat
  | .hbm => 838
  | .vmem => 0
  | .smem => 0
  | _ => 0

abbrev hbmTy0_0 (i : Nat) : BufTy := match i % 128 with
  | 0 => ⟨S1x96x224x224, .f32⟩
  | 1 => ⟨S1x1x224x224, .f32⟩
  | 2 => ⟨S1x96x4x2, .f32⟩
  | 3 => ⟨S96x96x3x3, .f32⟩
  | 4 => ⟨S96, .f32⟩
  | 5 => ⟨S96x96x3x3, .f32⟩
  | 6 => ⟨S96, .f32⟩
  | 7 => ⟨S96x96x3x3, .f32⟩
  | 8 => ⟨S96, .f32⟩
  | 9 => ⟨S96x96x3x3, .f32⟩
  | 10 => ⟨S96, .f32⟩
  | 11 => ⟨S96x384x1x1, .f32⟩
  | 12 => ⟨S96, .f32⟩
  | 13 => ⟨S_, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S1, .i32⟩
  | 22 => ⟨S2, .i32⟩
  | 23 => ⟨S_, .f32⟩
  | 24 => ⟨S_, .f32⟩
  | 25 => ⟨S_, .f32⟩
  | 26 => ⟨S_, .f32⟩
  | 27 => ⟨S1x1x1x1, .f32⟩
  | 28 => ⟨S1x1x1x1, .f32⟩
  | 29 => ⟨S1, .i32⟩
  | 30 => ⟨S_, .i32⟩
  | 31 => ⟨S1, .i32⟩
  | 32 => ⟨S_, .i32⟩
  | 33 => ⟨S1x96x4x2, .i64⟩
  | 34 => ⟨S1x96x4x2, .i64⟩
  | 35 => ⟨S1x96x4x2, .i64⟩
  | 36 => ⟨S1x96x4x2, .i64⟩
  | 37 => ⟨S_, .i64⟩
  | 38 => ⟨S1x96x4x2, .i64⟩
  | 39 => ⟨S1x96x4x2, .i64⟩
  | 40 => ⟨S_, .i64⟩
  | 41 => ⟨S1x96x4x2, .i64⟩
  | 42 => ⟨S1x96x4x2, .i64⟩
  | 43 => ⟨S_, .i64⟩
  | 44 => ⟨S1x96x4x2, .i64⟩
  | 45 => ⟨S1x96x4x2, .i64⟩
  | 46 => ⟨S_, .i64⟩
  | 47 => ⟨S1x96x4x2, .i64⟩
  | 48 => ⟨S1x96x4x2, .i64⟩
  | 49 => ⟨S1x96x4x2, .i64⟩
  | 50 => ⟨S1x96x4x2, .i64⟩
  | 51 => ⟨S1x96x4x2, .i64⟩
  | 52 => ⟨S_, .i64⟩
  | 53 => ⟨S1x96x4x2, .i64⟩
  | 54 => ⟨S1x96x4x2, .i64⟩
  | 55 => ⟨S1x96x4x2, .i32⟩
  | 56 => ⟨S1x96x4x2, .i32⟩
  | 57 => ⟨S_, .i32⟩
  | 58 => ⟨S_, .i32⟩
  | 59 => ⟨S_, .i32⟩
  | 60 => ⟨S1x96x4x2, .i32⟩
  | 61 => ⟨S1x96x4x2, .i32⟩
  | 62 => ⟨S1x96x4x2, .i32⟩
  | 63 => ⟨S1x96x4x2, .i32⟩
  | 64 => ⟨S1x96x4x2, .i32⟩
  | 65 => ⟨S_, .i32⟩
  | 66 => ⟨S1x96x4x2, .i32⟩
  | 67 => ⟨S1x96x4x2, .i32⟩
  | 68 => ⟨S_, .i32⟩
  | 69 => ⟨S1x96x4x2, .i32⟩
  | 70 => ⟨S1x96x4x2, .i32⟩
  | 71 => ⟨S1x96x4x2, .i32⟩
  | 72 => ⟨S1x96x4x2, .i32⟩
  | 73 => ⟨S1x96x4x2, .i32⟩
  | 74 => ⟨S_, .i32⟩
  | 75 => ⟨S1x96x4x2, .i32⟩
  | 76 => ⟨S1x96x4x2, .i32⟩
  | 77 => ⟨S_, .i32⟩
  | 78 => ⟨S1x96x4x2, .i32⟩
  | 79 => ⟨S1x96x4x2, .i32⟩
  | 80 => ⟨S1x96x4x2, .i32⟩
  | 81 => ⟨S1x96x4x2, .i32⟩
  | 82 => ⟨S1x96x4x2, .i32⟩
  | 83 => ⟨S_, .i32⟩
  | 84 => ⟨S1x96x4x2, .i32⟩
  | 85 => ⟨S1x96x4x2, .i32⟩
  | 86 => ⟨S_, .i32⟩
  | 87 => ⟨S1x96x4x2, .i32⟩
  | 88 => ⟨S1x96x4x2, .i32⟩
  | 89 => ⟨S1x96x4x2, .i32⟩
  | 90 => ⟨S1x96x4x2, .i32⟩
  | 91 => ⟨S1x96x4x2, .i32⟩
  | 92 => ⟨S_, .i32⟩
  | 93 => ⟨S1x96x4x2, .i32⟩
  | 94 => ⟨S1x96x4x2, .i32⟩
  | 95 => ⟨S_, .i32⟩
  | 96 => ⟨S1x96x4x2, .i32⟩
  | 97 => ⟨S1x96x4x2, .i32⟩
  | 98 => ⟨S1x96x4x2, .i32⟩
  | 99 => ⟨S1x96x4x2, .i32⟩
  | 100 => ⟨S1x96x4x2, .i32⟩
  | 101 => ⟨S1x96x4x2, .i32⟩
  | 102 => ⟨S1x96x4x2, .i32⟩
  | 103 => ⟨S1x96x4x2, .i32⟩
  | 104 => ⟨S_, .i32⟩
  | 105 => ⟨S1x96x4x2, .i32⟩
  | 106 => ⟨S1x96x4x2, .i32⟩
  | 107 => ⟨S1x96x4x2, .i32⟩
  | 108 => ⟨S_, .i32⟩
  | 109 => ⟨S1x96x4x2, .i32⟩
  | 110 => ⟨S1x96x4x2, .i32⟩
  | 111 => ⟨S_, .i32⟩
  | 112 => ⟨S1x96x4x2, .i32⟩
  | 113 => ⟨S1x96x4x2, .i32⟩
  | 114 => ⟨S1x96x4x2, .i32⟩
  | 115 => ⟨S1x96x4x2, .i32⟩
  | 116 => ⟨S1x96x4x2, .i32⟩
  | 117 => ⟨S_, .i32⟩
  | 118 => ⟨S1x96x4x2, .i32⟩
  | 119 => ⟨S1x96x4x2, .i32⟩
  | 120 => ⟨S_, .i32⟩
  | 121 => ⟨S1x96x4x2, .i32⟩
  | 122 => ⟨S1x96x4x2, .i32⟩
  | 123 => ⟨S1x96x4x2, .i32⟩
  | 124 => ⟨S1x96x4x2, .i32⟩
  | 125 => ⟨S1x96x4x2, .i32⟩
  | 126 => ⟨S_, .i32⟩
  | 127 => ⟨S1x96x4x2, .i32⟩
  | _ => ⟨S1x96x224x224, .f32⟩

abbrev hbmTy0_1 (i : Nat) : BufTy := match i % 128 with
  | 0 => ⟨S1x96x4x2, .i32⟩
  | 1 => ⟨S_, .i32⟩
  | 2 => ⟨S1x96x4x2, .i32⟩
  | 3 => ⟨S1x96x4x2, .i32⟩
  | 4 => ⟨S1x96x4x2, .i32⟩
  | 5 => ⟨S1x96x4x2, .i32⟩
  | 6 => ⟨S1x96x4x2, .i32⟩
  | 7 => ⟨S_, .i32⟩
  | 8 => ⟨S1x96x4x2, .i32⟩
  | 9 => ⟨S1x96x4x2, .i32⟩
  | 10 => ⟨S_, .i32⟩
  | 11 => ⟨S1x96x4x2, .i32⟩
  | 12 => ⟨S1x96x4x2, .i32⟩
  | 13 => ⟨S1x96x4x2, .i32⟩
  | 14 => ⟨S1x96x4x2, .i32⟩
  | 15 => ⟨S1x96x4x2, .i32⟩
  | 16 => ⟨S1x96x4x2, .i32⟩
  | 17 => ⟨S1x96x4x2, .i32⟩
  | 18 => ⟨S1x96x4x2, .i32⟩
  | 19 => ⟨S_, .i32⟩
  | 20 => ⟨S1x96x4x2, .i32⟩
  | 21 => ⟨S1x96x4x2, .i32⟩
  | 22 => ⟨S1x96x4x2, .i32⟩
  | 23 => ⟨S_, .i32⟩
  | 24 => ⟨S1x96x4x2, .i32⟩
  | 25 => ⟨S1x96x4x2, .i32⟩
  | 26 => ⟨S_, .i32⟩
  | 27 => ⟨S1x96x4x2, .i32⟩
  | 28 => ⟨S1x96x4x2, .i32⟩
  | 29 => ⟨S1x96x4x2, .i32⟩
  | 30 => ⟨S1x96x4x2, .i32⟩
  | 31 => ⟨S1x96x4x2, .i32⟩
  | 32 => ⟨S_, .i32⟩
  | 33 => ⟨S1x96x4x2, .i32⟩
  | 34 => ⟨S1x96x4x2, .i32⟩
  | 35 => ⟨S_, .i32⟩
  | 36 => ⟨S1x96x4x2, .i32⟩
  | 37 => ⟨S1x96x4x2, .i32⟩
  | 38 => ⟨S1x96x4x2, .i32⟩
  | 39 => ⟨S1x96x4x2, .i32⟩
  | 40 => ⟨S1x96x4x2, .i32⟩
  | 41 => ⟨S_, .i32⟩
  | 42 => ⟨S1x96x4x2, .i32⟩
  | 43 => ⟨S1x96x4x2, .i32⟩
  | 44 => ⟨S_, .i32⟩
  | 45 => ⟨S1x96x4x2, .i32⟩
  | 46 => ⟨S1x96x4x2, .i32⟩
  | 47 => ⟨S1x96x4x2, .i32⟩
  | 48 => ⟨S1x96x4x2, .i32⟩
  | 49 => ⟨S1x96x4x2, .i32⟩
  | 50 => ⟨S_, .i32⟩
  | 51 => ⟨S1x96x4x2, .i32⟩
  | 52 => ⟨S1x96x4x2, .i32⟩
  | 53 => ⟨S_, .i32⟩
  | 54 => ⟨S1x96x4x2, .i32⟩
  | 55 => ⟨S1x96x4x2, .i32⟩
  | 56 => ⟨S1x96x4x2, .i32⟩
  | 57 => ⟨S1x96x4x2, .i32⟩
  | 58 => ⟨S1x96x4x2, .i32⟩
  | 59 => ⟨S1x96x4x2, .i32⟩
  | 60 => ⟨S1x96x4x2, .i32⟩
  | 61 => ⟨S1x96x4x2, .i32⟩
  | 62 => ⟨S_, .i32⟩
  | 63 => ⟨S1x96x4x2, .i32⟩
  | 64 => ⟨S1x96x4x2, .i32⟩
  | 65 => ⟨S1x96x4x2, .i32⟩
  | 66 => ⟨S_, .i32⟩
  | 67 => ⟨S1x96x4x2, .i32⟩
  | 68 => ⟨S1x96x4x2, .i32⟩
  | 69 => ⟨S_, .i32⟩
  | 70 => ⟨S1x96x4x2, .i32⟩
  | 71 => ⟨S1x96x4x2, .i32⟩
  | 72 => ⟨S1x96x4x2, .i32⟩
  | 73 => ⟨S1x96x4x2, .i32⟩
  | 74 => ⟨S1x96x4x2, .i32⟩
  | 75 => ⟨S_, .i32⟩
  | 76 => ⟨S1x96x4x2, .i32⟩
  | 77 => ⟨S1x96x4x2, .i32⟩
  | 78 => ⟨S_, .i32⟩
  | 79 => ⟨S1x96x4x2, .i32⟩
  | 80 => ⟨S1x96x4x2, .i32⟩
  | 81 => ⟨S1x96x4x2, .i32⟩
  | 82 => ⟨S1x96x4x2, .i32⟩
  | 83 => ⟨S1x96x4x2, .i32⟩
  | 84 => ⟨S_, .i32⟩
  | 85 => ⟨S1x96x4x2, .i32⟩
  | 86 => ⟨S1x96x4x2, .i32⟩
  | 87 => ⟨S_, .i32⟩
  | 88 => ⟨S1x96x4x2, .i32⟩
  | 89 => ⟨S1x96x4x2, .i32⟩
  | 90 => ⟨S1x96x4x2, .i32⟩
  | 91 => ⟨S1x96x4x2, .i32⟩
  | 92 => ⟨S1x96x4x2, .i32⟩
  | 93 => ⟨S_, .i32⟩
  | 94 => ⟨S1x96x4x2, .i32⟩
  | 95 => ⟨S1x96x4x2, .i32⟩
  | 96 => ⟨S_, .i32⟩
  | 97 => ⟨S1x96x4x2, .i32⟩
  | 98 => ⟨S1x96x4x2, .i32⟩
  | 99 => ⟨S1x96x4x2, .i32⟩
  | 100 => ⟨S1x96x4x2, .i32⟩
  | 101 => ⟨S1x96x4x2, .i32⟩
  | 102 => ⟨S1x96x4x2, .i32⟩
  | 103 => ⟨S1x96x4x2, .i32⟩
  | 104 => ⟨S1x96x4x2, .i32⟩
  | 105 => ⟨S_, .i32⟩
  | 106 => ⟨S1x96x4x2, .i32⟩
  | 107 => ⟨S1x96x4x2, .i32⟩
  | 108 => ⟨S1x96x4x2, .i32⟩
  | 109 => ⟨S_, .i32⟩
  | 110 => ⟨S1x96x4x2, .i32⟩
  | 111 => ⟨S1x96x4x2, .i32⟩
  | 112 => ⟨S_, .i32⟩
  | 113 => ⟨S1x96x4x2, .i32⟩
  | 114 => ⟨S1x96x4x2, .i32⟩
  | 115 => ⟨S1x96x4x2, .i32⟩
  | 116 => ⟨S1x96x4x2, .i32⟩
  | 117 => ⟨S1x96x4x2, .i32⟩
  | 118 => ⟨S_, .i32⟩
  | 119 => ⟨S1x96x4x2, .i32⟩
  | 120 => ⟨S1x96x4x2, .i32⟩
  | 121 => ⟨S_, .i32⟩
  | 122 => ⟨S1x96x4x2, .i32⟩
  | 123 => ⟨S1x96x4x2, .i32⟩
  | 124 => ⟨S1x96x4x2, .i32⟩
  | 125 => ⟨S1x96x4x2, .i32⟩
  | 126 => ⟨S1x96x4x2, .i32⟩
  | 127 => ⟨S_, .i32⟩
  | _ => ⟨S1x96x224x224, .f32⟩

abbrev hbmTy0_2 (i : Nat) : BufTy := match i % 128 with
  | 0 => ⟨S1x96x4x2, .i32⟩
  | 1 => ⟨S1x96x4x2, .i32⟩
  | 2 => ⟨S_, .i32⟩
  | 3 => ⟨S1x96x4x2, .i32⟩
  | 4 => ⟨S1x96x4x2, .i32⟩
  | 5 => ⟨S1x96x4x2, .i32⟩
  | 6 => ⟨S1x96x4x2, .i32⟩
  | 7 => ⟨S1x96x4x2, .i32⟩
  | 8 => ⟨S_, .i32⟩
  | 9 => ⟨S1x96x4x2, .i32⟩
  | 10 => ⟨S1x96x4x2, .i32⟩
  | 11 => ⟨S_, .i32⟩
  | 12 => ⟨S1x96x4x2, .i32⟩
  | 13 => ⟨S1x96x4x2, .i32⟩
  | 14 => ⟨S1x96x4x2, .i32⟩
  | 15 => ⟨S1x96x4x2, .i32⟩
  | 16 => ⟨S1x96x4x2, .i32⟩
  | 17 => ⟨S1x96x4x2, .i32⟩
  | 18 => ⟨S1x96x4x2, .i32⟩
  | 19 => ⟨S1x96x4x2, .i32⟩
  | 20 => ⟨S_, .i32⟩
  | 21 => ⟨S1x96x4x2, .i32⟩
  | 22 => ⟨S1x96x4x2, .i32⟩
  | 23 => ⟨S1x96x4x2, .i32⟩
  | 24 => ⟨S_, .i32⟩
  | 25 => ⟨S1x96x4x2, .i32⟩
  | 26 => ⟨S1x96x4x2, .i32⟩
  | 27 => ⟨S_, .i32⟩
  | 28 => ⟨S1x96x4x2, .i32⟩
  | 29 => ⟨S1x96x4x2, .i32⟩
  | 30 => ⟨S1x96x4x2, .f32⟩
  | 31 => ⟨S_, .f32⟩
  | 32 => ⟨S1x96x4x2, .f32⟩
  | 33 => ⟨S1x96x4x2, .f32⟩
  | 34 => ⟨S1x1x1x1, .f32⟩
  | 35 => ⟨S1x96x4x2, .f32⟩
  | 36 => ⟨S1x96x4x2, .f32⟩
  | 37 => ⟨S1x96x4x2, .f32⟩
  | 38 => ⟨S1x96x4x2, .f32⟩
  | 39 => ⟨S1x96x4x2, .f32⟩
  | 40 => ⟨S1x96x4x2, .f32⟩
  | 41 => ⟨S1x96x4x2, .f32⟩
  | 42 => ⟨S1x96x4x2, .f32⟩
  | 43 => ⟨S1x96x4x2, .f32⟩
  | 44 => ⟨S1x96x4x2, .f32⟩
  | 45 => ⟨S1x96x4x2, .f32⟩
  | 46 => ⟨S_, .f32⟩
  | 47 => ⟨S1x96x4x2, .f32⟩
  | 48 => ⟨S1x96x4x2, .f32⟩
  | 49 => ⟨S_, .f32⟩
  | 50 => ⟨S1x96x4, .f32⟩
  | 51 => ⟨S_, .f32⟩
  | 52 => ⟨S1x96x4, .f32⟩
  | 53 => ⟨S1x96x4, .f32⟩
  | 54 => ⟨S1x96x4x1, .f32⟩
  | 55 => ⟨S1x96x4x2, .f32⟩
  | 56 => ⟨S1x96x4x2, .f32⟩
  | 57 => ⟨S1x96x4x2, .f32⟩
  | 58 => ⟨S_, .f32⟩
  | 59 => ⟨S1x96x4, .f32⟩
  | 60 => ⟨S1x96x4x1, .f32⟩
  | 61 => ⟨S1x96x4x2, .f32⟩
  | 62 => ⟨S1x96x4x2, .f32⟩
  | 63 => ⟨S1x96x1x2, .f32⟩
  | 64 => ⟨S_, .f32⟩
  | 65 => ⟨S1x96x226x226, .f32⟩
  | 66 => ⟨S1x96x224x224, .f32⟩
  | 67 => ⟨S96x96x1x1, .f32⟩
  | 68 => ⟨S96x96, .f32⟩
  | 69 => ⟨S96x1x224x224, .f32⟩
  | 70 => ⟨S1x96x224x224, .f32⟩
  | 71 => ⟨S1x96x224x224, .f32⟩
  | 72 => ⟨S96x96x1x1, .f32⟩
  | 73 => ⟨S96x96, .f32⟩
  | 74 => ⟨S96x1x224x224, .f32⟩
  | 75 => ⟨S1x96x224x224, .f32⟩
  | 76 => ⟨S1x96x224x224, .f32⟩
  | 77 => ⟨S1x96x224x224, .f32⟩
  | 78 => ⟨S96x96x1x1, .f32⟩
  | 79 => ⟨S96x96, .f32⟩
  | 80 => ⟨S96x1x224x224, .f32⟩
  | 81 => ⟨S1x96x224x224, .f32⟩
  | 82 => ⟨S1x96x224x224, .f32⟩
  | 83 => ⟨S1x96x224x224, .f32⟩
  | 84 => ⟨S96x96x1x1, .f32⟩
  | 85 => ⟨S96x96, .f32⟩
  | 86 => ⟨S96x1x224x224, .f32⟩
  | 87 => ⟨S1x96x224x224, .f32⟩
  | 88 => ⟨S1x96x224x224, .f32⟩
  | 89 => ⟨S1x96x224x224, .f32⟩
  | 90 => ⟨S96x96x1x1, .f32⟩
  | 91 => ⟨S96x96, .f32⟩
  | 92 => ⟨S96x1x224x224, .f32⟩
  | 93 => ⟨S1x96x224x224, .f32⟩
  | 94 => ⟨S1x96x224x224, .f32⟩
  | 95 => ⟨S1x96x224x224, .f32⟩
  | 96 => ⟨S96x96x1x1, .f32⟩
  | 97 => ⟨S96x96, .f32⟩
  | 98 => ⟨S96x1x224x224, .f32⟩
  | 99 => ⟨S1x96x224x224, .f32⟩
  | 100 => ⟨S1x96x224x224, .f32⟩
  | 101 => ⟨S1x96x224x224, .f32⟩
  | 102 => ⟨S96x96x1x1, .f32⟩
  | 103 => ⟨S96x96, .f32⟩
  | 104 => ⟨S96x1x224x224, .f32⟩
  | 105 => ⟨S1x96x224x224, .f32⟩
  | 106 => ⟨S1x96x224x224, .f32⟩
  | 107 => ⟨S1x96x224x224, .f32⟩
  | 108 => ⟨S96x96x1x1, .f32⟩
  | 109 => ⟨S96x96, .f32⟩
  | 110 => ⟨S96x1x224x224, .f32⟩
  | 111 => ⟨S1x96x224x224, .f32⟩
  | 112 => ⟨S1x96x224x224, .f32⟩
  | 113 => ⟨S1x96x224x224, .f32⟩
  | 114 => ⟨S96x96x1x1, .f32⟩
  | 115 => ⟨S96x96, .f32⟩
  | 116 => ⟨S96x1x224x224, .f32⟩
  | 117 => ⟨S1x96x224x224, .f32⟩
  | 118 => ⟨S1x96x224x224, .f32⟩
  | 119 => ⟨S1x96x1x1, .f32⟩
  | 120 => ⟨S1x96x224x224, .f32⟩
  | 121 => ⟨S1x96x224x224, .f32⟩
  | 122 => ⟨S1x96x1x1, .f32⟩
  | 123 => ⟨S1x96x224x224, .f32⟩
  | 124 => ⟨S1x96x224x224, .f32⟩
  | 125 => ⟨S1x96x224x224, .f32⟩
  | 126 => ⟨S1x96x224x224, .f32⟩
  | 127 => ⟨S1x96x1x1, .f32⟩
  | _ => ⟨S1x96x224x224, .f32⟩

abbrev hbmTy0_3 (i : Nat) : BufTy := match i % 128 with
  | 0 => ⟨S1x96x224x224, .f32⟩
  | 1 => ⟨S1x96x224x224, .f32⟩
  | 2 => ⟨S1x96x224x224, .f32⟩
  | 3 => ⟨S_, .f32⟩
  | 4 => ⟨S1x96x224x224, .f32⟩
  | 5 => ⟨S1x96x224x224, .f32⟩
  | 6 => ⟨S1x96x1x2, .f32⟩
  | 7 => ⟨S1x96x1x1, .f32⟩
  | 8 => ⟨S1x96x224x224, .f32⟩
  | 9 => ⟨S1x96x224x224, .f32⟩
  | 10 => ⟨S_, .f32⟩
  | 11 => ⟨S1x96x226x226, .f32⟩
  | 12 => ⟨S1x96x224x224, .f32⟩
  | 13 => ⟨S96x96x1x1, .f32⟩
  | 14 => ⟨S96x96, .f32⟩
  | 15 => ⟨S96x1x224x224, .f32⟩
  | 16 => ⟨S1x96x224x224, .f32⟩
  | 17 => ⟨S1x96x224x224, .f32⟩
  | 18 => ⟨S96x96x1x1, .f32⟩
  | 19 => ⟨S96x96, .f32⟩
  | 20 => ⟨S96x1x224x224, .f32⟩
  | 21 => ⟨S1x96x224x224, .f32⟩
  | 22 => ⟨S1x96x224x224, .f32⟩
  | 23 => ⟨S1x96x224x224, .f32⟩
  | 24 => ⟨S96x96x1x1, .f32⟩
  | 25 => ⟨S96x96, .f32⟩
  | 26 => ⟨S96x1x224x224, .f32⟩
  | 27 => ⟨S1x96x224x224, .f32⟩
  | 28 => ⟨S1x96x224x224, .f32⟩
  | 29 => ⟨S1x96x224x224, .f32⟩
  | 30 => ⟨S96x96x1x1, .f32⟩
  | 31 => ⟨S96x96, .f32⟩
  | 32 => ⟨S96x1x224x224, .f32⟩
  | 33 => ⟨S1x96x224x224, .f32⟩
  | 34 => ⟨S1x96x224x224, .f32⟩
  | 35 => ⟨S1x96x224x224, .f32⟩
  | 36 => ⟨S96x96x1x1, .f32⟩
  | 37 => ⟨S96x96, .f32⟩
  | 38 => ⟨S96x1x224x224, .f32⟩
  | 39 => ⟨S1x96x224x224, .f32⟩
  | 40 => ⟨S1x96x224x224, .f32⟩
  | 41 => ⟨S1x96x224x224, .f32⟩
  | 42 => ⟨S96x96x1x1, .f32⟩
  | 43 => ⟨S96x96, .f32⟩
  | 44 => ⟨S96x1x224x224, .f32⟩
  | 45 => ⟨S1x96x224x224, .f32⟩
  | 46 => ⟨S1x96x224x224, .f32⟩
  | 47 => ⟨S1x96x224x224, .f32⟩
  | 48 => ⟨S96x96x1x1, .f32⟩
  | 49 => ⟨S96x96, .f32⟩
  | 50 => ⟨S96x1x224x224, .f32⟩
  | 51 => ⟨S1x96x224x224, .f32⟩
  | 52 => ⟨S1x96x224x224, .f32⟩
  | 53 => ⟨S1x96x224x224, .f32⟩
  | 54 => ⟨S96x96x1x1, .f32⟩
  | 55 => ⟨S96x96, .f32⟩
  | 56 => ⟨S96x1x224x224, .f32⟩
  | 57 => ⟨S1x96x224x224, .f32⟩
  | 58 => ⟨S1x96x224x224, .f32⟩
  | 59 => ⟨S1x96x224x224, .f32⟩
  | 60 => ⟨S96x96x1x1, .f32⟩
  | 61 => ⟨S96x96, .f32⟩
  | 62 => ⟨S96x1x224x224, .f32⟩
  | 63 => ⟨S1x96x224x224, .f32⟩
  | 64 => ⟨S1x96x224x224, .f32⟩
  | 65 => ⟨S1x96x1x1, .f32⟩
  | 66 => ⟨S1x96x224x224, .f32⟩
  | 67 => ⟨S1x96x224x224, .f32⟩
  | 68 => ⟨S1x96x1x1, .f32⟩
  | 69 => ⟨S1x96x224x224, .f32⟩
  | 70 => ⟨S1x96x224x224, .f32⟩
  | 71 => ⟨S_, .f32⟩
  | 72 => ⟨S1x96x226x226, .f32⟩
  | 73 => ⟨S1x96x224x224, .f32⟩
  | 74 => ⟨S96x96x1x1, .f32⟩
  | 75 => ⟨S96x96, .f32⟩
  | 76 => ⟨S96x1x224x224, .f32⟩
  | 77 => ⟨S1x96x224x224, .f32⟩
  | 78 => ⟨S1x96x224x224, .f32⟩
  | 79 => ⟨S96x96x1x1, .f32⟩
  | 80 => ⟨S96x96, .f32⟩
  | 81 => ⟨S96x1x224x224, .f32⟩
  | 82 => ⟨S1x96x224x224, .f32⟩
  | 83 => ⟨S1x96x224x224, .f32⟩
  | 84 => ⟨S1x96x224x224, .f32⟩
  | 85 => ⟨S96x96x1x1, .f32⟩
  | 86 => ⟨S96x96, .f32⟩
  | 87 => ⟨S96x1x224x224, .f32⟩
  | 88 => ⟨S1x96x224x224, .f32⟩
  | 89 => ⟨S1x96x224x224, .f32⟩
  | 90 => ⟨S1x96x224x224, .f32⟩
  | 91 => ⟨S96x96x1x1, .f32⟩
  | 92 => ⟨S96x96, .f32⟩
  | 93 => ⟨S96x1x224x224, .f32⟩
  | 94 => ⟨S1x96x224x224, .f32⟩
  | 95 => ⟨S1x96x224x224, .f32⟩
  | 96 => ⟨S1x96x224x224, .f32⟩
  | 97 => ⟨S96x96x1x1, .f32⟩
  | 98 => ⟨S96x96, .f32⟩
  | 99 => ⟨S96x1x224x224, .f32⟩
  | 100 => ⟨S1x96x224x224, .f32⟩
  | 101 => ⟨S1x96x224x224, .f32⟩
  | 102 => ⟨S1x96x224x224, .f32⟩
  | 103 => ⟨S96x96x1x1, .f32⟩
  | 104 => ⟨S96x96, .f32⟩
  | 105 => ⟨S96x1x224x224, .f32⟩
  | 106 => ⟨S1x96x224x224, .f32⟩
  | 107 => ⟨S1x96x224x224, .f32⟩
  | 108 => ⟨S1x96x224x224, .f32⟩
  | 109 => ⟨S96x96x1x1, .f32⟩
  | 110 => ⟨S96x96, .f32⟩
  | 111 => ⟨S96x1x224x224, .f32⟩
  | 112 => ⟨S1x96x224x224, .f32⟩
  | 113 => ⟨S1x96x224x224, .f32⟩
  | 114 => ⟨S1x96x224x224, .f32⟩
  | 115 => ⟨S96x96x1x1, .f32⟩
  | 116 => ⟨S96x96, .f32⟩
  | 117 => ⟨S96x1x224x224, .f32⟩
  | 118 => ⟨S1x96x224x224, .f32⟩
  | 119 => ⟨S1x96x224x224, .f32⟩
  | 120 => ⟨S1x96x224x224, .f32⟩
  | 121 => ⟨S96x96x1x1, .f32⟩
  | 122 => ⟨S96x96, .f32⟩
  | 123 => ⟨S96x1x224x224, .f32⟩
  | 124 => ⟨S1x96x224x224, .f32⟩
  | 125 => ⟨S1x96x224x224, .f32⟩
  | 126 => ⟨S1x96x1x1, .f32⟩
  | 127 => ⟨S1x96x224x224, .f32⟩
  | _ => ⟨S1x96x224x224, .f32⟩

abbrev hbmTy0_4 (i : Nat) : BufTy := match i % 128 with
  | 0 => ⟨S1x96x224x224, .f32⟩
  | 1 => ⟨S1x96x1x1, .f32⟩
  | 2 => ⟨S1x96x224x224, .f32⟩
  | 3 => ⟨S1x96x224x224, .f32⟩
  | 4 => ⟨S1x96x224x224, .f32⟩
  | 5 => ⟨S1x96x224x224, .f32⟩
  | 6 => ⟨S1x96x1x1, .f32⟩
  | 7 => ⟨S1x96x224x224, .f32⟩
  | 8 => ⟨S1x96x224x224, .f32⟩
  | 9 => ⟨S1x96x224x224, .f32⟩
  | 10 => ⟨S1x96x1x1, .f32⟩
  | 11 => ⟨S1x96x224x224, .f32⟩
  | 12 => ⟨S1x96x224x224, .f32⟩
  | 13 => ⟨S1x96x224x224, .f32⟩
  | 14 => ⟨S1x96x224x224, .f32⟩
  | 15 => ⟨S1x96x224x224, .f32⟩
  | 16 => ⟨S1x96x1x1, .f32⟩
  | 17 => ⟨S1x96x224x224, .f32⟩
  | 18 => ⟨S1x96x224x224, .f32⟩
  | 19 => ⟨S1x96x224x224, .f32⟩
  | 20 => ⟨S1x96x224x224, .f32⟩
  | 21 => ⟨S1x96x224x224, .f32⟩
  | 22 => ⟨S_, .f32⟩
  | 23 => ⟨S1x96x224x224, .f32⟩
  | 24 => ⟨S1x96x224x224, .f32⟩
  | 25 => ⟨S1x96x1x2, .f32⟩
  | 26 => ⟨S1x96x1x1, .f32⟩
  | 27 => ⟨S1x96x224x224, .f32⟩
  | 28 => ⟨S1x96x224x224, .f32⟩
  | 29 => ⟨S_, .f32⟩
  | 30 => ⟨S1x96x226x226, .f32⟩
  | 31 => ⟨S1x96x224x224, .f32⟩
  | 32 => ⟨S96x96x1x1, .f32⟩
  | 33 => ⟨S96x96, .f32⟩
  | 34 => ⟨S96x1x224x224, .f32⟩
  | 35 => ⟨S1x96x224x224, .f32⟩
  | 36 => ⟨S1x96x224x224, .f32⟩
  | 37 => ⟨S96x96x1x1, .f32⟩
  | 38 => ⟨S96x96, .f32⟩
  | 39 => ⟨S96x1x224x224, .f32⟩
  | 40 => ⟨S1x96x224x224, .f32⟩
  | 41 => ⟨S1x96x224x224, .f32⟩
  | 42 => ⟨S1x96x224x224, .f32⟩
  | 43 => ⟨S96x96x1x1, .f32⟩
  | 44 => ⟨S96x96, .f32⟩
  | 45 => ⟨S96x1x224x224, .f32⟩
  | 46 => ⟨S1x96x224x224, .f32⟩
  | 47 => ⟨S1x96x224x224, .f32⟩
  | 48 => ⟨S1x96x224x224, .f32⟩
  | 49 => ⟨S96x96x1x1, .f32⟩
  | 50 => ⟨S96x96, .f32⟩
  | 51 => ⟨S96x1x224x224, .f32⟩
  | 52 => ⟨S1x96x224x224, .f32⟩
  | 53 => ⟨S1x96x224x224, .f32⟩
  | 54 => ⟨S1x96x224x224, .f32⟩
  | 55 => ⟨S96x96x1x1, .f32⟩
  | 56 => ⟨S96x96, .f32⟩
  | 57 => ⟨S96x1x224x224, .f32⟩
  | 58 => ⟨S1x96x224x224, .f32⟩
  | 59 => ⟨S1x96x224x224, .f32⟩
  | 60 => ⟨S1x96x224x224, .f32⟩
  | 61 => ⟨S96x96x1x1, .f32⟩
  | 62 => ⟨S96x96, .f32⟩
  | 63 => ⟨S96x1x224x224, .f32⟩
  | 64 => ⟨S1x96x224x224, .f32⟩
  | 65 => ⟨S1x96x224x224, .f32⟩
  | 66 => ⟨S1x96x224x224, .f32⟩
  | 67 => ⟨S96x96x1x1, .f32⟩
  | 68 => ⟨S96x96, .f32⟩
  | 69 => ⟨S96x1x224x224, .f32⟩
  | 70 => ⟨S1x96x224x224, .f32⟩
  | 71 => ⟨S1x96x224x224, .f32⟩
  | 72 => ⟨S1x96x224x224, .f32⟩
  | 73 => ⟨S96x96x1x1, .f32⟩
  | 74 => ⟨S96x96, .f32⟩
  | 75 => ⟨S96x1x224x224, .f32⟩
  | 76 => ⟨S1x96x224x224, .f32⟩
  | 77 => ⟨S1x96x224x224, .f32⟩
  | 78 => ⟨S1x96x224x224, .f32⟩
  | 79 => ⟨S96x96x1x1, .f32⟩
  | 80 => ⟨S96x96, .f32⟩
  | 81 => ⟨S96x1x224x224, .f32⟩
  | 82 => ⟨S1x96x224x224, .f32⟩
  | 83 => ⟨S1x96x224x224, .f32⟩
  | 84 => ⟨S1x96x1x1, .f32⟩
  | 85 => ⟨S1x96x224x224, .f32⟩
  | 86 => ⟨S1x96x224x224, .f32⟩
  | 87 => ⟨S1x96x1x1, .f32⟩
  | 88 => ⟨S1x96x224x224, .f32⟩
  | 89 => ⟨S1x96x224x224, .f32⟩
  | 90 => ⟨S_, .f32⟩
  | 91 => ⟨S1x96x226x226, .f32⟩
  | 92 => ⟨S1x96x224x224, .f32⟩
  | 93 => ⟨S96x96x1x1, .f32⟩
  | 94 => ⟨S96x96, .f32⟩
  | 95 => ⟨S96x1x224x224, .f32⟩
  | 96 => ⟨S1x96x224x224, .f32⟩
  | 97 => ⟨S1x96x224x224, .f32⟩
  | 98 => ⟨S96x96x1x1, .f32⟩
  | 99 => ⟨S96x96, .f32⟩
  | 100 => ⟨S96x1x224x224, .f32⟩
  | 101 => ⟨S1x96x224x224, .f32⟩
  | 102 => ⟨S1x96x224x224, .f32⟩
  | 103 => ⟨S1x96x224x224, .f32⟩
  | 104 => ⟨S96x96x1x1, .f32⟩
  | 105 => ⟨S96x96, .f32⟩
  | 106 => ⟨S96x1x224x224, .f32⟩
  | 107 => ⟨S1x96x224x224, .f32⟩
  | 108 => ⟨S1x96x224x224, .f32⟩
  | 109 => ⟨S1x96x224x224, .f32⟩
  | 110 => ⟨S96x96x1x1, .f32⟩
  | 111 => ⟨S96x96, .f32⟩
  | 112 => ⟨S96x1x224x224, .f32⟩
  | 113 => ⟨S1x96x224x224, .f32⟩
  | 114 => ⟨S1x96x224x224, .f32⟩
  | 115 => ⟨S1x96x224x224, .f32⟩
  | 116 => ⟨S96x96x1x1, .f32⟩
  | 117 => ⟨S96x96, .f32⟩
  | 118 => ⟨S96x1x224x224, .f32⟩
  | 119 => ⟨S1x96x224x224, .f32⟩
  | 120 => ⟨S1x96x224x224, .f32⟩
  | 121 => ⟨S1x96x224x224, .f32⟩
  | 122 => ⟨S96x96x1x1, .f32⟩
  | 123 => ⟨S96x96, .f32⟩
  | 124 => ⟨S96x1x224x224, .f32⟩
  | 125 => ⟨S1x96x224x224, .f32⟩
  | 126 => ⟨S1x96x224x224, .f32⟩
  | 127 => ⟨S1x96x224x224, .f32⟩
  | _ => ⟨S1x96x224x224, .f32⟩

abbrev hbmTy0_5 (i : Nat) : BufTy := match i % 128 with
  | 0 => ⟨S96x96x1x1, .f32⟩
  | 1 => ⟨S96x96, .f32⟩
  | 2 => ⟨S96x1x224x224, .f32⟩
  | 3 => ⟨S1x96x224x224, .f32⟩
  | 4 => ⟨S1x96x224x224, .f32⟩
  | 5 => ⟨S1x96x224x224, .f32⟩
  | 6 => ⟨S96x96x1x1, .f32⟩
  | 7 => ⟨S96x96, .f32⟩
  | 8 => ⟨S96x1x224x224, .f32⟩
  | 9 => ⟨S1x96x224x224, .f32⟩
  | 10 => ⟨S1x96x224x224, .f32⟩
  | 11 => ⟨S1x96x224x224, .f32⟩
  | 12 => ⟨S96x96x1x1, .f32⟩
  | 13 => ⟨S96x96, .f32⟩
  | 14 => ⟨S96x1x224x224, .f32⟩
  | 15 => ⟨S1x96x224x224, .f32⟩
  | 16 => ⟨S1x96x224x224, .f32⟩
  | 17 => ⟨S1x96x1x1, .f32⟩
  | 18 => ⟨S1x96x224x224, .f32⟩
  | 19 => ⟨S1x96x224x224, .f32⟩
  | 20 => ⟨S1x96x1x1, .f32⟩
  | 21 => ⟨S1x96x224x224, .f32⟩
  | 22 => ⟨S1x96x224x224, .f32⟩
  | 23 => ⟨S1x96x224x224, .f32⟩
  | 24 => ⟨S1x96x224x224, .f32⟩
  | 25 => ⟨S1x96x1x1, .f32⟩
  | 26 => ⟨S1x96x224x224, .f32⟩
  | 27 => ⟨S1x96x224x224, .f32⟩
  | 28 => ⟨S1x96x224x224, .f32⟩
  | 29 => ⟨S1x96x1x1, .f32⟩
  | 30 => ⟨S1x96x224x224, .f32⟩
  | 31 => ⟨S1x96x224x224, .f32⟩
  | 32 => ⟨S1x96x224x224, .f32⟩
  | 33 => ⟨S1x96x224x224, .f32⟩
  | 34 => ⟨S1x96x224x224, .f32⟩
  | 35 => ⟨S1x96x1x1, .f32⟩
  | 36 => ⟨S1x96x224x224, .f32⟩
  | 37 => ⟨S1x96x224x224, .f32⟩
  | 38 => ⟨S1x96x224x224, .f32⟩
  | 39 => ⟨S1x96x224x224, .f32⟩
  | 40 => ⟨S1x96x224x224, .f32⟩
  | 41 => ⟨S_, .f32⟩
  | 42 => ⟨S1x96x224x224, .f32⟩
  | 43 => ⟨S1x96x224x224, .f32⟩
  | 44 => ⟨S1x96x1x2, .f32⟩
  | 45 => ⟨S1x96x1x1, .f32⟩
  | 46 => ⟨S1x96x224x224, .f32⟩
  | 47 => ⟨S1x96x224x224, .f32⟩
  | 48 => ⟨S_, .f32⟩
  | 49 => ⟨S1x96x226x226, .f32⟩
  | 50 => ⟨S1x96x224x224, .f32⟩
  | 51 => ⟨S96x96x1x1, .f32⟩
  | 52 => ⟨S96x96, .f32⟩
  | 53 => ⟨S96x1x224x224, .f32⟩
  | 54 => ⟨S1x96x224x224, .f32⟩
  | 55 => ⟨S1x96x224x224, .f32⟩
  | 56 => ⟨S96x96x1x1, .f32⟩
  | 57 => ⟨S96x96, .f32⟩
  | 58 => ⟨S96x1x224x224, .f32⟩
  | 59 => ⟨S1x96x224x224, .f32⟩
  | 60 => ⟨S1x96x224x224, .f32⟩
  | 61 => ⟨S1x96x224x224, .f32⟩
  | 62 => ⟨S96x96x1x1, .f32⟩
  | 63 => ⟨S96x96, .f32⟩
  | 64 => ⟨S96x1x224x224, .f32⟩
  | 65 => ⟨S1x96x224x224, .f32⟩
  | 66 => ⟨S1x96x224x224, .f32⟩
  | 67 => ⟨S1x96x224x224, .f32⟩
  | 68 => ⟨S96x96x1x1, .f32⟩
  | 69 => ⟨S96x96, .f32⟩
  | 70 => ⟨S96x1x224x224, .f32⟩
  | 71 => ⟨S1x96x224x224, .f32⟩
  | 72 => ⟨S1x96x224x224, .f32⟩
  | 73 => ⟨S1x96x224x224, .f32⟩
  | 74 => ⟨S96x96x1x1, .f32⟩
  | 75 => ⟨S96x96, .f32⟩
  | 76 => ⟨S96x1x224x224, .f32⟩
  | 77 => ⟨S1x96x224x224, .f32⟩
  | 78 => ⟨S1x96x224x224, .f32⟩
  | 79 => ⟨S1x96x224x224, .f32⟩
  | 80 => ⟨S96x96x1x1, .f32⟩
  | 81 => ⟨S96x96, .f32⟩
  | 82 => ⟨S96x1x224x224, .f32⟩
  | 83 => ⟨S1x96x224x224, .f32⟩
  | 84 => ⟨S1x96x224x224, .f32⟩
  | 85 => ⟨S1x96x224x224, .f32⟩
  | 86 => ⟨S96x96x1x1, .f32⟩
  | 87 => ⟨S96x96, .f32⟩
  | 88 => ⟨S96x1x224x224, .f32⟩
  | 89 => ⟨S1x96x224x224, .f32⟩
  | 90 => ⟨S1x96x224x224, .f32⟩
  | 91 => ⟨S1x96x224x224, .f32⟩
  | 92 => ⟨S96x96x1x1, .f32⟩
  | 93 => ⟨S96x96, .f32⟩
  | 94 => ⟨S96x1x224x224, .f32⟩
  | 95 => ⟨S1x96x224x224, .f32⟩
  | 96 => ⟨S1x96x224x224, .f32⟩
  | 97 => ⟨S1x96x224x224, .f32⟩
  | 98 => ⟨S96x96x1x1, .f32⟩
  | 99 => ⟨S96x96, .f32⟩
  | 100 => ⟨S96x1x224x224, .f32⟩
  | 101 => ⟨S1x96x224x224, .f32⟩
  | 102 => ⟨S1x96x224x224, .f32⟩
  | 103 => ⟨S1x96x1x1, .f32⟩
  | 104 => ⟨S1x96x224x224, .f32⟩
  | 105 => ⟨S1x96x224x224, .f32⟩
  | 106 => ⟨S1x96x1x1, .f32⟩
  | 107 => ⟨S1x96x224x224, .f32⟩
  | 108 => ⟨S1x96x224x224, .f32⟩
  | 109 => ⟨S_, .f32⟩
  | 110 => ⟨S1x96x226x226, .f32⟩
  | 111 => ⟨S1x96x224x224, .f32⟩
  | 112 => ⟨S96x96x1x1, .f32⟩
  | 113 => ⟨S96x96, .f32⟩
  | 114 => ⟨S96x1x224x224, .f32⟩
  | 115 => ⟨S1x96x224x224, .f32⟩
  | 116 => ⟨S1x96x224x224, .f32⟩
  | 117 => ⟨S96x96x1x1, .f32⟩
  | 118 => ⟨S96x96, .f32⟩
  | 119 => ⟨S96x1x224x224, .f32⟩
  | 120 => ⟨S1x96x224x224, .f32⟩
  | 121 => ⟨S1x96x224x224, .f32⟩
  | 122 => ⟨S1x96x224x224, .f32⟩
  | 123 => ⟨S96x96x1x1, .f32⟩
  | 124 => ⟨S96x96, .f32⟩
  | 125 => ⟨S96x1x224x224, .f32⟩
  | 126 => ⟨S1x96x224x224, .f32⟩
  | 127 => ⟨S1x96x224x224, .f32⟩
  | _ => ⟨S1x96x224x224, .f32⟩

abbrev hbmTy0_6 (i : Nat) : BufTy := match i % 128 with
  | 0 => ⟨S1x96x224x224, .f32⟩
  | 1 => ⟨S96x96x1x1, .f32⟩
  | 2 => ⟨S96x96, .f32⟩
  | 3 => ⟨S96x1x224x224, .f32⟩
  | 4 => ⟨S1x96x224x224, .f32⟩
  | 5 => ⟨S1x96x224x224, .f32⟩
  | 6 => ⟨S1x96x224x224, .f32⟩
  | 7 => ⟨S96x96x1x1, .f32⟩
  | 8 => ⟨S96x96, .f32⟩
  | 9 => ⟨S96x1x224x224, .f32⟩
  | 10 => ⟨S1x96x224x224, .f32⟩
  | 11 => ⟨S1x96x224x224, .f32⟩
  | 12 => ⟨S1x96x224x224, .f32⟩
  | 13 => ⟨S96x96x1x1, .f32⟩
  | 14 => ⟨S96x96, .f32⟩
  | 15 => ⟨S96x1x224x224, .f32⟩
  | 16 => ⟨S1x96x224x224, .f32⟩
  | 17 => ⟨S1x96x224x224, .f32⟩
  | 18 => ⟨S1x96x224x224, .f32⟩
  | 19 => ⟨S96x96x1x1, .f32⟩
  | 20 => ⟨S96x96, .f32⟩
  | 21 => ⟨S96x1x224x224, .f32⟩
  | 22 => ⟨S1x96x224x224, .f32⟩
  | 23 => ⟨S1x96x224x224, .f32⟩
  | 24 => ⟨S1x96x224x224, .f32⟩
  | 25 => ⟨S96x96x1x1, .f32⟩
  | 26 => ⟨S96x96, .f32⟩
  | 27 => ⟨S96x1x224x224, .f32⟩
  | 28 => ⟨S1x96x224x224, .f32⟩
  | 29 => ⟨S1x96x224x224, .f32⟩
  | 30 => ⟨S1x96x224x224, .f32⟩
  | 31 => ⟨S96x96x1x1, .f32⟩
  | 32 => ⟨S96x96, .f32⟩
  | 33 => ⟨S96x1x224x224, .f32⟩
  | 34 => ⟨S1x96x224x224, .f32⟩
  | 35 => ⟨S1x96x224x224, .f32⟩
  | 36 => ⟨S1x96x1x1, .f32⟩
  | 37 => ⟨S1x96x224x224, .f32⟩
  | 38 => ⟨S1x96x224x224, .f32⟩
  | 39 => ⟨S1x96x1x1, .f32⟩
  | 40 => ⟨S1x96x224x224, .f32⟩
  | 41 => ⟨S1x96x224x224, .f32⟩
  | 42 => ⟨S1x96x224x224, .f32⟩
  | 43 => ⟨S1x96x224x224, .f32⟩
  | 44 => ⟨S1x96x1x1, .f32⟩
  | 45 => ⟨S1x96x224x224, .f32⟩
  | 46 => ⟨S1x96x224x224, .f32⟩
  | 47 => ⟨S1x96x224x224, .f32⟩
  | 48 => ⟨S1x96x1x1, .f32⟩
  | 49 => ⟨S1x96x224x224, .f32⟩
  | 50 => ⟨S1x96x224x224, .f32⟩
  | 51 => ⟨S1x96x224x224, .f32⟩
  | 52 => ⟨S1x96x224x224, .f32⟩
  | 53 => ⟨S1x96x224x224, .f32⟩
  | 54 => ⟨S1x96x1x1, .f32⟩
  | 55 => ⟨S1x96x224x224, .f32⟩
  | 56 => ⟨S1x96x224x224, .f32⟩
  | 57 => ⟨S1x96x224x224, .f32⟩
  | 58 => ⟨S1x96x224x224, .f32⟩
  | 59 => ⟨S1x96x224x224, .f32⟩
  | 60 => ⟨S_, .f32⟩
  | 61 => ⟨S1x96x224x224, .f32⟩
  | 62 => ⟨S1x96x224x224, .f32⟩
  | 63 => ⟨S1x384x224x224, .f32⟩
  | 64 => ⟨S96x384, .f32⟩
  | 65 => ⟨S96x1x224x224, .f32⟩
  | 66 => ⟨S1x96x224x224, .f32⟩
  | 67 => ⟨S1x96x1x1, .f32⟩
  | 68 => ⟨S1x96x224x224, .f32⟩
  | 69 => ⟨S1x96x224x224, .f32⟩
  | _ => ⟨S1x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c : Ref sig .tc := ⟨.hbm, 37, rfl⟩
abbrev main_call0_v12 : Ref sig .tc := ⟨.hbm, 38, rfl⟩
abbrev main_call0_v13 : Ref sig .tc := ⟨.hbm, 39, rfl⟩
abbrev main_call0_c_0 : Ref sig .tc := ⟨.hbm, 40, rfl⟩
abbrev main_call0_v14 : Ref sig .tc := ⟨.hbm, 41, rfl⟩
abbrev main_call0_v15 : Ref sig .tc := ⟨.hbm, 42, rfl⟩
abbrev main_call0_c_1 : Ref sig .tc := ⟨.hbm, 43, rfl⟩
abbrev main_call0_v16 : Ref sig .tc := ⟨.hbm, 44, rfl⟩
abbrev main_call0_v17 : Ref sig .tc := ⟨.hbm, 45, rfl⟩
abbrev main_call0_c_2 : Ref sig .tc := ⟨.hbm, 46, rfl⟩
abbrev main_call0_v18 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_call0_v22 : Ref sig .tc := ⟨.hbm, 51, rfl⟩
abbrev main_call0_c_3 : Ref sig .tc := ⟨.hbm, 52, rfl⟩
abbrev main_call0_v23 : Ref sig .tc := ⟨.hbm, 53, rfl⟩
abbrev main_call0_v24 : Ref sig .tc := ⟨.hbm, 54, rfl⟩
abbrev main_call0_v25 : Ref sig .tc := ⟨.hbm, 55, rfl⟩
abbrev main_call0_v26 : Ref sig .tc := ⟨.hbm, 56, rfl⟩
abbrev main_call0_call0_v0 : Ref sig .tc := ⟨.hbm, 57, rfl⟩
abbrev main_call0_call0_c : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_c_0 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_c_1 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_call0_v12 : Ref sig .tc := ⟨.hbm, 72, rfl⟩
abbrev main_call0_call0_v13 : Ref sig .tc := ⟨.hbm, 73, rfl⟩
abbrev main_call0_call0_c_2 : Ref sig .tc := ⟨.hbm, 74, rfl⟩
abbrev main_call0_call0_v14 : Ref sig .tc := ⟨.hbm, 75, rfl⟩
abbrev main_call0_call0_v15 : Ref sig .tc := ⟨.hbm, 76, rfl⟩
abbrev main_call0_call0_c_3 : Ref sig .tc := ⟨.hbm, 77, rfl⟩
abbrev main_call0_call0_v16 : Ref sig .tc := ⟨.hbm, 78, rfl⟩
abbrev main_call0_call0_v17 : Ref sig .tc := ⟨.hbm, 79, rfl⟩
abbrev main_call0_call0_v18 : Ref sig .tc := ⟨.hbm, 80, rfl⟩
abbrev main_call0_call0_v19 : Ref sig .tc := ⟨.hbm, 81, rfl⟩
abbrev main_call0_call0_v20 : Ref sig .tc := ⟨.hbm, 82, rfl⟩
abbrev main_call0_call0_c_4 : Ref sig .tc := ⟨.hbm, 83, rfl⟩
abbrev main_call0_call0_v21 : Ref sig .tc := ⟨.hbm, 84, rfl⟩
abbrev main_call0_call0_v22 : Ref sig .tc := ⟨.hbm, 85, rfl⟩
abbrev main_call0_call0_c_5 : Ref sig .tc := ⟨.hbm, 86, rfl⟩
abbrev main_call0_call0_v23 : Ref sig .tc := ⟨.hbm, 87, rfl⟩
abbrev main_call0_call0_v24 : Ref sig .tc := ⟨.hbm, 88, rfl⟩
abbrev main_call0_call0_v25 : Ref sig .tc := ⟨.hbm, 89, rfl⟩
abbrev main_call0_call0_v26 : Ref sig .tc := ⟨.hbm, 90, rfl⟩
abbrev main_call0_call0_v27 : Ref sig .tc := ⟨.hbm, 91, rfl⟩
abbrev main_call0_call0_c_6 : Ref sig .tc := ⟨.hbm, 92, rfl⟩
abbrev main_call0_call0_v28 : Ref sig .tc := ⟨.hbm, 93, rfl⟩
abbrev main_call0_call0_v29 : Ref sig .tc := ⟨.hbm, 94, rfl⟩
abbrev main_call0_call0_c_7 : Ref sig .tc := ⟨.hbm, 95, rfl⟩
abbrev main_call0_call0_v30 : Ref sig .tc := ⟨.hbm, 96, rfl⟩
abbrev main_call0_call0_v31 : Ref sig .tc := ⟨.hbm, 97, rfl⟩
abbrev main_call0_call0_v32 : Ref sig .tc := ⟨.hbm, 98, rfl⟩
abbrev main_call0_call0_v33 : Ref sig .tc := ⟨.hbm, 99, rfl⟩
abbrev main_call0_call0_v34 : Ref sig .tc := ⟨.hbm, 100, rfl⟩
abbrev main_call0_call0_v35 : Ref sig .tc := ⟨.hbm, 101, rfl⟩
abbrev main_call0_call0_v36 : Ref sig .tc := ⟨.hbm, 102, rfl⟩
abbrev main_call0_call0_v37 : Ref sig .tc := ⟨.hbm, 103, rfl⟩
abbrev main_call0_call0_c_8 : Ref sig .tc := ⟨.hbm, 104, rfl⟩
abbrev main_call0_call0_v38 : Ref sig .tc := ⟨.hbm, 105, rfl⟩
abbrev main_call0_call0_v39 : Ref sig .tc := ⟨.hbm, 106, rfl⟩
abbrev main_call0_call0_v40 : Ref sig .tc := ⟨.hbm, 107, rfl⟩
abbrev main_call0_call0_c_9 : Ref sig .tc := ⟨.hbm, 108, rfl⟩
abbrev main_call0_call0_v41 : Ref sig .tc := ⟨.hbm, 109, rfl⟩
abbrev main_call0_call0_v42 : Ref sig .tc := ⟨.hbm, 110, rfl⟩
abbrev main_call0_call0_c_10 : Ref sig .tc := ⟨.hbm, 111, rfl⟩
abbrev main_call0_call0_v43 : Ref sig .tc := ⟨.hbm, 112, rfl⟩
abbrev main_call0_call0_v44 : Ref sig .tc := ⟨.hbm, 113, rfl⟩
abbrev main_call0_call0_v45 : Ref sig .tc := ⟨.hbm, 114, rfl⟩
abbrev main_call0_call0_v46 : Ref sig .tc := ⟨.hbm, 115, rfl⟩
abbrev main_call0_call0_v47 : Ref sig .tc := ⟨.hbm, 116, rfl⟩
abbrev main_call0_call0_c_11 : Ref sig .tc := ⟨.hbm, 117, rfl⟩
abbrev main_call0_call0_v48 : Ref sig .tc := ⟨.hbm, 118, rfl⟩
abbrev main_call0_call0_v49 : Ref sig .tc := ⟨.hbm, 119, rfl⟩
abbrev main_call0_call0_c_12 : Ref sig .tc := ⟨.hbm, 120, rfl⟩
abbrev main_call0_call0_v50 : Ref sig .tc := ⟨.hbm, 121, rfl⟩
abbrev main_call0_call0_v51 : Ref sig .tc := ⟨.hbm, 122, rfl⟩
abbrev main_call0_call0_v52 : Ref sig .tc := ⟨.hbm, 123, rfl⟩
abbrev main_call0_call0_v53 : Ref sig .tc := ⟨.hbm, 124, rfl⟩
abbrev main_call0_call0_v54 : Ref sig .tc := ⟨.hbm, 125, rfl⟩
abbrev main_call0_call0_c_13 : Ref sig .tc := ⟨.hbm, 126, rfl⟩
abbrev main_call0_call0_v55 : Ref sig .tc := ⟨.hbm, 127, rfl⟩
abbrev main_call0_call0_v56 : Ref sig .tc := ⟨.hbm, 128, rfl⟩
abbrev main_call0_call0_c_14 : Ref sig .tc := ⟨.hbm, 129, rfl⟩
abbrev main_call0_call0_v57 : Ref sig .tc := ⟨.hbm, 130, rfl⟩
abbrev main_call0_call0_v58 : Ref sig .tc := ⟨.hbm, 131, rfl⟩
abbrev main_call0_call0_v59 : Ref sig .tc := ⟨.hbm, 132, rfl⟩
abbrev main_call0_call0_v60 : Ref sig .tc := ⟨.hbm, 133, rfl⟩
abbrev main_call0_call0_v61 : Ref sig .tc := ⟨.hbm, 134, rfl⟩
abbrev main_call0_call0_c_15 : Ref sig .tc := ⟨.hbm, 135, rfl⟩
abbrev main_call0_call0_v62 : Ref sig .tc := ⟨.hbm, 136, rfl⟩
abbrev main_call0_call0_v63 : Ref sig .tc := ⟨.hbm, 137, rfl⟩
abbrev main_call0_call0_c_16 : Ref sig .tc := ⟨.hbm, 138, rfl⟩
abbrev main_call0_call0_v64 : Ref sig .tc := ⟨.hbm, 139, rfl⟩
abbrev main_call0_call0_v65 : Ref sig .tc := ⟨.hbm, 140, rfl⟩
abbrev main_call0_call0_v66 : Ref sig .tc := ⟨.hbm, 141, rfl⟩
abbrev main_call0_call0_v67 : Ref sig .tc := ⟨.hbm, 142, rfl⟩
abbrev main_call0_call0_v68 : Ref sig .tc := ⟨.hbm, 143, rfl⟩
abbrev main_call0_call0_v69 : Ref sig .tc := ⟨.hbm, 144, rfl⟩
abbrev main_call0_call0_v70 : Ref sig .tc := ⟨.hbm, 145, rfl⟩
abbrev main_call0_call0_v71 : Ref sig .tc := ⟨.hbm, 146, rfl⟩
abbrev main_call0_call0_c_17 : Ref sig .tc := ⟨.hbm, 147, rfl⟩
abbrev main_call0_call0_v72 : Ref sig .tc := ⟨.hbm, 148, rfl⟩
abbrev main_call0_call0_v73 : Ref sig .tc := ⟨.hbm, 149, rfl⟩
abbrev main_call0_call0_v74 : Ref sig .tc := ⟨.hbm, 150, rfl⟩
abbrev main_call0_call0_c_18 : Ref sig .tc := ⟨.hbm, 151, rfl⟩
abbrev main_call0_call0_v75 : Ref sig .tc := ⟨.hbm, 152, rfl⟩
abbrev main_call0_call0_v76 : Ref sig .tc := ⟨.hbm, 153, rfl⟩
abbrev main_call0_call0_c_19 : Ref sig .tc := ⟨.hbm, 154, rfl⟩
abbrev main_call0_call0_v77 : Ref sig .tc := ⟨.hbm, 155, rfl⟩
abbrev main_call0_call0_v78 : Ref sig .tc := ⟨.hbm, 156, rfl⟩
abbrev main_call0_call0_v79 : Ref sig .tc := ⟨.hbm, 157, rfl⟩
abbrev main_call0_call0_v80 : Ref sig .tc := ⟨.hbm, 158, rfl⟩
abbrev main_call0_call0_v81 : Ref sig .tc := ⟨.hbm, 159, rfl⟩
abbrev main_call0_call0_c_20 : Ref sig .tc := ⟨.hbm, 160, rfl⟩
abbrev main_call0_call0_v82 : Ref sig .tc := ⟨.hbm, 161, rfl⟩
abbrev main_call0_call0_v83 : Ref sig .tc := ⟨.hbm, 162, rfl⟩
abbrev main_call0_call0_c_21 : Ref sig .tc := ⟨.hbm, 163, rfl⟩
abbrev main_call0_call0_v84 : Ref sig .tc := ⟨.hbm, 164, rfl⟩
abbrev main_call0_call0_v85 : Ref sig .tc := ⟨.hbm, 165, rfl⟩
abbrev main_call0_call0_v86 : Ref sig .tc := ⟨.hbm, 166, rfl⟩
abbrev main_call0_call0_v87 : Ref sig .tc := ⟨.hbm, 167, rfl⟩
abbrev main_call0_call0_v88 : Ref sig .tc := ⟨.hbm, 168, rfl⟩
abbrev main_call0_call0_c_22 : Ref sig .tc := ⟨.hbm, 169, rfl⟩
abbrev main_call0_call0_v89 : Ref sig .tc := ⟨.hbm, 170, rfl⟩
abbrev main_call0_call0_v90 : Ref sig .tc := ⟨.hbm, 171, rfl⟩
abbrev main_call0_call0_c_23 : Ref sig .tc := ⟨.hbm, 172, rfl⟩
abbrev main_call0_call0_v91 : Ref sig .tc := ⟨.hbm, 173, rfl⟩
abbrev main_call0_call0_v92 : Ref sig .tc := ⟨.hbm, 174, rfl⟩
abbrev main_call0_call0_v93 : Ref sig .tc := ⟨.hbm, 175, rfl⟩
abbrev main_call0_call0_v94 : Ref sig .tc := ⟨.hbm, 176, rfl⟩
abbrev main_call0_call0_v95 : Ref sig .tc := ⟨.hbm, 177, rfl⟩
abbrev main_call0_call0_c_24 : Ref sig .tc := ⟨.hbm, 178, rfl⟩
abbrev main_call0_call0_v96 : Ref sig .tc := ⟨.hbm, 179, rfl⟩
abbrev main_call0_call0_v97 : Ref sig .tc := ⟨.hbm, 180, rfl⟩
abbrev main_call0_call0_c_25 : Ref sig .tc := ⟨.hbm, 181, rfl⟩
abbrev main_call0_call0_v98 : Ref sig .tc := ⟨.hbm, 182, rfl⟩
abbrev main_call0_call0_v99 : Ref sig .tc := ⟨.hbm, 183, rfl⟩
abbrev main_call0_call0_v100 : Ref sig .tc := ⟨.hbm, 184, rfl⟩
abbrev main_call0_call0_v101 : Ref sig .tc := ⟨.hbm, 185, rfl⟩
abbrev main_call0_call0_v102 : Ref sig .tc := ⟨.hbm, 186, rfl⟩
abbrev main_call0_call0_v103 : Ref sig .tc := ⟨.hbm, 187, rfl⟩
abbrev main_call0_call0_v104 : Ref sig .tc := ⟨.hbm, 188, rfl⟩
abbrev main_call0_call0_v105 : Ref sig .tc := ⟨.hbm, 189, rfl⟩
abbrev main_call0_call0_c_26 : Ref sig .tc := ⟨.hbm, 190, rfl⟩
abbrev main_call0_call0_v106 : Ref sig .tc := ⟨.hbm, 191, rfl⟩
abbrev main_call0_call0_v107 : Ref sig .tc := ⟨.hbm, 192, rfl⟩
abbrev main_call0_call0_v108 : Ref sig .tc := ⟨.hbm, 193, rfl⟩
abbrev main_call0_call0_c_27 : Ref sig .tc := ⟨.hbm, 194, rfl⟩
abbrev main_call0_call0_v109 : Ref sig .tc := ⟨.hbm, 195, rfl⟩
abbrev main_call0_call0_v110 : Ref sig .tc := ⟨.hbm, 196, rfl⟩
abbrev main_call0_call0_c_28 : Ref sig .tc := ⟨.hbm, 197, rfl⟩
abbrev main_call0_call0_v111 : Ref sig .tc := ⟨.hbm, 198, rfl⟩
abbrev main_call0_call0_v112 : Ref sig .tc := ⟨.hbm, 199, rfl⟩
abbrev main_call0_call0_v113 : Ref sig .tc := ⟨.hbm, 200, rfl⟩
abbrev main_call0_call0_v114 : Ref sig .tc := ⟨.hbm, 201, rfl⟩
abbrev main_call0_call0_v115 : Ref sig .tc := ⟨.hbm, 202, rfl⟩
abbrev main_call0_call0_c_29 : Ref sig .tc := ⟨.hbm, 203, rfl⟩
abbrev main_call0_call0_v116 : Ref sig .tc := ⟨.hbm, 204, rfl⟩
abbrev main_call0_call0_v117 : Ref sig .tc := ⟨.hbm, 205, rfl⟩
abbrev main_call0_call0_c_30 : Ref sig .tc := ⟨.hbm, 206, rfl⟩
abbrev main_call0_call0_v118 : Ref sig .tc := ⟨.hbm, 207, rfl⟩
abbrev main_call0_call0_v119 : Ref sig .tc := ⟨.hbm, 208, rfl⟩
abbrev main_call0_call0_v120 : Ref sig .tc := ⟨.hbm, 209, rfl⟩
abbrev main_call0_call0_v121 : Ref sig .tc := ⟨.hbm, 210, rfl⟩
abbrev main_call0_call0_v122 : Ref sig .tc := ⟨.hbm, 211, rfl⟩
abbrev main_call0_call0_c_31 : Ref sig .tc := ⟨.hbm, 212, rfl⟩
abbrev main_call0_call0_v123 : Ref sig .tc := ⟨.hbm, 213, rfl⟩
abbrev main_call0_call0_v124 : Ref sig .tc := ⟨.hbm, 214, rfl⟩
abbrev main_call0_call0_c_32 : Ref sig .tc := ⟨.hbm, 215, rfl⟩
abbrev main_call0_call0_v125 : Ref sig .tc := ⟨.hbm, 216, rfl⟩
abbrev main_call0_call0_v126 : Ref sig .tc := ⟨.hbm, 217, rfl⟩
abbrev main_call0_call0_v127 : Ref sig .tc := ⟨.hbm, 218, rfl⟩
abbrev main_call0_call0_v128 : Ref sig .tc := ⟨.hbm, 219, rfl⟩
abbrev main_call0_call0_v129 : Ref sig .tc := ⟨.hbm, 220, rfl⟩
abbrev main_call0_call0_c_33 : Ref sig .tc := ⟨.hbm, 221, rfl⟩
abbrev main_call0_call0_v130 : Ref sig .tc := ⟨.hbm, 222, rfl⟩
abbrev main_call0_call0_v131 : Ref sig .tc := ⟨.hbm, 223, rfl⟩
abbrev main_call0_call0_c_34 : Ref sig .tc := ⟨.hbm, 224, rfl⟩
abbrev main_call0_call0_v132 : Ref sig .tc := ⟨.hbm, 225, rfl⟩
abbrev main_call0_call0_v133 : Ref sig .tc := ⟨.hbm, 226, rfl⟩
abbrev main_call0_call0_v134 : Ref sig .tc := ⟨.hbm, 227, rfl⟩
abbrev main_call0_call0_v135 : Ref sig .tc := ⟨.hbm, 228, rfl⟩
abbrev main_call0_call0_v136 : Ref sig .tc := ⟨.hbm, 229, rfl⟩
abbrev main_call0_call0_v137 : Ref sig .tc := ⟨.hbm, 230, rfl⟩
abbrev main_call0_call0_v138 : Ref sig .tc := ⟨.hbm, 231, rfl⟩
abbrev main_call0_call0_v139 : Ref sig .tc := ⟨.hbm, 232, rfl⟩
abbrev main_call0_call0_c_35 : Ref sig .tc := ⟨.hbm, 233, rfl⟩
abbrev main_call0_call0_v140 : Ref sig .tc := ⟨.hbm, 234, rfl⟩
abbrev main_call0_call0_v141 : Ref sig .tc := ⟨.hbm, 235, rfl⟩
abbrev main_call0_call0_v142 : Ref sig .tc := ⟨.hbm, 236, rfl⟩
abbrev main_call0_call0_c_36 : Ref sig .tc := ⟨.hbm, 237, rfl⟩
abbrev main_call0_call0_v143 : Ref sig .tc := ⟨.hbm, 238, rfl⟩
abbrev main_call0_call0_v144 : Ref sig .tc := ⟨.hbm, 239, rfl⟩
abbrev main_call0_call0_c_37 : Ref sig .tc := ⟨.hbm, 240, rfl⟩
abbrev main_call0_call0_v145 : Ref sig .tc := ⟨.hbm, 241, rfl⟩
abbrev main_call0_call0_v146 : Ref sig .tc := ⟨.hbm, 242, rfl⟩
abbrev main_call0_call0_v147 : Ref sig .tc := ⟨.hbm, 243, rfl⟩
abbrev main_call0_call0_v148 : Ref sig .tc := ⟨.hbm, 244, rfl⟩
abbrev main_call0_call0_v149 : Ref sig .tc := ⟨.hbm, 245, rfl⟩
abbrev main_call0_call0_c_38 : Ref sig .tc := ⟨.hbm, 246, rfl⟩
abbrev main_call0_call0_v150 : Ref sig .tc := ⟨.hbm, 247, rfl⟩
abbrev main_call0_call0_v151 : Ref sig .tc := ⟨.hbm, 248, rfl⟩
abbrev main_call0_call0_c_39 : Ref sig .tc := ⟨.hbm, 249, rfl⟩
abbrev main_call0_call0_v152 : Ref sig .tc := ⟨.hbm, 250, rfl⟩
abbrev main_call0_call0_v153 : Ref sig .tc := ⟨.hbm, 251, rfl⟩
abbrev main_call0_call0_v154 : Ref sig .tc := ⟨.hbm, 252, rfl⟩
abbrev main_call0_call0_v155 : Ref sig .tc := ⟨.hbm, 253, rfl⟩
abbrev main_call0_call0_v156 : Ref sig .tc := ⟨.hbm, 254, rfl⟩
abbrev main_call0_call0_c_40 : Ref sig .tc := ⟨.hbm, 255, rfl⟩
abbrev main_call0_call0_v157 : Ref sig .tc := ⟨.hbm, 256, rfl⟩
abbrev main_call0_call0_v158 : Ref sig .tc := ⟨.hbm, 257, rfl⟩
abbrev main_call0_call0_c_41 : Ref sig .tc := ⟨.hbm, 258, rfl⟩
abbrev main_call0_call0_v159 : Ref sig .tc := ⟨.hbm, 259, rfl⟩
abbrev main_call0_call0_v160 : Ref sig .tc := ⟨.hbm, 260, rfl⟩
abbrev main_call0_call0_v161 : Ref sig .tc := ⟨.hbm, 261, rfl⟩
abbrev main_call0_call0_v162 : Ref sig .tc := ⟨.hbm, 262, rfl⟩
abbrev main_call0_call0_v163 : Ref sig .tc := ⟨.hbm, 263, rfl⟩
abbrev main_call0_call0_c_42 : Ref sig .tc := ⟨.hbm, 264, rfl⟩
abbrev main_call0_call0_v164 : Ref sig .tc := ⟨.hbm, 265, rfl⟩
abbrev main_call0_call0_v165 : Ref sig .tc := ⟨.hbm, 266, rfl⟩
abbrev main_call0_call0_c_43 : Ref sig .tc := ⟨.hbm, 267, rfl⟩
abbrev main_call0_call0_v166 : Ref sig .tc := ⟨.hbm, 268, rfl⟩
abbrev main_call0_call0_v167 : Ref sig .tc := ⟨.hbm, 269, rfl⟩
abbrev main_call0_call0_v168 : Ref sig .tc := ⟨.hbm, 270, rfl⟩
abbrev main_call0_call0_v169 : Ref sig .tc := ⟨.hbm, 271, rfl⟩
abbrev main_call0_call0_v170 : Ref sig .tc := ⟨.hbm, 272, rfl⟩
abbrev main_call0_v27_0 : Ref sig .tc := ⟨.hbm, 273, rfl⟩
abbrev main_call0_call0_v172 : Ref sig .tc := ⟨.hbm, 274, rfl⟩
abbrev main_call0_call0_v173 : Ref sig .tc := ⟨.hbm, 275, rfl⟩
abbrev main_call0_call0_c_44 : Ref sig .tc := ⟨.hbm, 276, rfl⟩
abbrev main_call0_call0_v174 : Ref sig .tc := ⟨.hbm, 277, rfl⟩
abbrev main_call0_v27_1 : Ref sig .tc := ⟨.hbm, 278, rfl⟩
abbrev main_call0_v28 : Ref sig .tc := ⟨.hbm, 279, rfl⟩
abbrev main_call0_c_4 : Ref sig .tc := ⟨.hbm, 280, rfl⟩
abbrev main_call0_v29 : Ref sig .tc := ⟨.hbm, 281, rfl⟩
abbrev main_call0_v30 : Ref sig .tc := ⟨.hbm, 282, rfl⟩
abbrev main_call0_c_5 : Ref sig .tc := ⟨.hbm, 283, rfl⟩
abbrev main_call0_v31 : Ref sig .tc := ⟨.hbm, 284, rfl⟩
abbrev main_call0_v32 : Ref sig .tc := ⟨.hbm, 285, rfl⟩
abbrev main_call0_v33 : Ref sig .tc := ⟨.hbm, 286, rfl⟩
abbrev main_call0_cst : Ref sig .tc := ⟨.hbm, 287, rfl⟩
abbrev main_call0_v34 : Ref sig .tc := ⟨.hbm, 288, rfl⟩
abbrev main_call0_v35 : Ref sig .tc := ⟨.hbm, 289, rfl⟩
abbrev main_call0_v36 : Ref sig .tc := ⟨.hbm, 290, rfl⟩
abbrev main_call0_v37 : Ref sig .tc := ⟨.hbm, 291, rfl⟩
abbrev main_call0_v38 : Ref sig .tc := ⟨.hbm, 292, rfl⟩
abbrev main_call0_v39 : Ref sig .tc := ⟨.hbm, 293, rfl⟩
abbrev main_call0_v40 : Ref sig .tc := ⟨.hbm, 294, rfl⟩
abbrev main_call0_v41 : Ref sig .tc := ⟨.hbm, 295, rfl⟩
abbrev main_v7 : Ref sig .tc := ⟨.hbm, 296, rfl⟩
abbrev main_v8 : Ref sig .tc := ⟨.hbm, 297, rfl⟩
abbrev main_v9 : Ref sig .tc := ⟨.hbm, 298, rfl⟩
abbrev main_v10 : Ref sig .tc := ⟨.hbm, 299, rfl⟩
abbrev main_v11 : Ref sig .tc := ⟨.hbm, 300, rfl⟩
abbrev main_v12 : Ref sig .tc := ⟨.hbm, 301, rfl⟩
abbrev main_cst_3 : Ref sig .tc := ⟨.hbm, 302, rfl⟩
abbrev main_v13 : Ref sig .tc := ⟨.hbm, 303, rfl⟩
abbrev main_v14 : Ref sig .tc := ⟨.hbm, 304, rfl⟩
abbrev main_cst_4 : Ref sig .tc := ⟨.hbm, 305, rfl⟩
abbrev main_v15 : Ref sig .tc := ⟨.hbm, 306, rfl⟩
abbrev main_cst_5 : Ref sig .tc := ⟨.hbm, 307, rfl⟩
abbrev main_v16 : Ref sig .tc := ⟨.hbm, 308, rfl⟩
abbrev main_v17 : Ref sig .tc := ⟨.hbm, 309, rfl⟩
abbrev main_v18 : Ref sig .tc := ⟨.hbm, 310, rfl⟩
abbrev main_v19 : Ref sig .tc := ⟨.hbm, 311, rfl⟩
abbrev main_v20 : Ref sig .tc := ⟨.hbm, 312, rfl⟩
abbrev main_v21 : Ref sig .tc := ⟨.hbm, 313, rfl⟩
abbrev main_cst_6 : Ref sig .tc := ⟨.hbm, 314, rfl⟩
abbrev main_v22 : Ref sig .tc := ⟨.hbm, 315, rfl⟩
abbrev main_v23 : Ref sig .tc := ⟨.hbm, 316, rfl⟩
abbrev main_v24 : Ref sig .tc := ⟨.hbm, 317, rfl⟩
abbrev main_v25 : Ref sig .tc := ⟨.hbm, 318, rfl⟩
abbrev main_v26 : Ref sig .tc := ⟨.hbm, 319, rfl⟩
abbrev main_call1_cst : Ref sig .tc := ⟨.hbm, 320, rfl⟩
abbrev main_call1_v0 : Ref sig .tc := ⟨.hbm, 321, rfl⟩
abbrev main_call1_v1 : Ref sig .tc := ⟨.hbm, 322, rfl⟩
abbrev main_call1_v2 : Ref sig .tc := ⟨.hbm, 323, rfl⟩
abbrev main_call1_v3 : Ref sig .tc := ⟨.hbm, 324, rfl⟩
abbrev main_call1_v4 : Ref sig .tc := ⟨.hbm, 325, rfl⟩
abbrev main_call1_v5 : Ref sig .tc := ⟨.hbm, 326, rfl⟩
abbrev main_call1_v6 : Ref sig .tc := ⟨.hbm, 327, rfl⟩
abbrev main_call1_v7 : Ref sig .tc := ⟨.hbm, 328, rfl⟩
abbrev main_call1_v8 : Ref sig .tc := ⟨.hbm, 329, rfl⟩
abbrev main_call1_v9 : Ref sig .tc := ⟨.hbm, 330, rfl⟩
abbrev main_call1_v10 : Ref sig .tc := ⟨.hbm, 331, rfl⟩
abbrev main_call1_v11 : Ref sig .tc := ⟨.hbm, 332, rfl⟩
abbrev main_call1_v12 : Ref sig .tc := ⟨.hbm, 333, rfl⟩
abbrev main_call1_v13 : Ref sig .tc := ⟨.hbm, 334, rfl⟩
abbrev main_call1_v14 : Ref sig .tc := ⟨.hbm, 335, rfl⟩
abbrev main_call1_v15 : Ref sig .tc := ⟨.hbm, 336, rfl⟩
abbrev main_call1_v16 : Ref sig .tc := ⟨.hbm, 337, rfl⟩
abbrev main_call1_v17 : Ref sig .tc := ⟨.hbm, 338, rfl⟩
abbrev main_call1_v18 : Ref sig .tc := ⟨.hbm, 339, rfl⟩
abbrev main_call1_v19 : Ref sig .tc := ⟨.hbm, 340, rfl⟩
abbrev main_call1_v20 : Ref sig .tc := ⟨.hbm, 341, rfl⟩
abbrev main_call1_v21 : Ref sig .tc := ⟨.hbm, 342, rfl⟩
abbrev main_call1_v22 : Ref sig .tc := ⟨.hbm, 343, rfl⟩
abbrev main_call1_v23 : Ref sig .tc := ⟨.hbm, 344, rfl⟩
abbrev main_call1_v24 : Ref sig .tc := ⟨.hbm, 345, rfl⟩
abbrev main_call1_v25 : Ref sig .tc := ⟨.hbm, 346, rfl⟩
abbrev main_call1_v26 : Ref sig .tc := ⟨.hbm, 347, rfl⟩
abbrev main_call1_v27 : Ref sig .tc := ⟨.hbm, 348, rfl⟩
abbrev main_call1_v28 : Ref sig .tc := ⟨.hbm, 349, rfl⟩
abbrev main_call1_v29 : Ref sig .tc := ⟨.hbm, 350, rfl⟩
abbrev main_call1_v30 : Ref sig .tc := ⟨.hbm, 351, rfl⟩
abbrev main_call1_v31 : Ref sig .tc := ⟨.hbm, 352, rfl⟩
abbrev main_call1_v32 : Ref sig .tc := ⟨.hbm, 353, rfl⟩
abbrev main_call1_v33 : Ref sig .tc := ⟨.hbm, 354, rfl⟩
abbrev main_call1_v34 : Ref sig .tc := ⟨.hbm, 355, rfl⟩
abbrev main_call1_v35 : Ref sig .tc := ⟨.hbm, 356, rfl⟩
abbrev main_call1_v36 : Ref sig .tc := ⟨.hbm, 357, rfl⟩
abbrev main_call1_v37 : Ref sig .tc := ⟨.hbm, 358, rfl⟩
abbrev main_call1_v38 : Ref sig .tc := ⟨.hbm, 359, rfl⟩
abbrev main_call1_v39 : Ref sig .tc := ⟨.hbm, 360, rfl⟩
abbrev main_call1_v40 : Ref sig .tc := ⟨.hbm, 361, rfl⟩
abbrev main_call1_v41 : Ref sig .tc := ⟨.hbm, 362, rfl⟩
abbrev main_call1_v42 : Ref sig .tc := ⟨.hbm, 363, rfl⟩
abbrev main_call1_v43 : Ref sig .tc := ⟨.hbm, 364, rfl⟩
abbrev main_call1_v44 : Ref sig .tc := ⟨.hbm, 365, rfl⟩
abbrev main_call1_v45 : Ref sig .tc := ⟨.hbm, 366, rfl⟩
abbrev main_call1_v46 : Ref sig .tc := ⟨.hbm, 367, rfl⟩
abbrev main_call1_v47 : Ref sig .tc := ⟨.hbm, 368, rfl⟩
abbrev main_call1_v48 : Ref sig .tc := ⟨.hbm, 369, rfl⟩
abbrev main_call1_v49 : Ref sig .tc := ⟨.hbm, 370, rfl⟩
abbrev main_call1_v50 : Ref sig .tc := ⟨.hbm, 371, rfl⟩
abbrev main_call1_v51 : Ref sig .tc := ⟨.hbm, 372, rfl⟩
abbrev main_call1_v52 : Ref sig .tc := ⟨.hbm, 373, rfl⟩
abbrev main_call1_v53 : Ref sig .tc := ⟨.hbm, 374, rfl⟩
abbrev main_call1_v54 : Ref sig .tc := ⟨.hbm, 375, rfl⟩
abbrev main_call1_v55 : Ref sig .tc := ⟨.hbm, 376, rfl⟩
abbrev main_v27 : Ref sig .tc := ⟨.hbm, 377, rfl⟩
abbrev main_v28 : Ref sig .tc := ⟨.hbm, 378, rfl⟩
abbrev main_v29 : Ref sig .tc := ⟨.hbm, 379, rfl⟩
abbrev main_v30 : Ref sig .tc := ⟨.hbm, 380, rfl⟩
abbrev main_v31 : Ref sig .tc := ⟨.hbm, 381, rfl⟩
abbrev main_v32 : Ref sig .tc := ⟨.hbm, 382, rfl⟩
abbrev main_v33 : Ref sig .tc := ⟨.hbm, 383, rfl⟩
abbrev main_v34 : Ref sig .tc := ⟨.hbm, 384, rfl⟩
abbrev main_v35 : Ref sig .tc := ⟨.hbm, 385, rfl⟩
abbrev main_v36 : Ref sig .tc := ⟨.hbm, 386, rfl⟩
abbrev main_cst_7 : Ref sig .tc := ⟨.hbm, 387, rfl⟩
abbrev main_v37 : Ref sig .tc := ⟨.hbm, 388, rfl⟩
abbrev main_v38 : Ref sig .tc := ⟨.hbm, 389, rfl⟩
abbrev main_v39 : Ref sig .tc := ⟨.hbm, 390, rfl⟩
abbrev main_v40 : Ref sig .tc := ⟨.hbm, 391, rfl⟩
abbrev main_v41 : Ref sig .tc := ⟨.hbm, 392, rfl⟩
abbrev main_v42 : Ref sig .tc := ⟨.hbm, 393, rfl⟩
abbrev main_call2_cst : Ref sig .tc := ⟨.hbm, 394, rfl⟩
abbrev main_call2_v0 : Ref sig .tc := ⟨.hbm, 395, rfl⟩
abbrev main_call2_v1 : Ref sig .tc := ⟨.hbm, 396, rfl⟩
abbrev main_call2_v2 : Ref sig .tc := ⟨.hbm, 397, rfl⟩
abbrev main_call2_v3 : Ref sig .tc := ⟨.hbm, 398, rfl⟩
abbrev main_call2_v4 : Ref sig .tc := ⟨.hbm, 399, rfl⟩
abbrev main_call2_v5 : Ref sig .tc := ⟨.hbm, 400, rfl⟩
abbrev main_call2_v6 : Ref sig .tc := ⟨.hbm, 401, rfl⟩
abbrev main_call2_v7 : Ref sig .tc := ⟨.hbm, 402, rfl⟩
abbrev main_call2_v8 : Ref sig .tc := ⟨.hbm, 403, rfl⟩
abbrev main_call2_v9 : Ref sig .tc := ⟨.hbm, 404, rfl⟩
abbrev main_call2_v10 : Ref sig .tc := ⟨.hbm, 405, rfl⟩
abbrev main_call2_v11 : Ref sig .tc := ⟨.hbm, 406, rfl⟩
abbrev main_call2_v12 : Ref sig .tc := ⟨.hbm, 407, rfl⟩
abbrev main_call2_v13 : Ref sig .tc := ⟨.hbm, 408, rfl⟩
abbrev main_call2_v14 : Ref sig .tc := ⟨.hbm, 409, rfl⟩
abbrev main_call2_v15 : Ref sig .tc := ⟨.hbm, 410, rfl⟩
abbrev main_call2_v16 : Ref sig .tc := ⟨.hbm, 411, rfl⟩
abbrev main_call2_v17 : Ref sig .tc := ⟨.hbm, 412, rfl⟩
abbrev main_call2_v18 : Ref sig .tc := ⟨.hbm, 413, rfl⟩
abbrev main_call2_v19 : Ref sig .tc := ⟨.hbm, 414, rfl⟩
abbrev main_call2_v20 : Ref sig .tc := ⟨.hbm, 415, rfl⟩
abbrev main_call2_v21 : Ref sig .tc := ⟨.hbm, 416, rfl⟩
abbrev main_call2_v22 : Ref sig .tc := ⟨.hbm, 417, rfl⟩
abbrev main_call2_v23 : Ref sig .tc := ⟨.hbm, 418, rfl⟩
abbrev main_call2_v24 : Ref sig .tc := ⟨.hbm, 419, rfl⟩
abbrev main_call2_v25 : Ref sig .tc := ⟨.hbm, 420, rfl⟩
abbrev main_call2_v26 : Ref sig .tc := ⟨.hbm, 421, rfl⟩
abbrev main_call2_v27 : Ref sig .tc := ⟨.hbm, 422, rfl⟩
abbrev main_call2_v28 : Ref sig .tc := ⟨.hbm, 423, rfl⟩
abbrev main_call2_v29 : Ref sig .tc := ⟨.hbm, 424, rfl⟩
abbrev main_call2_v30 : Ref sig .tc := ⟨.hbm, 425, rfl⟩
abbrev main_call2_v31 : Ref sig .tc := ⟨.hbm, 426, rfl⟩
abbrev main_call2_v32 : Ref sig .tc := ⟨.hbm, 427, rfl⟩
abbrev main_call2_v33 : Ref sig .tc := ⟨.hbm, 428, rfl⟩
abbrev main_call2_v34 : Ref sig .tc := ⟨.hbm, 429, rfl⟩
abbrev main_call2_v35 : Ref sig .tc := ⟨.hbm, 430, rfl⟩
abbrev main_call2_v36 : Ref sig .tc := ⟨.hbm, 431, rfl⟩
abbrev main_call2_v37 : Ref sig .tc := ⟨.hbm, 432, rfl⟩
abbrev main_call2_v38 : Ref sig .tc := ⟨.hbm, 433, rfl⟩
abbrev main_call2_v39 : Ref sig .tc := ⟨.hbm, 434, rfl⟩
abbrev main_call2_v40 : Ref sig .tc := ⟨.hbm, 435, rfl⟩
abbrev main_call2_v41 : Ref sig .tc := ⟨.hbm, 436, rfl⟩
abbrev main_call2_v42 : Ref sig .tc := ⟨.hbm, 437, rfl⟩
abbrev main_call2_v43 : Ref sig .tc := ⟨.hbm, 438, rfl⟩
abbrev main_call2_v44 : Ref sig .tc := ⟨.hbm, 439, rfl⟩
abbrev main_call2_v45 : Ref sig .tc := ⟨.hbm, 440, rfl⟩
abbrev main_call2_v46 : Ref sig .tc := ⟨.hbm, 441, rfl⟩
abbrev main_call2_v47 : Ref sig .tc := ⟨.hbm, 442, rfl⟩
abbrev main_call2_v48 : Ref sig .tc := ⟨.hbm, 443, rfl⟩
abbrev main_call2_v49 : Ref sig .tc := ⟨.hbm, 444, rfl⟩
abbrev main_call2_v50 : Ref sig .tc := ⟨.hbm, 445, rfl⟩
abbrev main_call2_v51 : Ref sig .tc := ⟨.hbm, 446, rfl⟩
abbrev main_call2_v52 : Ref sig .tc := ⟨.hbm, 447, rfl⟩
abbrev main_call2_v53 : Ref sig .tc := ⟨.hbm, 448, rfl⟩
abbrev main_call2_v54 : Ref sig .tc := ⟨.hbm, 449, rfl⟩
abbrev main_call2_v55 : Ref sig .tc := ⟨.hbm, 450, rfl⟩
abbrev main_v43 : Ref sig .tc := ⟨.hbm, 451, rfl⟩
abbrev main_v44 : Ref sig .tc := ⟨.hbm, 452, rfl⟩
abbrev main_v45 : Ref sig .tc := ⟨.hbm, 453, rfl⟩
abbrev main_v46 : Ref sig .tc := ⟨.hbm, 454, rfl⟩
abbrev main_call3_cst : Ref sig .tc := ⟨.hbm, 455, rfl⟩
abbrev main_call3_v0 : Ref sig .tc := ⟨.hbm, 456, rfl⟩
abbrev main_call3_v1 : Ref sig .tc := ⟨.hbm, 457, rfl⟩
abbrev main_call3_v2 : Ref sig .tc := ⟨.hbm, 458, rfl⟩
abbrev main_call3_v3 : Ref sig .tc := ⟨.hbm, 459, rfl⟩
abbrev main_call3_v4 : Ref sig .tc := ⟨.hbm, 460, rfl⟩
abbrev main_call3_v5 : Ref sig .tc := ⟨.hbm, 461, rfl⟩
abbrev main_call3_v6 : Ref sig .tc := ⟨.hbm, 462, rfl⟩
abbrev main_call3_v7 : Ref sig .tc := ⟨.hbm, 463, rfl⟩
abbrev main_call3_v8 : Ref sig .tc := ⟨.hbm, 464, rfl⟩
abbrev main_call3_v9 : Ref sig .tc := ⟨.hbm, 465, rfl⟩
abbrev main_call3_v10 : Ref sig .tc := ⟨.hbm, 466, rfl⟩
abbrev main_call3_v11 : Ref sig .tc := ⟨.hbm, 467, rfl⟩
abbrev main_call3_v12 : Ref sig .tc := ⟨.hbm, 468, rfl⟩
abbrev main_call3_v13 : Ref sig .tc := ⟨.hbm, 469, rfl⟩
abbrev main_call3_v14 : Ref sig .tc := ⟨.hbm, 470, rfl⟩
abbrev main_call3_v15 : Ref sig .tc := ⟨.hbm, 471, rfl⟩
abbrev main_call3_v16 : Ref sig .tc := ⟨.hbm, 472, rfl⟩
abbrev main_call3_v17 : Ref sig .tc := ⟨.hbm, 473, rfl⟩
abbrev main_call3_v18 : Ref sig .tc := ⟨.hbm, 474, rfl⟩
abbrev main_call3_v19 : Ref sig .tc := ⟨.hbm, 475, rfl⟩
abbrev main_call3_v20 : Ref sig .tc := ⟨.hbm, 476, rfl⟩
abbrev main_call3_v21 : Ref sig .tc := ⟨.hbm, 477, rfl⟩
abbrev main_call3_v22 : Ref sig .tc := ⟨.hbm, 478, rfl⟩
abbrev main_call3_v23 : Ref sig .tc := ⟨.hbm, 479, rfl⟩
abbrev main_call3_v24 : Ref sig .tc := ⟨.hbm, 480, rfl⟩
abbrev main_call3_v25 : Ref sig .tc := ⟨.hbm, 481, rfl⟩
abbrev main_call3_v26 : Ref sig .tc := ⟨.hbm, 482, rfl⟩
abbrev main_call3_v27 : Ref sig .tc := ⟨.hbm, 483, rfl⟩
abbrev main_call3_v28 : Ref sig .tc := ⟨.hbm, 484, rfl⟩
abbrev main_call3_v29 : Ref sig .tc := ⟨.hbm, 485, rfl⟩
abbrev main_call3_v30 : Ref sig .tc := ⟨.hbm, 486, rfl⟩
abbrev main_call3_v31 : Ref sig .tc := ⟨.hbm, 487, rfl⟩
abbrev main_call3_v32 : Ref sig .tc := ⟨.hbm, 488, rfl⟩
abbrev main_call3_v33 : Ref sig .tc := ⟨.hbm, 489, rfl⟩
abbrev main_call3_v34 : Ref sig .tc := ⟨.hbm, 490, rfl⟩
abbrev main_call3_v35 : Ref sig .tc := ⟨.hbm, 491, rfl⟩
abbrev main_call3_v36 : Ref sig .tc := ⟨.hbm, 492, rfl⟩
abbrev main_call3_v37 : Ref sig .tc := ⟨.hbm, 493, rfl⟩
abbrev main_call3_v38 : Ref sig .tc := ⟨.hbm, 494, rfl⟩
abbrev main_call3_v39 : Ref sig .tc := ⟨.hbm, 495, rfl⟩
abbrev main_call3_v40 : Ref sig .tc := ⟨.hbm, 496, rfl⟩
abbrev main_call3_v41 : Ref sig .tc := ⟨.hbm, 497, rfl⟩
abbrev main_call3_v42 : Ref sig .tc := ⟨.hbm, 498, rfl⟩
abbrev main_call3_v43 : Ref sig .tc := ⟨.hbm, 499, rfl⟩
abbrev main_call3_v44 : Ref sig .tc := ⟨.hbm, 500, rfl⟩
abbrev main_call3_v45 : Ref sig .tc := ⟨.hbm, 501, rfl⟩
abbrev main_call3_v46 : Ref sig .tc := ⟨.hbm, 502, rfl⟩
abbrev main_call3_v47 : Ref sig .tc := ⟨.hbm, 503, rfl⟩
abbrev main_call3_v48 : Ref sig .tc := ⟨.hbm, 504, rfl⟩
abbrev main_call3_v49 : Ref sig .tc := ⟨.hbm, 505, rfl⟩
abbrev main_call3_v50 : Ref sig .tc := ⟨.hbm, 506, rfl⟩
abbrev main_call3_v51 : Ref sig .tc := ⟨.hbm, 507, rfl⟩
abbrev main_call3_v52 : Ref sig .tc := ⟨.hbm, 508, rfl⟩
abbrev main_call3_v53 : Ref sig .tc := ⟨.hbm, 509, rfl⟩
abbrev main_call3_v54 : Ref sig .tc := ⟨.hbm, 510, rfl⟩
abbrev main_call3_v55 : Ref sig .tc := ⟨.hbm, 511, rfl⟩
abbrev main_v47 : Ref sig .tc := ⟨.hbm, 512, rfl⟩
abbrev main_call4_v0 : Ref sig .tc := ⟨.hbm, 513, rfl⟩
abbrev main_call4_v1 : Ref sig .tc := ⟨.hbm, 514, rfl⟩
abbrev main_call4_v2 : Ref sig .tc := ⟨.hbm, 515, rfl⟩
abbrev main_call4_v3 : Ref sig .tc := ⟨.hbm, 516, rfl⟩
abbrev main_call4_v4 : Ref sig .tc := ⟨.hbm, 517, rfl⟩
abbrev main_call4_v5 : Ref sig .tc := ⟨.hbm, 518, rfl⟩
abbrev main_call4_v6 : Ref sig .tc := ⟨.hbm, 519, rfl⟩
abbrev main_call4_v7 : Ref sig .tc := ⟨.hbm, 520, rfl⟩
abbrev main_call4_v8 : Ref sig .tc := ⟨.hbm, 521, rfl⟩
abbrev main_call4_v9 : Ref sig .tc := ⟨.hbm, 522, rfl⟩
abbrev main_call4_v10 : Ref sig .tc := ⟨.hbm, 523, rfl⟩
abbrev main_call4_v11 : Ref sig .tc := ⟨.hbm, 524, rfl⟩
abbrev main_call4_v12 : Ref sig .tc := ⟨.hbm, 525, rfl⟩
abbrev main_call4_v13 : Ref sig .tc := ⟨.hbm, 526, rfl⟩
abbrev main_call4_v14 : Ref sig .tc := ⟨.hbm, 527, rfl⟩
abbrev main_call4_v15 : Ref sig .tc := ⟨.hbm, 528, rfl⟩
abbrev main_call4_v16 : Ref sig .tc := ⟨.hbm, 529, rfl⟩
abbrev main_call4_v17 : Ref sig .tc := ⟨.hbm, 530, rfl⟩
abbrev main_call4_v18 : Ref sig .tc := ⟨.hbm, 531, rfl⟩
abbrev main_call4_v19 : Ref sig .tc := ⟨.hbm, 532, rfl⟩
abbrev main_call4_v20 : Ref sig .tc := ⟨.hbm, 533, rfl⟩
abbrev main_call4_cst : Ref sig .tc := ⟨.hbm, 534, rfl⟩
abbrev main_call4_v21 : Ref sig .tc := ⟨.hbm, 535, rfl⟩
abbrev main_v48 : Ref sig .tc := ⟨.hbm, 536, rfl⟩
abbrev main_v49 : Ref sig .tc := ⟨.hbm, 537, rfl⟩
abbrev main_v50 : Ref sig .tc := ⟨.hbm, 538, rfl⟩
abbrev main_v51 : Ref sig .tc := ⟨.hbm, 539, rfl⟩
abbrev main_v52 : Ref sig .tc := ⟨.hbm, 540, rfl⟩
abbrev main_call5_cst : Ref sig .tc := ⟨.hbm, 541, rfl⟩
abbrev main_call5_v0 : Ref sig .tc := ⟨.hbm, 542, rfl⟩
abbrev main_call5_v1 : Ref sig .tc := ⟨.hbm, 543, rfl⟩
abbrev main_call5_v2 : Ref sig .tc := ⟨.hbm, 544, rfl⟩
abbrev main_call5_v3 : Ref sig .tc := ⟨.hbm, 545, rfl⟩
abbrev main_call5_v4 : Ref sig .tc := ⟨.hbm, 546, rfl⟩
abbrev main_call5_v5 : Ref sig .tc := ⟨.hbm, 547, rfl⟩
abbrev main_call5_v6 : Ref sig .tc := ⟨.hbm, 548, rfl⟩
abbrev main_call5_v7 : Ref sig .tc := ⟨.hbm, 549, rfl⟩
abbrev main_call5_v8 : Ref sig .tc := ⟨.hbm, 550, rfl⟩
abbrev main_call5_v9 : Ref sig .tc := ⟨.hbm, 551, rfl⟩
abbrev main_call5_v10 : Ref sig .tc := ⟨.hbm, 552, rfl⟩
abbrev main_call5_v11 : Ref sig .tc := ⟨.hbm, 553, rfl⟩
abbrev main_call5_v12 : Ref sig .tc := ⟨.hbm, 554, rfl⟩
abbrev main_call5_v13 : Ref sig .tc := ⟨.hbm, 555, rfl⟩
abbrev main_call5_v14 : Ref sig .tc := ⟨.hbm, 556, rfl⟩
abbrev main_call5_v15 : Ref sig .tc := ⟨.hbm, 557, rfl⟩
abbrev main_call5_v16 : Ref sig .tc := ⟨.hbm, 558, rfl⟩
abbrev main_call5_v17 : Ref sig .tc := ⟨.hbm, 559, rfl⟩
abbrev main_call5_v18 : Ref sig .tc := ⟨.hbm, 560, rfl⟩
abbrev main_call5_v19 : Ref sig .tc := ⟨.hbm, 561, rfl⟩
abbrev main_call5_v20 : Ref sig .tc := ⟨.hbm, 562, rfl⟩
abbrev main_call5_v21 : Ref sig .tc := ⟨.hbm, 563, rfl⟩
abbrev main_call5_v22 : Ref sig .tc := ⟨.hbm, 564, rfl⟩
abbrev main_call5_v23 : Ref sig .tc := ⟨.hbm, 565, rfl⟩
abbrev main_call5_v24 : Ref sig .tc := ⟨.hbm, 566, rfl⟩
abbrev main_call5_v25 : Ref sig .tc := ⟨.hbm, 567, rfl⟩
abbrev main_call5_v26 : Ref sig .tc := ⟨.hbm, 568, rfl⟩
abbrev main_call5_v27 : Ref sig .tc := ⟨.hbm, 569, rfl⟩
abbrev main_call5_v28 : Ref sig .tc := ⟨.hbm, 570, rfl⟩
abbrev main_call5_v29 : Ref sig .tc := ⟨.hbm, 571, rfl⟩
abbrev main_call5_v30 : Ref sig .tc := ⟨.hbm, 572, rfl⟩
abbrev main_call5_v31 : Ref sig .tc := ⟨.hbm, 573, rfl⟩
abbrev main_call5_v32 : Ref sig .tc := ⟨.hbm, 574, rfl⟩
abbrev main_call5_v33 : Ref sig .tc := ⟨.hbm, 575, rfl⟩
abbrev main_call5_v34 : Ref sig .tc := ⟨.hbm, 576, rfl⟩
abbrev main_call5_v35 : Ref sig .tc := ⟨.hbm, 577, rfl⟩
abbrev main_call5_v36 : Ref sig .tc := ⟨.hbm, 578, rfl⟩
abbrev main_call5_v37 : Ref sig .tc := ⟨.hbm, 579, rfl⟩
abbrev main_call5_v38 : Ref sig .tc := ⟨.hbm, 580, rfl⟩
abbrev main_call5_v39 : Ref sig .tc := ⟨.hbm, 581, rfl⟩
abbrev main_call5_v40 : Ref sig .tc := ⟨.hbm, 582, rfl⟩
abbrev main_call5_v41 : Ref sig .tc := ⟨.hbm, 583, rfl⟩
abbrev main_call5_v42 : Ref sig .tc := ⟨.hbm, 584, rfl⟩
abbrev main_call5_v43 : Ref sig .tc := ⟨.hbm, 585, rfl⟩
abbrev main_call5_v44 : Ref sig .tc := ⟨.hbm, 586, rfl⟩
abbrev main_call5_v45 : Ref sig .tc := ⟨.hbm, 587, rfl⟩
abbrev main_call5_v46 : Ref sig .tc := ⟨.hbm, 588, rfl⟩
abbrev main_call5_v47 : Ref sig .tc := ⟨.hbm, 589, rfl⟩
abbrev main_call5_v48 : Ref sig .tc := ⟨.hbm, 590, rfl⟩
abbrev main_call5_v49 : Ref sig .tc := ⟨.hbm, 591, rfl⟩
abbrev main_call5_v50 : Ref sig .tc := ⟨.hbm, 592, rfl⟩
abbrev main_call5_v51 : Ref sig .tc := ⟨.hbm, 593, rfl⟩
abbrev main_call5_v52 : Ref sig .tc := ⟨.hbm, 594, rfl⟩
abbrev main_call5_v53 : Ref sig .tc := ⟨.hbm, 595, rfl⟩
abbrev main_call5_v54 : Ref sig .tc := ⟨.hbm, 596, rfl⟩
abbrev main_call5_v55 : Ref sig .tc := ⟨.hbm, 597, rfl⟩
abbrev main_v53 : Ref sig .tc := ⟨.hbm, 598, rfl⟩
abbrev main_v54 : Ref sig .tc := ⟨.hbm, 599, rfl⟩
abbrev main_v55 : Ref sig .tc := ⟨.hbm, 600, rfl⟩
abbrev main_v56 : Ref sig .tc := ⟨.hbm, 601, rfl⟩
abbrev main_call6_cst : Ref sig .tc := ⟨.hbm, 602, rfl⟩
abbrev main_call6_v0 : Ref sig .tc := ⟨.hbm, 603, rfl⟩
abbrev main_call6_v1 : Ref sig .tc := ⟨.hbm, 604, rfl⟩
abbrev main_call6_v2 : Ref sig .tc := ⟨.hbm, 605, rfl⟩
abbrev main_call6_v3 : Ref sig .tc := ⟨.hbm, 606, rfl⟩
abbrev main_call6_v4 : Ref sig .tc := ⟨.hbm, 607, rfl⟩
abbrev main_call6_v5 : Ref sig .tc := ⟨.hbm, 608, rfl⟩
abbrev main_call6_v6 : Ref sig .tc := ⟨.hbm, 609, rfl⟩
abbrev main_call6_v7 : Ref sig .tc := ⟨.hbm, 610, rfl⟩
abbrev main_call6_v8 : Ref sig .tc := ⟨.hbm, 611, rfl⟩
abbrev main_call6_v9 : Ref sig .tc := ⟨.hbm, 612, rfl⟩
abbrev main_call6_v10 : Ref sig .tc := ⟨.hbm, 613, rfl⟩
abbrev main_call6_v11 : Ref sig .tc := ⟨.hbm, 614, rfl⟩
abbrev main_call6_v12 : Ref sig .tc := ⟨.hbm, 615, rfl⟩
abbrev main_call6_v13 : Ref sig .tc := ⟨.hbm, 616, rfl⟩
abbrev main_call6_v14 : Ref sig .tc := ⟨.hbm, 617, rfl⟩
abbrev main_call6_v15 : Ref sig .tc := ⟨.hbm, 618, rfl⟩
abbrev main_call6_v16 : Ref sig .tc := ⟨.hbm, 619, rfl⟩
abbrev main_call6_v17 : Ref sig .tc := ⟨.hbm, 620, rfl⟩
abbrev main_call6_v18 : Ref sig .tc := ⟨.hbm, 621, rfl⟩
abbrev main_call6_v19 : Ref sig .tc := ⟨.hbm, 622, rfl⟩
abbrev main_call6_v20 : Ref sig .tc := ⟨.hbm, 623, rfl⟩
abbrev main_call6_v21 : Ref sig .tc := ⟨.hbm, 624, rfl⟩
abbrev main_call6_v22 : Ref sig .tc := ⟨.hbm, 625, rfl⟩
abbrev main_call6_v23 : Ref sig .tc := ⟨.hbm, 626, rfl⟩
abbrev main_call6_v24 : Ref sig .tc := ⟨.hbm, 627, rfl⟩
abbrev main_call6_v25 : Ref sig .tc := ⟨.hbm, 628, rfl⟩
abbrev main_call6_v26 : Ref sig .tc := ⟨.hbm, 629, rfl⟩
abbrev main_call6_v27 : Ref sig .tc := ⟨.hbm, 630, rfl⟩
abbrev main_call6_v28 : Ref sig .tc := ⟨.hbm, 631, rfl⟩
abbrev main_call6_v29 : Ref sig .tc := ⟨.hbm, 632, rfl⟩
abbrev main_call6_v30 : Ref sig .tc := ⟨.hbm, 633, rfl⟩
abbrev main_call6_v31 : Ref sig .tc := ⟨.hbm, 634, rfl⟩
abbrev main_call6_v32 : Ref sig .tc := ⟨.hbm, 635, rfl⟩
abbrev main_call6_v33 : Ref sig .tc := ⟨.hbm, 636, rfl⟩
abbrev main_call6_v34 : Ref sig .tc := ⟨.hbm, 637, rfl⟩
abbrev main_call6_v35 : Ref sig .tc := ⟨.hbm, 638, rfl⟩
abbrev main_call6_v36 : Ref sig .tc := ⟨.hbm, 639, rfl⟩
abbrev main_call6_v37 : Ref sig .tc := ⟨.hbm, 640, rfl⟩
abbrev main_call6_v38 : Ref sig .tc := ⟨.hbm, 641, rfl⟩
abbrev main_call6_v39 : Ref sig .tc := ⟨.hbm, 642, rfl⟩
abbrev main_call6_v40 : Ref sig .tc := ⟨.hbm, 643, rfl⟩
abbrev main_call6_v41 : Ref sig .tc := ⟨.hbm, 644, rfl⟩
abbrev main_call6_v42 : Ref sig .tc := ⟨.hbm, 645, rfl⟩
abbrev main_call6_v43 : Ref sig .tc := ⟨.hbm, 646, rfl⟩
abbrev main_call6_v44 : Ref sig .tc := ⟨.hbm, 647, rfl⟩
abbrev main_call6_v45 : Ref sig .tc := ⟨.hbm, 648, rfl⟩
abbrev main_call6_v46 : Ref sig .tc := ⟨.hbm, 649, rfl⟩
abbrev main_call6_v47 : Ref sig .tc := ⟨.hbm, 650, rfl⟩
abbrev main_call6_v48 : Ref sig .tc := ⟨.hbm, 651, rfl⟩
abbrev main_call6_v49 : Ref sig .tc := ⟨.hbm, 652, rfl⟩
abbrev main_call6_v50 : Ref sig .tc := ⟨.hbm, 653, rfl⟩
abbrev main_call6_v51 : Ref sig .tc := ⟨.hbm, 654, rfl⟩
abbrev main_call6_v52 : Ref sig .tc := ⟨.hbm, 655, rfl⟩
abbrev main_call6_v53 : Ref sig .tc := ⟨.hbm, 656, rfl⟩
abbrev main_call6_v54 : Ref sig .tc := ⟨.hbm, 657, rfl⟩
abbrev main_call6_v55 : Ref sig .tc := ⟨.hbm, 658, rfl⟩
abbrev main_v57 : Ref sig .tc := ⟨.hbm, 659, rfl⟩
abbrev main_call7_v0 : Ref sig .tc := ⟨.hbm, 660, rfl⟩
abbrev main_call7_v1 : Ref sig .tc := ⟨.hbm, 661, rfl⟩
abbrev main_call7_v2 : Ref sig .tc := ⟨.hbm, 662, rfl⟩
abbrev main_call7_v3 : Ref sig .tc := ⟨.hbm, 663, rfl⟩
abbrev main_call7_v4 : Ref sig .tc := ⟨.hbm, 664, rfl⟩
abbrev main_call7_v5 : Ref sig .tc := ⟨.hbm, 665, rfl⟩
abbrev main_call7_v6 : Ref sig .tc := ⟨.hbm, 666, rfl⟩
abbrev main_call7_v7 : Ref sig .tc := ⟨.hbm, 667, rfl⟩
abbrev main_call7_v8 : Ref sig .tc := ⟨.hbm, 668, rfl⟩
abbrev main_call7_v9 : Ref sig .tc := ⟨.hbm, 669, rfl⟩
abbrev main_call7_v10 : Ref sig .tc := ⟨.hbm, 670, rfl⟩
abbrev main_call7_v11 : Ref sig .tc := ⟨.hbm, 671, rfl⟩
abbrev main_call7_v12 : Ref sig .tc := ⟨.hbm, 672, rfl⟩
abbrev main_call7_v13 : Ref sig .tc := ⟨.hbm, 673, rfl⟩
abbrev main_call7_v14 : Ref sig .tc := ⟨.hbm, 674, rfl⟩
abbrev main_call7_v15 : Ref sig .tc := ⟨.hbm, 675, rfl⟩
abbrev main_call7_v16 : Ref sig .tc := ⟨.hbm, 676, rfl⟩
abbrev main_call7_v17 : Ref sig .tc := ⟨.hbm, 677, rfl⟩
abbrev main_call7_v18 : Ref sig .tc := ⟨.hbm, 678, rfl⟩
abbrev main_call7_v19 : Ref sig .tc := ⟨.hbm, 679, rfl⟩
abbrev main_call7_v20 : Ref sig .tc := ⟨.hbm, 680, rfl⟩
abbrev main_call7_cst : Ref sig .tc := ⟨.hbm, 681, rfl⟩
abbrev main_call7_v21 : Ref sig .tc := ⟨.hbm, 682, rfl⟩
abbrev main_v58 : Ref sig .tc := ⟨.hbm, 683, rfl⟩
abbrev main_v59 : Ref sig .tc := ⟨.hbm, 684, rfl⟩
abbrev main_v60 : Ref sig .tc := ⟨.hbm, 685, rfl⟩
abbrev main_v61 : Ref sig .tc := ⟨.hbm, 686, rfl⟩
abbrev main_v62 : Ref sig .tc := ⟨.hbm, 687, rfl⟩
abbrev main_call8_cst : Ref sig .tc := ⟨.hbm, 688, rfl⟩
abbrev main_call8_v0 : Ref sig .tc := ⟨.hbm, 689, rfl⟩
abbrev main_call8_v1 : Ref sig .tc := ⟨.hbm, 690, rfl⟩
abbrev main_call8_v2 : Ref sig .tc := ⟨.hbm, 691, rfl⟩
abbrev main_call8_v3 : Ref sig .tc := ⟨.hbm, 692, rfl⟩
abbrev main_call8_v4 : Ref sig .tc := ⟨.hbm, 693, rfl⟩
abbrev main_call8_v5 : Ref sig .tc := ⟨.hbm, 694, rfl⟩
abbrev main_call8_v6 : Ref sig .tc := ⟨.hbm, 695, rfl⟩
abbrev main_call8_v7 : Ref sig .tc := ⟨.hbm, 696, rfl⟩
abbrev main_call8_v8 : Ref sig .tc := ⟨.hbm, 697, rfl⟩
abbrev main_call8_v9 : Ref sig .tc := ⟨.hbm, 698, rfl⟩
abbrev main_call8_v10 : Ref sig .tc := ⟨.hbm, 699, rfl⟩
abbrev main_call8_v11 : Ref sig .tc := ⟨.hbm, 700, rfl⟩
abbrev main_call8_v12 : Ref sig .tc := ⟨.hbm, 701, rfl⟩
abbrev main_call8_v13 : Ref sig .tc := ⟨.hbm, 702, rfl⟩
abbrev main_call8_v14 : Ref sig .tc := ⟨.hbm, 703, rfl⟩
abbrev main_call8_v15 : Ref sig .tc := ⟨.hbm, 704, rfl⟩
abbrev main_call8_v16 : Ref sig .tc := ⟨.hbm, 705, rfl⟩
abbrev main_call8_v17 : Ref sig .tc := ⟨.hbm, 706, rfl⟩
abbrev main_call8_v18 : Ref sig .tc := ⟨.hbm, 707, rfl⟩
abbrev main_call8_v19 : Ref sig .tc := ⟨.hbm, 708, rfl⟩
abbrev main_call8_v20 : Ref sig .tc := ⟨.hbm, 709, rfl⟩
abbrev main_call8_v21 : Ref sig .tc := ⟨.hbm, 710, rfl⟩
abbrev main_call8_v22 : Ref sig .tc := ⟨.hbm, 711, rfl⟩
abbrev main_call8_v23 : Ref sig .tc := ⟨.hbm, 712, rfl⟩
abbrev main_call8_v24 : Ref sig .tc := ⟨.hbm, 713, rfl⟩
abbrev main_call8_v25 : Ref sig .tc := ⟨.hbm, 714, rfl⟩
abbrev main_call8_v26 : Ref sig .tc := ⟨.hbm, 715, rfl⟩
abbrev main_call8_v27 : Ref sig .tc := ⟨.hbm, 716, rfl⟩
abbrev main_call8_v28 : Ref sig .tc := ⟨.hbm, 717, rfl⟩
abbrev main_call8_v29 : Ref sig .tc := ⟨.hbm, 718, rfl⟩
abbrev main_call8_v30 : Ref sig .tc := ⟨.hbm, 719, rfl⟩
abbrev main_call8_v31 : Ref sig .tc := ⟨.hbm, 720, rfl⟩
abbrev main_call8_v32 : Ref sig .tc := ⟨.hbm, 721, rfl⟩
abbrev main_call8_v33 : Ref sig .tc := ⟨.hbm, 722, rfl⟩
abbrev main_call8_v34 : Ref sig .tc := ⟨.hbm, 723, rfl⟩
abbrev main_call8_v35 : Ref sig .tc := ⟨.hbm, 724, rfl⟩
abbrev main_call8_v36 : Ref sig .tc := ⟨.hbm, 725, rfl⟩
abbrev main_call8_v37 : Ref sig .tc := ⟨.hbm, 726, rfl⟩
abbrev main_call8_v38 : Ref sig .tc := ⟨.hbm, 727, rfl⟩
abbrev main_call8_v39 : Ref sig .tc := ⟨.hbm, 728, rfl⟩
abbrev main_call8_v40 : Ref sig .tc := ⟨.hbm, 729, rfl⟩
abbrev main_call8_v41 : Ref sig .tc := ⟨.hbm, 730, rfl⟩
abbrev main_call8_v42 : Ref sig .tc := ⟨.hbm, 731, rfl⟩
abbrev main_call8_v43 : Ref sig .tc := ⟨.hbm, 732, rfl⟩
abbrev main_call8_v44 : Ref sig .tc := ⟨.hbm, 733, rfl⟩
abbrev main_call8_v45 : Ref sig .tc := ⟨.hbm, 734, rfl⟩
abbrev main_call8_v46 : Ref sig .tc := ⟨.hbm, 735, rfl⟩
abbrev main_call8_v47 : Ref sig .tc := ⟨.hbm, 736, rfl⟩
abbrev main_call8_v48 : Ref sig .tc := ⟨.hbm, 737, rfl⟩
abbrev main_call8_v49 : Ref sig .tc := ⟨.hbm, 738, rfl⟩
abbrev main_call8_v50 : Ref sig .tc := ⟨.hbm, 739, rfl⟩
abbrev main_call8_v51 : Ref sig .tc := ⟨.hbm, 740, rfl⟩
abbrev main_call8_v52 : Ref sig .tc := ⟨.hbm, 741, rfl⟩
abbrev main_call8_v53 : Ref sig .tc := ⟨.hbm, 742, rfl⟩
abbrev main_call8_v54 : Ref sig .tc := ⟨.hbm, 743, rfl⟩
abbrev main_call8_v55 : Ref sig .tc := ⟨.hbm, 744, rfl⟩
abbrev main_v63 : Ref sig .tc := ⟨.hbm, 745, rfl⟩
abbrev main_v64 : Ref sig .tc := ⟨.hbm, 746, rfl⟩
abbrev main_v65 : Ref sig .tc := ⟨.hbm, 747, rfl⟩
abbrev main_v66 : Ref sig .tc := ⟨.hbm, 748, rfl⟩
abbrev main_call9_cst : Ref sig .tc := ⟨.hbm, 749, rfl⟩
abbrev main_call9_v0 : Ref sig .tc := ⟨.hbm, 750, rfl⟩
abbrev main_call9_v1 : Ref sig .tc := ⟨.hbm, 751, rfl⟩
abbrev main_call9_v2 : Ref sig .tc := ⟨.hbm, 752, rfl⟩
abbrev main_call9_v3 : Ref sig .tc := ⟨.hbm, 753, rfl⟩
abbrev main_call9_v4 : Ref sig .tc := ⟨.hbm, 754, rfl⟩
abbrev main_call9_v5 : Ref sig .tc := ⟨.hbm, 755, rfl⟩
abbrev main_call9_v6 : Ref sig .tc := ⟨.hbm, 756, rfl⟩
abbrev main_call9_v7 : Ref sig .tc := ⟨.hbm, 757, rfl⟩
abbrev main_call9_v8 : Ref sig .tc := ⟨.hbm, 758, rfl⟩
abbrev main_call9_v9 : Ref sig .tc := ⟨.hbm, 759, rfl⟩
abbrev main_call9_v10 : Ref sig .tc := ⟨.hbm, 760, rfl⟩
abbrev main_call9_v11 : Ref sig .tc := ⟨.hbm, 761, rfl⟩
abbrev main_call9_v12 : Ref sig .tc := ⟨.hbm, 762, rfl⟩
abbrev main_call9_v13 : Ref sig .tc := ⟨.hbm, 763, rfl⟩
abbrev main_call9_v14 : Ref sig .tc := ⟨.hbm, 764, rfl⟩
abbrev main_call9_v15 : Ref sig .tc := ⟨.hbm, 765, rfl⟩
abbrev main_call9_v16 : Ref sig .tc := ⟨.hbm, 766, rfl⟩
abbrev main_call9_v17 : Ref sig .tc := ⟨.hbm, 767, rfl⟩
abbrev main_call9_v18 : Ref sig .tc := ⟨.hbm, 768, rfl⟩
abbrev main_call9_v19 : Ref sig .tc := ⟨.hbm, 769, rfl⟩
abbrev main_call9_v20 : Ref sig .tc := ⟨.hbm, 770, rfl⟩
abbrev main_call9_v21 : Ref sig .tc := ⟨.hbm, 771, rfl⟩
abbrev main_call9_v22 : Ref sig .tc := ⟨.hbm, 772, rfl⟩
abbrev main_call9_v23 : Ref sig .tc := ⟨.hbm, 773, rfl⟩
abbrev main_call9_v24 : Ref sig .tc := ⟨.hbm, 774, rfl⟩
abbrev main_call9_v25 : Ref sig .tc := ⟨.hbm, 775, rfl⟩
abbrev main_call9_v26 : Ref sig .tc := ⟨.hbm, 776, rfl⟩
abbrev main_call9_v27 : Ref sig .tc := ⟨.hbm, 777, rfl⟩
abbrev main_call9_v28 : Ref sig .tc := ⟨.hbm, 778, rfl⟩
abbrev main_call9_v29 : Ref sig .tc := ⟨.hbm, 779, rfl⟩
abbrev main_call9_v30 : Ref sig .tc := ⟨.hbm, 780, rfl⟩
abbrev main_call9_v31 : Ref sig .tc := ⟨.hbm, 781, rfl⟩
abbrev main_call9_v32 : Ref sig .tc := ⟨.hbm, 782, rfl⟩
abbrev main_call9_v33 : Ref sig .tc := ⟨.hbm, 783, rfl⟩
abbrev main_call9_v34 : Ref sig .tc := ⟨.hbm, 784, rfl⟩
abbrev main_call9_v35 : Ref sig .tc := ⟨.hbm, 785, rfl⟩
abbrev main_call9_v36 : Ref sig .tc := ⟨.hbm, 786, rfl⟩
abbrev main_call9_v37 : Ref sig .tc := ⟨.hbm, 787, rfl⟩
abbrev main_call9_v38 : Ref sig .tc := ⟨.hbm, 788, rfl⟩
abbrev main_call9_v39 : Ref sig .tc := ⟨.hbm, 789, rfl⟩
abbrev main_call9_v40 : Ref sig .tc := ⟨.hbm, 790, rfl⟩
abbrev main_call9_v41 : Ref sig .tc := ⟨.hbm, 791, rfl⟩
abbrev main_call9_v42 : Ref sig .tc := ⟨.hbm, 792, rfl⟩
abbrev main_call9_v43 : Ref sig .tc := ⟨.hbm, 793, rfl⟩
abbrev main_call9_v44 : Ref sig .tc := ⟨.hbm, 794, rfl⟩
abbrev main_call9_v45 : Ref sig .tc := ⟨.hbm, 795, rfl⟩
abbrev main_call9_v46 : Ref sig .tc := ⟨.hbm, 796, rfl⟩
abbrev main_call9_v47 : Ref sig .tc := ⟨.hbm, 797, rfl⟩
abbrev main_call9_v48 : Ref sig .tc := ⟨.hbm, 798, rfl⟩
abbrev main_call9_v49 : Ref sig .tc := ⟨.hbm, 799, rfl⟩
abbrev main_call9_v50 : Ref sig .tc := ⟨.hbm, 800, rfl⟩
abbrev main_call9_v51 : Ref sig .tc := ⟨.hbm, 801, rfl⟩
abbrev main_call9_v52 : Ref sig .tc := ⟨.hbm, 802, rfl⟩
abbrev main_call9_v53 : Ref sig .tc := ⟨.hbm, 803, rfl⟩
abbrev main_call9_v54 : Ref sig .tc := ⟨.hbm, 804, rfl⟩
abbrev main_call9_v55 : Ref sig .tc := ⟨.hbm, 805, rfl⟩
abbrev main_v67 : Ref sig .tc := ⟨.hbm, 806, rfl⟩
abbrev main_call10_v0 : Ref sig .tc := ⟨.hbm, 807, rfl⟩
abbrev main_call10_v1 : Ref sig .tc := ⟨.hbm, 808, rfl⟩
abbrev main_call10_v2 : Ref sig .tc := ⟨.hbm, 809, rfl⟩
abbrev main_call10_v3 : Ref sig .tc := ⟨.hbm, 810, rfl⟩
abbrev main_call10_v4 : Ref sig .tc := ⟨.hbm, 811, rfl⟩
abbrev main_call10_v5 : Ref sig .tc := ⟨.hbm, 812, rfl⟩
abbrev main_call10_v6 : Ref sig .tc := ⟨.hbm, 813, rfl⟩
abbrev main_call10_v7 : Ref sig .tc := ⟨.hbm, 814, rfl⟩
abbrev main_call10_v8 : Ref sig .tc := ⟨.hbm, 815, rfl⟩
abbrev main_call10_v9 : Ref sig .tc := ⟨.hbm, 816, rfl⟩
abbrev main_call10_v10 : Ref sig .tc := ⟨.hbm, 817, rfl⟩
abbrev main_call10_v11 : Ref sig .tc := ⟨.hbm, 818, rfl⟩
abbrev main_call10_v12 : Ref sig .tc := ⟨.hbm, 819, rfl⟩
abbrev main_call10_v13 : Ref sig .tc := ⟨.hbm, 820, rfl⟩
abbrev main_call10_v14 : Ref sig .tc := ⟨.hbm, 821, rfl⟩
abbrev main_call10_v15 : Ref sig .tc := ⟨.hbm, 822, rfl⟩
abbrev main_call10_v16 : Ref sig .tc := ⟨.hbm, 823, rfl⟩
abbrev main_call10_v17 : Ref sig .tc := ⟨.hbm, 824, rfl⟩
abbrev main_call10_v18 : Ref sig .tc := ⟨.hbm, 825, rfl⟩
abbrev main_call10_v19 : Ref sig .tc := ⟨.hbm, 826, rfl⟩
abbrev main_call10_v20 : Ref sig .tc := ⟨.hbm, 827, rfl⟩
abbrev main_call10_cst : Ref sig .tc := ⟨.hbm, 828, rfl⟩
abbrev main_call10_v21 : Ref sig .tc := ⟨.hbm, 829, rfl⟩
abbrev main_v68 : Ref sig .tc := ⟨.hbm, 830, rfl⟩
abbrev main_v69 : Ref sig .tc := ⟨.hbm, 831, rfl⟩
abbrev main_v70 : Ref sig .tc := ⟨.hbm, 832, rfl⟩
abbrev main_v71 : Ref sig .tc := ⟨.hbm, 833, rfl⟩
abbrev main_v72 : Ref sig .tc := ⟨.hbm, 834, rfl⟩
abbrev main_v73 : Ref sig .tc := ⟨.hbm, 835, rfl⟩
abbrev main_v74 : Ref sig .tc := ⟨.hbm, 836, rfl⟩
abbrev main_v75 : Ref sig .tc := ⟨.hbm, 837, rfl⟩

abbrev nD : Nat := 1
abbrev τ : Topo := Topo.v7x

variable {F : FTy → Type} [FloatOps F]
-- ==== Proof.Host.lean ====
/- What a straight line of host operations leaves in the buffers, said without running it.

   A printed host program writes each buffer once, in the order of the buffers' numbers, and every
   operation reads only buffers of smaller numbers (`Line`). After such a line each operation, run
   once more, would change nothing (`Line.fixed`): so every buffer's contents are the operation's
   function of its operands' FINAL contents, one equation per operation (`Holds`), and no proof has
   to follow the contents from step to step. -/
module

public import Idealize.ShloMosaic.Lib.StableHlo.Run

@[expose] public section

noncomputable section

namespace Cert.Host

open Idealize.ShloMosaic Idealize.SL Idealize.SL.Sem Idealize.ShloMosaic.StableHlo

variable {nD : Nat} {τ : Topo} {sig : RefSig} {Val : EltTy → Type} {Λ : Labels}

/-- The reference names the main-memory buffer of number `n`. -/
def At (n : ℕ) (r : Ref sig .tc) : Prop := r.space = .hbm ∧ r.idx.val = n

/-- The reference names a main-memory buffer of a number below `n`. -/
def Before (n : ℕ) (r : Ref sig .tc) : Prop := r.space = .hbm ∧ r.idx.val < n

/-- What it takes to be at a place. -/
theorem At.mk {n : ℕ} {r : Ref sig .tc} (h : r.space = .hbm) (h' : r.idx.val = n) : At n r := ⟨h, h'⟩

/-- What it takes to be before a place. -/
theorem Before.mk {n : ℕ} {r : Ref sig .tc} (h : r.space = .hbm) (h' : r.idx.val < n) : Before n r := ⟨h, h'⟩

/-- The number tells the buffer. -/
theorem At.eq {n : ℕ} {r r' : Ref sig .tc} (h : At n r) (h' : At n r') : r = r' := by
  obtain ⟨s, i, hi⟩ := r
  obtain ⟨s', i', hi'⟩ := r'
  obtain ⟨h1, h2⟩ := h
  obtain ⟨h1', h2'⟩ := h'
  dsimp only at h1 h2 h1' h2'
  subst h1
  subst h1'
  obtain rfl : i = i' := Fin.ext (h2.trans h2'.symm)
  rfl

/-- A buffer of a smaller number is another buffer. -/
theorem Before.ne {n : ℕ} {r y : Ref sig .tc} (h : Before n r) (hy : At n y) : r ≠ y := by
  rintro rfl
  exact absurd hy.2 (Nat.ne_of_lt h.2)

/-- Before a place is before the next. -/
theorem Before.succ {n : ℕ} {r : Ref sig .tc} (h : Before n r) : Before (n + 1) r := ⟨h.1, Nat.lt_succ_of_lt h.2⟩

/-- The operation writes buffer `n` alone, and what it writes is determined by the buffers below `n`. -/
structure OpAt (n : ℕ) (op : HloOp τ sig Val) : Prop where
  fresh : op.fresh = ∅
  bufs : op.bufs ⊆ tcRefs τ sig
  writes : ∃ y : Ref sig .tc, At n y ∧ op.writes = {Proc.devRef (τ := τ) .tc y} ∧
    ∀ V V' : Valuation τ sig Val, (∀ r : Ref sig .tc, Before n r → V (Proc.devRef .tc r) = V' (Proc.devRef .tc r)) →
      op.result V (Proc.devRef .tc y) = op.result V' (Proc.devRef .tc y)

section OpAt

variable {n : ℕ} {x a b y : Ref sig .tc}

/-- A constant writes at its place. -/
theorem OpAt.nullary {v : y.ty.Contents Val} {hy} (h : At n y) : OpAt n (StableHlo.nullary (τ := τ) y v hy) :=
  ⟨rfl, nullary_bufs_sub .., y, h, rfl, fun V V' _ => by rw [nullary_result, nullary_result]⟩

/-- An operation of one argument writes at its place. -/
theorem OpAt.unary {f : x.ty.Contents Val → y.ty.Contents Val} {hx hy} (h : At n y) (h1 : Before n x) :
    OpAt n (StableHlo.unary (τ := τ) x y f hx hy) :=
  ⟨rfl, unary_bufs_sub .., y, h, rfl, fun V V' e => by rw [unary_result, unary_result, e x h1]⟩

/-- An operation of two arguments writes at its place. -/
theorem OpAt.binary {f : a.ty.Contents Val → b.ty.Contents Val → y.ty.Contents Val} {ha hb hy} (h : At n y)
    (h1 : Before n a) (h2 : Before n b) : OpAt n (StableHlo.binary (τ := τ) a b y f ha hb hy) :=
  ⟨rfl, binary_bufs_sub .., y, h, rfl, fun V V' e => by rw [binary_result, binary_result, e a h1, e b h2]⟩

/-- A reshape writes at its place. -/
theorem OpAt.reshape {he hn hx hy} (h : At n y) (h1 : Before n x) :
    OpAt n (StableHlo.reshape (τ := τ) (Val := Val) x y he hn hx hy) :=
  ⟨rfl, reshape_bufs_sub .., y, h, rfl, fun V V' e => by rw [reshape_result, reshape_result, e x h1]⟩

/-- An operation of many arguments writes at its place. -/
theorem OpAt.nary {k : ℕ} {xs : Fin k → Ref sig .tc} {f : ((j : Fin k) → (xs j).ty.Contents Val) → y.ty.Contents Val}
    {hxs hy} (h : At n y) (h1 : ∀ j, Before n (xs j)) : OpAt n (StableHlo.nary (τ := τ) xs y f hxs hy) :=
  ⟨rfl, nary_bufs_sub .., y, h, rfl, fun V V' e => by
    rw [nary_result, nary_result]; exact congrArg f (funext fun j => e (xs j) (h1 j))⟩

end OpAt

/-- The list's operations write the buffers `n`, `n + 1`, … up to (not including) `m`, in that order. -/
def Good : ℕ → List (HloOp τ sig Val) → ℕ → Prop
  | n, [], m => n = m
  | n, op :: ops, m => OpAt n op ∧ Good (n + 1) ops m

/-- Two good lists, the second where the first ends, are a good list. -/
theorem Good.append : ∀ {n m k : ℕ} {l l' : List (HloOp τ sig Val)}, Good n l m → Good m l' k → Good n (l ++ l') k
  | _, _, _, [], _, h, h' => by cases h; exact h'
  | _, _, _, _ :: _, _, h, h' => ⟨h.1, h.2.append h'⟩

/-- The operations of a good list take no fresh names. -/
theorem Good.fresh : ∀ {n m : ℕ} {l : List (HloOp τ sig Val)}, Good n l m → ∀ op ∈ l, op.fresh = ∅
  | _, _, _ :: _, h, op, hop => by
    rcases List.mem_cons.mp hop with rfl | hop
    · exact h.1.fresh
    · exact h.2.fresh op hop

/-- The operations of a good list touch buffers of the device only. -/
theorem Good.bufs : ∀ {n m : ℕ} {l : List (HloOp τ sig Val)}, Good n l m → ∀ op ∈ l, op.bufs ⊆ tcRefs τ sig
  | _, _, _ :: _, h, op, hop => by
    rcases List.mem_cons.mp hop with rfl | hop
    · exact h.1.bufs
    · exact h.2.bufs op hop

/-- The buffers below the line's first number keep their contents. -/
theorem Good.keep : ∀ {n m : ℕ} {l : List (HloOp τ sig Val)}, Good n l m → ∀ (V : Valuation τ sig Val) {r : Ref sig .tc},
    Before n r → after l V (Proc.devRef .tc r) = V (Proc.devRef .tc r)
  | _, _, [], _, _, _, _ => rfl
  | n, _, op :: l, h, V, r, hr => by
    obtain ⟨y, hy, hw, -⟩ := h.1.writes
    rw [after_cons, h.2.keep _ hr.succ, result_of_writes_ne op V y r hw (hr.ne hy)]

/-- After the line each of its operations, run once more, would change nothing. -/
theorem Good.fixed : ∀ {n m : ℕ} {l : List (HloOp τ sig Val)}, Good n l m → ∀ (V : Valuation τ sig Val),
    ∀ op ∈ l, op.result (after l V) = after l V
  | n, _, op :: l, h, V, o, ho => by
    rcases List.mem_cons.mp ho with rfl | ho
    · obtain ⟨y, hy, hw, hd⟩ := h.1.writes
      funext b
      by_cases hb : b ∈ o.writes
      · obtain rfl : b = Proc.devRef .tc y := by rwa [hw, Finset.mem_singleton] at hb
        have hy' : Before (n + 1) y := ⟨hy.1, hy.2 ▸ Nat.lt_succ_self _⟩
        rw [after_cons, h.2.keep _ hy']
        exact hd _ _ fun r hr => by rw [h.2.keep _ hr.succ, result_of_writes_ne o V y r hw (hr.ne hy)]
      · rw [o.result_of_not_mem _ hb]
    · rw [after_cons]
      exact h.2.fixed _ o ho

/-- The program is a line of operations writing the buffers `n`, … up to `m`. -/
def Line (n : ℕ) (p : Prog (TpuEff nD τ sig Val Λ .tc) PUnit) (m : ℕ) : Prop :=
  ∃ ops, p = seq ops ∧ Good n ops m

section Line

variable {n m k : ℕ} {p q : Prog (TpuEff nD τ sig Val Λ .tc) PUnit} {op : HloOp τ sig Val}

/-- The empty program is a line. -/
theorem Line.ret (e : n = m) : Line n (pure ⟨⟩ : Prog (TpuEff nD τ sig Val Λ .tc) PUnit) m := ⟨[], rfl, e⟩

/-- A line after a line is a line. -/
theorem Line.bind (h : Line n p m) (h' : Line m q k) : Line n (p >>= fun _ => q) k := by
  obtain ⟨l, rfl, hl⟩ := h
  obtain ⟨l', rfl, hl'⟩ := h'
  exact ⟨l ++ l', (seq_append l l').symm, hl.append hl'⟩

/-- One operation is a line. -/
theorem Line.one (h : OpAt n op) : Line n (hlo rfl op fun _ => .ret ⟨⟩ : Prog (TpuEff nD τ sig Val Λ .tc) PUnit) (n + 1) :=
  ⟨[op], rfl, h, rfl⟩

/-- One operation that ends at a given place is a line. -/
theorem Line.last (h : OpAt n op) (e : n + 1 = m) :
    Line n (hlo rfl op fun _ => .ret ⟨⟩ : Prog (TpuEff nD τ sig Val Λ .tc) PUnit) m := e ▸ Line.one h

/-- An operation before a line is a line. -/
theorem Line.step (h : OpAt n op) (h' : Line (n + 1) q k) :
    Line n ((hlo rfl op fun _ => .ret ⟨⟩ : Prog (TpuEff nD τ sig Val Λ .tc) PUnit) >>= fun _ => q) k :=
  (Line.one h).bind h'

/-- The program is a line of operations. -/
def IsLine (p : Prog (TpuEff nD τ sig Val Λ .tc) PUnit) : Prop := ∃ ops, p = seq ops

/-- The empty program is a line of some operations. -/
theorem IsLine.ret : IsLine (pure ⟨⟩ : Prog (TpuEff nD τ sig Val Λ .tc) PUnit) := ⟨[], rfl⟩
/-- One operation is a line of some operations. -/
theorem IsLine.one : IsLine (hlo rfl op fun _ => .ret ⟨⟩ : Prog (TpuEff nD τ sig Val Λ .tc) PUnit) := ⟨[op], rfl⟩
/-- A line after a line is a line of some operations. -/
theorem IsLine.bind (h : IsLine p) (h' : IsLine q) : IsLine (p >>= fun _ => q) := by
  obtain ⟨l, rfl⟩ := h
  obtain ⟨l', rfl⟩ := h'
  exact ⟨l ++ l', (seq_append l l').symm⟩
/-- An operation before a line is a line of some operations. -/
theorem IsLine.step (h : IsLine q) :
    IsLine ((hlo rfl op fun _ => .ret ⟨⟩ : Prog (TpuEff nD τ sig Val Λ .tc) PUnit) >>= fun _ => q) := IsLine.one.bind h
/-- A line that ends at a given place is a line of some operations. -/
theorem Line.isLine (h : Line n p m) : IsLine p := h.imp fun _ h => h.1

end Line

/-- The contents `W` satisfy every equation of the program: it is a line of operations each of which, run on `W`,
    changes nothing. -/
def Holds (W : Valuation τ sig Val) (p : Prog (TpuEff nD τ sig Val Λ .tc) PUnit) : Prop :=
  ∃ ops, p = seq ops ∧ ∀ op ∈ ops, op.result W = W

section Holds

variable {n m : ℕ} {p q : Prog (TpuEff nD τ sig Val Λ .tc) PUnit} {op : HloOp τ sig Val} {W : Valuation τ sig Val}

/-- A line that begins with an operation is that operation and a line. -/
theorem seq_step (W : Valuation τ sig Val) {ops : List (HloOp τ sig Val)}
    (h : (hlo rfl op fun _ => .ret ⟨⟩ : Prog (TpuEff nD τ sig Val Λ .tc) PUnit) >>= (fun _ => q) = seq ops) :
    ∃ ops', ops = op :: ops' ∧ q = seq ops' := by
  cases ops with
  | nil => exact absurd h (by intro h; cases h)
  | cons o ops =>
    change Prog.op (.hloBegin rfl op) (fun _ => .op (.hloEnd rfl op.writes) fun _ => q)
      = Prog.op (.hloBegin rfl o) (fun _ => .op (.hloEnd rfl o.writes) fun _ => seq ops) at h
    injection h with _ h1 h2
    injection h1 with h1
    subst h1
    have h3 := congrFun h2 ⟨⟩
    injection h3 with _ h3 h4
    exact ⟨ops, rfl, congrFun h4 fun b => W b.1⟩

/-- The equations of an operation followed by a line: its own, and the line's. -/
theorem Holds.step (h : Holds W ((hlo rfl op fun _ => .ret ⟨⟩ : Prog (TpuEff nD τ sig Val Λ .tc) PUnit) >>= fun _ => q)) :
    op.result W = W ∧ Holds W q := by
  obtain ⟨ops, e, h⟩ := h
  obtain ⟨l, rfl, e'⟩ := seq_step W e
  exact ⟨h _ List.mem_cons_self, l, e', fun o ho => h o (List.mem_cons_of_mem _ ho)⟩

/-- The equation of one operation alone. -/
theorem Holds.one (h : Holds W (hlo rfl op fun _ => .ret ⟨⟩ : Prog (TpuEff nD τ sig Val Λ .tc) PUnit)) : op.result W = W :=
  (Holds.step (q := pure ⟨⟩) h).1

/-- The equations of one line after another: the first's and the second's. -/
theorem Holds.bind (hp : IsLine p) (h : Holds W (p >>= fun _ => q)) : Holds W p ∧ Holds W q := by
  obtain ⟨l, rfl⟩ := hp
  induction l with
  | nil => exact ⟨⟨[], rfl, fun _ h => nomatch h⟩, h⟩
  | cons o l ih =>
    have h' : Holds W ((hlo rfl o fun _ => .ret ⟨⟩ : Prog (TpuEff nD τ sig Val Λ .tc) PUnit) >>=
        fun _ => (seq l >>= fun _ => q)) := h
    obtain ⟨h1, h2⟩ := h'.step
    obtain ⟨⟨l', e, h3⟩, h4⟩ := ih h2
    exact ⟨⟨o :: l', by rw [seq, seq, e], fun o' ho' => by
      rcases List.mem_cons.mp ho' with rfl | ho'
      · exact h1
      · exact h3 o' ho'⟩, h4⟩

/-- What a line leaves satisfies its equations. -/
theorem Line.holds (h : Line n p m) : ∃ ops, p = seq ops ∧ Good n ops m ∧ ∀ V, Holds (after ops V) p := by
  obtain ⟨ops, e, h⟩ := h
  exact ⟨ops, e, h, fun V => ⟨ops, e, h.fixed V⟩⟩

end Holds

/-! ## An operation's equation -/

section Equation

variable {W : Valuation τ sig Val}

/-- The contents of a typed reference's buffer, at the value's type. -/
def get (W : Valuation τ sig Val) {T : BufTy} (t : TRef sig T) : T.Contents Val := t.ofBuf (W (Proc.devRef .tc t.ref))

/-- Reading a buffer under its own type is reading it. -/
theorem get_of (r : Ref sig .tc) {h1 h2} : get W (TRef.of r rfl h1 h2) = W (Proc.devRef .tc r) := rfl

/-- The equation of a constant. -/
theorem nullary_eq {y : Ref sig .tc} {v : y.ty.Contents Val} {hy} (h : (nullary (τ := τ) y v hy).result W = W) :
    W (Proc.devRef .tc y) = v := by
  rw [← nullary_result y v hy W, h]

/-- The equation of an operation of one argument. -/
theorem unary_eq {x y : Ref sig .tc} {f : x.ty.Contents Val → y.ty.Contents Val} {hx hy}
    (h : (unary (τ := τ) x y f hx hy).result W = W) : W (Proc.devRef .tc y) = f (W (Proc.devRef .tc x)) := by
  rw [← unary_result x y f hx hy W, h]

/-- The equation of an operation of two arguments. -/
theorem binary_eq {a b y : Ref sig .tc} {f : a.ty.Contents Val → b.ty.Contents Val → y.ty.Contents Val} {ha hb hy}
    (h : (binary (τ := τ) a b y f ha hb hy).result W = W) :
    W (Proc.devRef .tc y) = f (W (Proc.devRef .tc a)) (W (Proc.devRef .tc b)) := by
  rw [← binary_result a b y f ha hb hy W, h]

/-- The equation of a reshape. -/
theorem reshape_eq {x y : Ref sig .tc} {he hn hx hy}
    (h : (reshape (τ := τ) (Val := Val) x y he hn hx hy).result W = W) :
    W (Proc.devRef .tc y) = fun i => he ▸ shapeCast y.ty.shape (W (Proc.devRef .tc x)) hn i := by
  rw [← reshape_result x y he hn hx hy W, h]

/-- The equation of an operation of many arguments. -/
theorem nary_eq {k : ℕ} {xs : Fin k → Ref sig .tc} {y : Ref sig .tc}
    {f : ((j : Fin k) → (xs j).ty.Contents Val) → y.ty.Contents Val} {hxs hy}
    (h : (nary (τ := τ) xs y f hxs hy).result W = W) :
    W (Proc.devRef .tc y) = f (fun j => W (Proc.devRef .tc (xs j))) := by
  rw [← nary_result xs y f hxs hy W, h]

variable {Tx Ta Tb Ty : BufTy}

/-- Writing under a type and reading under it gives the value back. -/
theorem ofBuf_toBuf (y : TRef sig Ty) (v : Ty.Contents Val) : y.ofBuf (y.toBuf v) = v := by
  obtain ⟨r, e, h1, h2⟩ := y; cases e; rfl

/-- The equation of a constant, in typed buffers. -/
theorem get_nullary {y : TRef sig Ty} {v : Ty.Contents Val} (h : (TRef.nullary (τ := τ) y v).result W = W) : get W y = v := by
  rw [get, nullary_eq h, ofBuf_toBuf]

/-- The equation of an operation of one argument, in typed buffers. -/
theorem get_unary {x : TRef sig Tx} {y : TRef sig Ty} {f : Tx.Contents Val → Ty.Contents Val}
    (h : (TRef.unary (τ := τ) x y f).result W = W) : get W y = f (get W x) := by
  rw [get, unary_eq h, ofBuf_toBuf, get]

/-- The equation of an operation of two arguments, in typed buffers. -/
theorem get_binary {a : TRef sig Ta} {b : TRef sig Tb} {y : TRef sig Ty} {f : Ta.Contents Val → Tb.Contents Val → Ty.Contents Val}
    (h : (TRef.binary (τ := τ) a b y f).result W = W) : get W y = f (get W a) (get W b) := by
  rw [get, binary_eq h, ofBuf_toBuf, get, get]

/-- The equation of a reshape, in typed buffers. -/
theorem get_reshape {x : TRef sig Tx} {y : TRef sig Ty} {he : Tx.elt = Ty.elt} {hn : Tx.shape.ShapeCasts Ty.shape}
    (h : (TRef.reshape (τ := τ) (Val := Val) x y he hn).result W = W) :
    get W y = fun i => he ▸ shapeCast Ty.shape (get W x) hn i := by
  rw [get, reshape_eq h, get]
  obtain ⟨r, e, h1, h2⟩ := y
  obtain ⟨r', e', h1', h2'⟩ := x
  cases e
  cases e'
  rfl

end Equation

end Cert.Host
-- ==== Proof.RefRun.lean ====
/- The reference runs: its main function is a line of host operations (`main_line`), so it ends, from any memory, with
   every buffer at the contents that the line leaves, and the arguments unchanged. -/
module

public import proofs.«01_k».proof.Proof.Host
public import proofs.«01_k».proof.Proof.Gen.ReferenceIdeal

@[expose] public section

set_option maxRecDepth 100000
set_option maxHeartbeats 4000000

noncomputable section

namespace Cert.ReferenceIdeal

open Idealize.ShloMosaic Idealize.SL.Sem Idealize.ShloMosaic.StableHlo Cert.Host Cert.ReferenceIdeal.Gen

variable {F : FTy → Type} [FloatOps F]

/-- The calls' bodies that call nothing themselves: the four stretches of the bit generator, the seven convolutions
    and the three combinations, each from its first buffer's number to its last's. -/
theorem pieces :
    (Line 57 (fn_threefry2x32.body_part0 (F := F) main_call0.v5 main_call0.v7 main_call0.v26 main_call0.v25 main_call0.call0) 117 ∧
      Line 117 (fn_threefry2x32.body_part1 (F := F) main_call0.v5 main_call0.v7 main_call0.v26 main_call0.v25 main_call0.call0) 177 ∧
      Line 177 (fn_threefry2x32.body_part2 (F := F) main_call0.v5 main_call0.v7 main_call0.v26 main_call0.v25 main_call0.call0) 237 ∧
      Line 237 (fn_threefry2x32.body_part3 (F := F) main_call0.v5 main_call0.v7 main_call0.v26 main_call0.v25 main_call0.call0) 279) ∧
    (Line 320 (fn_conv3.body (F := F) (.of main_arg0) (.of main_arg3) (.of main_arg4) main_call1) 378 ∧
      Line 394 (fn_conv3_0.body (F := F) (.of main_v42) (.of main_arg5) (.of main_arg6) main_call2) 452 ∧
      Line 455 (fn_conv3_0.body (F := F) (.of main_v46) (.of main_arg5) (.of main_arg6) main_call3) 513 ∧
      Line 541 (fn_conv3_0.body (F := F) (.of main_v52) (.of main_arg7) (.of main_arg8) main_call5) 599 ∧
      Line 602 (fn_conv3_0.body (F := F) (.of main_v56) (.of main_arg7) (.of main_arg8) main_call6) 660 ∧
      Line 688 (fn_conv3_0.body (F := F) (.of main_v62) (.of main_arg9) (.of main_arg10) main_call8) 746 ∧
      Line 749 (fn_conv3_0.body (F := F) (.of main_v66) (.of main_arg9) (.of main_arg10) main_call9) 807) ∧
    Line 513 (fn_combine.body (F := F) (.of main_v43) (.of main_v47) (.of main_v39) (.of main_arg1) main_call4) 537 ∧
    Line 660 (fn_combine.body (F := F) (.of main_v53) (.of main_v57) (.of main_v49) (.of main_arg1) main_call7) 684 ∧
    Line 807 (fn_combine.body (F := F) (.of main_v63) (.of main_v67) (.of main_v59) (.of main_arg1) main_call10) 831 := by
  refine ⟨⟨?_, ?_, ?_, ?_⟩, ⟨?_, ?_, ?_, ?_, ?_, ?_, ?_⟩, ?_, ?_, ?_⟩
  all_goals first
    | unfold fn_conv3_0.body
    | unfold fn_combine.body
    | unfold fn_conv3.body
    | unfold fn_threefry2x32.body_part0
    | unfold fn_threefry2x32.body_part1
    | unfold fn_threefry2x32.body_part2
    | unfold fn_threefry2x32.body_part3
  repeat' first
    | exact At.mk rfl rfl
    | exact Before.mk rfl (by decide)
    | with_reducible refine Line.step (OpAt.unary ?_ ?_) ?_
    | with_reducible refine Line.step (OpAt.binary ?_ ?_ ?_) ?_
    | with_reducible refine Line.step (OpAt.nullary ?_) ?_
    | with_reducible refine Line.step (OpAt.reshape ?_ ?_) ?_
    | with_reducible refine Line.step (OpAt.nary ?_ ?_) ?_
    | with_reducible refine Line.last (OpAt.unary ?_ ?_) ?_
    | with_reducible refine Line.last (OpAt.binary ?_ ?_ ?_) ?_
    | with_reducible refine Line.ret ?_
    | rfl

/-- The generator's body. -/
theorem threefry_line : Line 57 (fn_threefry2x32.body (F := F) main_call0.v5 main_call0.v7 main_call0.v26 main_call0.v25
    main_call0.call0) 279 :=
  pieces.1.1.bind (pieces.1.2.1.bind (pieces.1.2.2.1.bind pieces.1.2.2.2))

/-- The uniform draw, around the generator. -/
theorem uniform_line : Line 25 (fn_uniform.body (F := F) (.of main_v6) (.of main_cst) (.of main_cst_2) main_call0) 297 := by
  unfold fn_uniform.body
  repeat' first
    | with_reducible refine Line.bind threefry_line ?_
    | exact At.mk rfl rfl
    | exact Before.mk rfl (by decide)
    | with_reducible refine Line.step (OpAt.unary ?_ ?_) ?_
    | with_reducible refine Line.step (OpAt.binary ?_ ?_ ?_) ?_
    | with_reducible refine Line.step (OpAt.nullary ?_) ?_
    | with_reducible refine Line.step (OpAt.reshape ?_ ?_) ?_
    | with_reducible refine Line.step (OpAt.nary ?_ ?_) ?_
    | with_reducible refine Line.last (OpAt.unary ?_ ?_) ?_
    | with_reducible refine Line.last (OpAt.binary ?_ ?_ ?_) ?_
    | with_reducible refine Line.ret ?_
    | rfl

/-- The first part of the main function is a line. -/
theorem main_line0 (c : Dev nD) : Line 13 (main_part0 (F := F) c) 538 := by
  unfold main_part0
  repeat' first
    | with_reducible refine Line.bind uniform_line ?_
    | with_reducible refine Line.bind pieces.2.1.1 ?_
    | with_reducible refine Line.bind pieces.2.1.2.1 ?_
    | with_reducible refine Line.bind pieces.2.1.2.2.1 ?_
    | with_reducible refine Line.bind pieces.2.2.1 ?_
    | exact At.mk rfl rfl
    | exact Before.mk rfl (by decide)
    | with_reducible refine Line.step (OpAt.unary ?_ ?_) ?_
    | with_reducible refine Line.step (OpAt.binary ?_ ?_ ?_) ?_
    | with_reducible refine Line.step (OpAt.nullary ?_) ?_
    | with_reducible refine Line.step (OpAt.reshape ?_ ?_) ?_
    | with_reducible refine Line.step (OpAt.nary ?_ ?_) ?_
    | with_reducible refine Line.last (OpAt.unary ?_ ?_) ?_
    | with_reducible refine Line.last (OpAt.binary ?_ ?_ ?_) ?_
    | with_reducible refine Line.ret ?_
    | rfl

/-- The second part of the main function is a line. -/
theorem main_line1 (c : Dev nD) : Line 538 (main_part1 (F := F) c) 838 := by
  unfold main_part1
  repeat' first
    | with_reducible refine Line.bind pieces.2.1.2.2.2.1 ?_
    | with_reducible refine Line.bind pieces.2.1.2.2.2.2.1 ?_
    | with_reducible refine Line.bind pieces.2.1.2.2.2.2.2.1 ?_
    | with_reducible refine Line.bind pieces.2.1.2.2.2.2.2.2 ?_
    | with_reducible refine Line.bind pieces.2.2.2.1 ?_
    | with_reducible refine Line.bind pieces.2.2.2.2 ?_
    | exact At.mk rfl rfl
    | exact Before.mk rfl (by decide)
    | with_reducible refine Line.step (OpAt.unary ?_ ?_) ?_
    | with_reducible refine Line.step (OpAt.binary ?_ ?_ ?_) ?_
    | with_reducible refine Line.step (OpAt.nullary ?_) ?_
    | with_reducible refine Line.step (OpAt.reshape ?_ ?_) ?_
    | with_reducible refine Line.step (OpAt.nary ?_ ?_) ?_
    | with_reducible refine Line.last (OpAt.unary ?_ ?_) ?_
    | with_reducible refine Line.last (OpAt.binary ?_ ?_ ?_) ?_
    | with_reducible refine Line.ret ?_
    | rfl
    | exact fun j => by fin_cases j <;> exact Before.mk rfl (by decide)

/-- The reference's main function writes the buffers from 13 on, one after the other. -/
theorem main_line (c : Dev nD) : Line 13 (main (F := F) c) 838 := (main_line0 c).bind (main_line1 c)

end Cert.ReferenceIdeal
-- ==== Proof.RefEnd.lean ====
/- Where the reference ends: one valuation of its buffers that keeps the arguments and satisfies every equation of
   its main function. -/
module

public import proofs.«01_k».proof.Proof.RefRun
public import Idealize.ShloMosaic.Lib.Quiescent

@[expose] public section

set_option maxRecDepth 100000

noncomputable section

namespace Cert.ReferenceIdeal

open Idealize.ShloMosaic Idealize.SL.Sem Idealize.ShloMosaic.StableHlo Cert.Host Cert.ReferenceIdeal.Gen

variable {F : FTy → Type} [FloatOps F]

/-- The reference runs from any memory and ends with each device's buffers at contents that satisfy all equations of
    the main function, the arguments as launched. -/
theorem run (m : (ℓ : Loc nD τ sig) → Buf (Elt F) ℓ) (ρ : Dev nD → PrngReg) :
    ∃ W : Dev nD → Valuation τ sig (Elt F), (∀ c, Holds (W c) (main (F := F) c)) ∧
      (∀ c (r : Ref sig .tc), Before 13 r → W c (Proc.devRef .tc r) = m ((c.tc : Thread nD τ).loc r)) ∧
      θ_run (defs (F := F)) (onTc (τ := τ) (main (F := F))) ⟨m, fun _ => 0, ρ⟩ fun r =>
        ∀ (c : Dev nD) (b : Ref sig .tc), r.2.mem ((Dev.tc c : Thread nD τ).loc b) = W c (Proc.devRef .tc b) := by
  choose ops hops hgood hholds using fun c => (main_line (F := F) c).holds
  refine ⟨fun c => after (ops c) (launchContents m c), fun c => hholds c _, fun c r hr => (hgood c).keep _ hr, ?_⟩
  exact run_seq (by decide) (by decide) _ _ ops hops
    (fun c => List.forall_iff_forall_mem.mpr (hgood c).bufs) m ρ (fun c => (hgood c).fresh)

end Cert.ReferenceIdeal
-- ==== Proof.KRun.lean ====
/- The kernel's program ends, from any memory, with every buffer at the contents that its segments leave. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program ends, and leaves each buffer as the last segment leaves it. -/
theorem run : θ_run defs (onTc (τ := τ) (main (F := F))) ⟨m, fun _ => 0, ρ⟩ (fun r => ∀ c : Dev nD, ∀ b ∈ Pipeline.ucRefs τ sig,
      r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.KernelIdeal.Val
-- ==== Proof.Twin.lean ====
/- Two host programs that begin with the same operations leave the same contents in the buffers that those write. -/
module

public import proofs.«01_k».proof.Proof.Host

@[expose] public section

noncomputable section

namespace Cert.Host

open Idealize.ShloMosaic Idealize.SL Idealize.SL.Sem Idealize.ShloMosaic.StableHlo

variable {nD nD' : Nat} {τ τ' : Topo} {sig sig' : RefSig} {Val : EltTy → Type} {Λ : Labels}

/-- Two main-memory buffers of one number, from `l` on and below `n`, each in its own program. -/
def Pair (l n : ℕ) (x : Ref sig .tc) (x' : Ref sig' .tc) : Prop :=
  (x.space = .hbm ∧ x'.space = .hbm) ∧ x.idx.val = x'.idx.val ∧ l ≤ x.idx.val ∧ x.idx.val < n

/-- What it takes for two buffers to be a pair. -/
theorem Pair.mk {l n : ℕ} {x : Ref sig .tc} {x' : Ref sig' .tc} (h : x.space = .hbm) (h' : x'.space = .hbm)
    (e : x.idx.val = x'.idx.val) (b : l ≤ x.idx.val) (t : x.idx.val < n) : Pair l n x x' := ⟨⟨h, h'⟩, e, b, t⟩

/-- The contents agree in the buffers of numbers from `l` on and below `n`. -/
def Agree (l n : ℕ) (W : Valuation τ sig Val) (W' : Valuation τ' sig' Val) : Prop :=
  ∀ (x : Ref sig .tc) (x' : Ref sig' .tc), Pair l n x x' → HEq (W (Proc.devRef .tc x)) (W' (Proc.devRef .tc x'))

/-- No buffers agree at the outset. -/
theorem Agree.nil {l : ℕ} {W : Valuation τ sig Val} {W' : Valuation τ' sig' Val} : Agree l l W W' :=
  fun _ _ h => absurd (lt_of_le_of_lt h.2.2.1 h.2.2.2) (lt_irrefl _)

/-- One more buffer agrees. -/
theorem Agree.succ {l n : ℕ} {W : Valuation τ sig Val} {W' : Valuation τ' sig' Val} (h : Agree l n W W') {y : Ref sig .tc} {y' : Ref sig' .tc}
    (hy : At n y) (hy' : At n y') (e : HEq (W (Proc.devRef .tc y)) (W' (Proc.devRef .tc y'))) : Agree l (n + 1) W W' := by
  rintro x x' ⟨⟨h1, h2⟩, h3, h5, h4⟩
  rcases Nat.lt_succ_iff_lt_or_eq.mp h4 with h4 | h4
  · exact h x x' ⟨⟨h1, h2⟩, h3, h5, h4⟩
  · obtain rfl := At.eq (r := x) (r' := y) ⟨h1, h4⟩ hy
    obtain rfl := At.eq (r := x') (r' := y') ⟨h2, h3.symm.trans h4⟩ hy'
    exact e

/-- Typed references' contents agree. -/
theorem Agree.get {l n : ℕ} {W : Valuation τ sig Val} {W' : Valuation τ' sig' Val} (h : Agree l n W W') {T : BufTy} (x : TRef sig T)
    (x' : TRef sig' T) (hx : Pair l n x.ref x'.ref) :
    x.ofBuf (W (Proc.devRef .tc x.ref)) = x'.ofBuf (W' (Proc.devRef .tc x'.ref)) :=
  eq_of_heq ((cast_heq _ _).trans ((h _ _ hx).trans (cast_heq _ _).symm))

/-- Equal contents, stored in either program's buffer. -/
theorem toBuf_heq {T : BufTy} (y : TRef sig T) (y' : TRef sig' T) {v v' : T.Contents Val} (e : v = v') :
    HEq (y.toBuf v) (y'.toBuf v') := (cast_heq _ _).trans ((heq_of_eq e).trans (cast_heq _ _).symm)

/-- Equal arrays, reshaped. -/
theorem reshape_heq {A A' B B' : BufTy} (tA : A = A') (tB : B = B') {a : A.Contents Val} {a' : A'.Contents Val} (ha : HEq a a')
    {h1 : A.elt = B.elt} {h2 : A.shape.ShapeCasts B.shape} {h1' : A'.elt = B'.elt} {h2' : A'.shape.ShapeCasts B'.shape} :
    HEq (fun i => h1 ▸ shapeCast B.shape a h2 i : B.Contents Val) (fun i => h1' ▸ shapeCast B'.shape a' h2' i : B'.Contents Val) := by
  subst tA; subst tB; cases ha; rfl

/-- The list's operations from place `n - b` on are those of the program: run from contents that agree below `n`, the two leave
    contents that agree below `m`. -/
def Twin (l b n : ℕ) (ops : List (HloOp τ sig Val)) (p : Prog (TpuEff nD' τ' sig' Val Λ .tc) PUnit) (m : ℕ) : Prop :=
  ∀ (W : Valuation τ sig Val) (W' : Valuation τ' sig' Val), (∀ op ∈ ops, op.result W = W) → Holds W' p → Agree l n W W' → Agree l m W W'

section Twin

variable {l b n m k : ℕ} {ops : List (HloOp τ sig Val)} {p q : Prog (TpuEff nD' τ' sig' Val Λ .tc) PUnit} {Tx Ta Tb Ty : BufTy}

/-- Two programs that stop at a place have written the same up to there. -/
theorem Twin.stop (e : n = m) : Twin l b n ops p m := fun _ _ _ _ h => e ▸ h

/-- One program after another. -/
theorem Twin.bind (h : Twin l b n ops p k) (hp : IsLine p) (hq : Twin l b k ops q m) : Twin l b n ops (p >>= fun _ => q) m :=
  fun W W' hW hW' ha => hq W W' hW (Holds.bind hp hW').2 (h W W' hW (Holds.bind hp hW').1 ha)

/-- Both have an operation of one kind next: it remains to compare the operations, then the rests. -/
theorem Twin.one {op : HloOp τ sig Val} {op' : HloOp τ' sig' Val} {y : Ref sig .tc} {y' : Ref sig' .tc} (hm : ops[n - b]? = some op)
    (hy : At n y) (hy' : At n y')
    (h : ∀ (W : Valuation τ sig Val) (W' : Valuation τ' sig' Val), op.result W = W → op'.result W' = W' → Agree l n W W' →
      HEq (W (Proc.devRef .tc y)) (W' (Proc.devRef .tc y')))
    (hq : Twin l b (n + 1) ops q m) :
    Twin l b n ops ((hlo rfl op' fun _ => .ret ⟨⟩ : Prog (TpuEff nD' τ' sig' Val Λ .tc) PUnit) >>= fun _ => q) m := by
  intro W W' hW hW' ha
  obtain ⟨h1, h2⟩ := hW'.step
  exact hq W W' hW h2 (ha.succ hy hy' (h W W' (hW _ (List.mem_of_getElem? hm)) h1 ha))

/-- Twin constants. -/
theorem Twin.nullary {y : TRef sig Ty} {y' : TRef sig' Ty} {v v' : Ty.Contents Val}
    (hm : ops[n - b]? = some (TRef.nullary (τ := τ) y v)) (hv : v = v')
    (hy : At n y.ref) (hy' : At n y'.ref) (hq : Twin l b (n + 1) ops q m) :
    Twin l b n ops ((hlo rfl (TRef.nullary (τ := τ') y' v') fun _ => .ret ⟨⟩ : Prog (TpuEff nD' τ' sig' Val Λ .tc) PUnit) >>= fun _ => q) m :=
  Twin.one hm hy hy' (fun W W' h h' _ => by rw [nullary_eq h, nullary_eq h']; exact toBuf_heq y y' hv) hq

/-- Twin operations of one argument. -/
theorem Twin.unary {x : TRef sig Tx} {y : TRef sig Ty} {x' : TRef sig' Tx} {y' : TRef sig' Ty} {f f' : Tx.Contents Val → Ty.Contents Val}
    (hm : ops[n - b]? = some (TRef.unary (τ := τ) x y f)) (hf : f = f')
    (hy : At n y.ref) (hy' : At n y'.ref) (hx : Pair l n x.ref x'.ref) (hq : Twin l b (n + 1) ops q m) :
    Twin l b n ops ((hlo rfl (TRef.unary (τ := τ') x' y' f') fun _ => .ret ⟨⟩ : Prog (TpuEff nD' τ' sig' Val Λ .tc) PUnit) >>= fun _ => q) m :=
  Twin.one hm hy hy' (fun W W' h h' ha => by
    rw [unary_eq h, unary_eq h']; exact toBuf_heq y y' (hf ▸ congrArg f (ha.get x x' hx))) hq

/-- Twin operations of two arguments. -/
theorem Twin.binary {a : TRef sig Ta} {c : TRef sig Tb} {y : TRef sig Ty} {a' : TRef sig' Ta} {c' : TRef sig' Tb} {y' : TRef sig' Ty}
    {f f' : Ta.Contents Val → Tb.Contents Val → Ty.Contents Val}
    (hm : ops[n - b]? = some (TRef.binary (τ := τ) a c y f)) (hf : f = f')
    (hy : At n y.ref) (hy' : At n y'.ref) (ha : Pair l n a.ref a'.ref) (hb : Pair l n c.ref c'.ref) (hq : Twin l b (n + 1) ops q m) :
    Twin l b n ops ((hlo rfl (TRef.binary (τ := τ') a' c' y' f') fun _ => .ret ⟨⟩ : Prog (TpuEff nD' τ' sig' Val Λ .tc) PUnit) >>= fun _ => q) m :=
  Twin.one hm hy hy' (fun W W' h h' hA => by
    rw [binary_eq h, binary_eq h']
    exact toBuf_heq y y' (hf ▸ congrArg₂ f (hA.get a a' ha) (hA.get c c' hb))) hq

/-- Twin reshapes. -/
theorem Twin.reshape {x : TRef sig Tx} {y : TRef sig Ty} {x' : TRef sig' Tx} {y' : TRef sig' Ty} {h1 h2 h1' h2'}
    (hm : ops[n - b]? = some (TRef.reshape (τ := τ) (Val := Val) x y h1 h2))
    (hy : At n y.ref) (hy' : At n y'.ref) (hx : Pair l n x.ref x'.ref) (hq : Twin l b (n + 1) ops q m) :
    Twin l b n ops ((hlo rfl (TRef.reshape (τ := τ') (Val := Val) x' y' h1' h2') fun _ => .ret ⟨⟩ : Prog (TpuEff nD' τ' sig' Val Λ .tc) PUnit) >>= fun _ => q) m :=
  Twin.one hm hy hy' (fun W W' h h' ha => by
    rw [reshape_eq h, reshape_eq h']
    exact reshape_heq (x.ty_eq.trans x'.ty_eq.symm) (y.ty_eq.trans y'.ty_eq.symm) (ha _ _ hx)) hq

/-- An operation with nothing after it. -/
theorem Twin.lastBinary {a : TRef sig Ta} {c : TRef sig Tb} {y : TRef sig Ty} {a' : TRef sig' Ta} {c' : TRef sig' Tb} {y' : TRef sig' Ty}
    {f f' : Ta.Contents Val → Tb.Contents Val → Ty.Contents Val}
    (hm : ops[n - b]? = some (TRef.binary (τ := τ) a c y f)) (hf : f = f')
    (hy : At n y.ref) (hy' : At n y'.ref) (ha : Pair l n a.ref a'.ref) (hb : Pair l n c.ref c'.ref) (e : n + 1 = m) :
    Twin l b n ops (hlo rfl (TRef.binary (τ := τ') a' c' y' f') fun _ => .ret ⟨⟩ : Prog (TpuEff nD' τ' sig' Val Λ .tc) PUnit) m :=
  Twin.binary (q := .ret ⟨⟩) hm hf hy hy' ha hb (Twin.stop e)

end Twin

end Cert.Host
-- ==== Proof.Bits0.lean ====
/- One stretch of the bit generator is the same operations in the kernel's program and in the reference's. -/
module

public import proofs.«01_k».proof.Proof.Twin
public import proofs.«01_k».proof.Proof.RefRun
public import proofs.«01_k».proof.Proof.Gen.KernelIdeal.Launch

@[expose] public section

set_option maxRecDepth 100000
set_option maxHeartbeats 2000000

noncomputable section

namespace Cert.Both

open Idealize.ShloMosaic Idealize.SL.Sem Idealize.ShloMosaic.StableHlo Cert.Host Cert.ReferenceIdeal

variable {F : FTy → Type} [FloatOps F]

/-- The generator's buffers from 57 on. -/
theorem bits0 : Twin 22 25 57 (Cert.KernelIdeal.Gen.hostOps0_1 (F := F))
    (fn_threefry2x32.body_part0 (F := F) main_call0.v5 main_call0.v7 main_call0.v26 main_call0.v25 main_call0.call0) 117 := by
  unfold fn_threefry2x32.body_part0
  repeat' first
    | exact At.mk rfl rfl
    | exact Pair.mk rfl rfl rfl (by decide) (by decide)
    | with_reducible refine Twin.nullary (y := ?_) (v := ?_) ?_ ?_ ?_ ?_ ?_
    | with_reducible refine Twin.unary (x := ?_) (y := ?_) (f := ?_) ?_ ?_ ?_ ?_ ?_ ?_
    | with_reducible refine Twin.binary (a := ?_) (c := ?_) (y := ?_) (f := ?_) ?_ ?_ ?_ ?_ ?_ ?_ ?_
    | with_reducible refine Twin.lastBinary (a := ?_) (c := ?_) (y := ?_) (f := ?_) ?_ ?_ ?_ ?_ ?_ ?_ ?_
    | with_reducible exact Twin.stop rfl
    | rfl

end Cert.Both
-- ==== Proof.Bits1.lean ====
/- One stretch of the bit generator is the same operations in the kernel's program and in the reference's. -/
module

public import proofs.«01_k».proof.Proof.Twin
public import proofs.«01_k».proof.Proof.RefRun
public import proofs.«01_k».proof.Proof.Gen.KernelIdeal.Launch

@[expose] public section

set_option maxRecDepth 100000
set_option maxHeartbeats 2000000

noncomputable section

namespace Cert.Both

open Idealize.ShloMosaic Idealize.SL.Sem Idealize.ShloMosaic.StableHlo Cert.Host Cert.ReferenceIdeal

variable {F : FTy → Type} [FloatOps F]

/-- The generator's buffers from 117 on. -/
theorem bits1 : Twin 22 25 117 (Cert.KernelIdeal.Gen.hostOps0_1 (F := F))
    (fn_threefry2x32.body_part1 (F := F) main_call0.v5 main_call0.v7 main_call0.v26 main_call0.v25 main_call0.call0) 177 := by
  unfold fn_threefry2x32.body_part1
  repeat' first
    | exact At.mk rfl rfl
    | exact Pair.mk rfl rfl rfl (by decide) (by decide)
    | with_reducible refine Twin.nullary (y := ?_) (v := ?_) ?_ ?_ ?_ ?_ ?_
    | with_reducible refine Twin.unary (x := ?_) (y := ?_) (f := ?_) ?_ ?_ ?_ ?_ ?_ ?_
    | with_reducible refine Twin.binary (a := ?_) (c := ?_) (y := ?_) (f := ?_) ?_ ?_ ?_ ?_ ?_ ?_ ?_
    | with_reducible refine Twin.lastBinary (a := ?_) (c := ?_) (y := ?_) (f := ?_) ?_ ?_ ?_ ?_ ?_ ?_ ?_
    | with_reducible exact Twin.stop rfl
    | rfl

end Cert.Both
-- ==== Proof.Bits2.lean ====
/- One stretch of the bit generator is the same operations in the kernel's program and in the reference's. -/
module

public import proofs.«01_k».proof.Proof.Twin
public import proofs.«01_k».proof.Proof.RefRun
public import proofs.«01_k».proof.Proof.Gen.KernelIdeal.Launch

@[expose] public section

set_option maxRecDepth 100000
set_option maxHeartbeats 2000000

noncomputable section

namespace Cert.Both

open Idealize.ShloMosaic Idealize.SL.Sem Idealize.ShloMosaic.StableHlo Cert.Host Cert.ReferenceIdeal

variable {F : FTy → Type} [FloatOps F]

/-- The generator's buffers from 177 on. -/
theorem bits2 : Twin 22 25 177 (Cert.KernelIdeal.Gen.hostOps0_1 (F := F))
    (fn_threefry2x32.body_part2 (F := F) main_call0.v5 main_call0.v7 main_call0.v26 main_call0.v25 main_call0.call0) 237 := by
  unfold fn_threefry2x32.body_part2
  repeat' first
    | exact At.mk rfl rfl
    | exact Pair.mk rfl rfl rfl (by decide) (by decide)
    | with_reducible refine Twin.nullary (y := ?_) (v := ?_) ?_ ?_ ?_ ?_ ?_
    | with_reducible refine Twin.unary (x := ?_) (y := ?_) (f := ?_) ?_ ?_ ?_ ?_ ?_ ?_
    | with_reducible refine Twin.binary (a := ?_) (c := ?_) (y := ?_) (f := ?_) ?_ ?_ ?_ ?_ ?_ ?_ ?_
    | with_reducible refine Twin.lastBinary (a := ?_) (c := ?_) (y := ?_) (f := ?_) ?_ ?_ ?_ ?_ ?_ ?_ ?_
    | with_reducible exact Twin.stop rfl
    | rfl

end Cert.Both
-- ==== Proof.Bits3.lean ====
/- One stretch of the bit generator is the same operations in the kernel's program and in the reference's. -/
module

public import proofs.«01_k».proof.Proof.Twin
public import proofs.«01_k».proof.Proof.RefRun
public import proofs.«01_k».proof.Proof.Gen.KernelIdeal.Launch

@[expose] public section

set_option maxRecDepth 100000
set_option maxHeartbeats 2000000

noncomputable section

namespace Cert.Both

open Idealize.ShloMosaic Idealize.SL.Sem Idealize.ShloMosaic.StableHlo Cert.Host Cert.ReferenceIdeal

variable {F : FTy → Type} [FloatOps F]

/-- The generator's buffers from 237 on. -/
theorem bits3 : Twin 22 25 237 (Cert.KernelIdeal.Gen.hostOps0_1 (F := F))
    (fn_threefry2x32.body_part3 (F := F) main_call0.v5 main_call0.v7 main_call0.v26 main_call0.v25 main_call0.call0) 279 := by
  unfold fn_threefry2x32.body_part3
  repeat' first
    | exact At.mk rfl rfl
    | exact Pair.mk rfl rfl rfl (by decide) (by decide)
    | with_reducible refine Twin.nullary (y := ?_) (v := ?_) ?_ ?_ ?_ ?_ ?_
    | with_reducible refine Twin.unary (x := ?_) (y := ?_) (f := ?_) ?_ ?_ ?_ ?_ ?_ ?_
    | with_reducible refine Twin.binary (a := ?_) (c := ?_) (y := ?_) (f := ?_) ?_ ?_ ?_ ?_ ?_ ?_ ?_
    | with_reducible refine Twin.lastBinary (a := ?_) (c := ?_) (y := ?_) (f := ?_) ?_ ?_ ?_ ?_ ?_ ?_ ?_
    | with_reducible exact Twin.stop rfl
    | rfl

end Cert.Both
-- ==== Proof.Draw.lean ====
/- The uniform draw is the same operations in the kernel's program and in the reference's, so it is the same numbers. -/
module

public import proofs.«01_k».proof.Proof.Bits0
public import proofs.«01_k».proof.Proof.Bits1
public import proofs.«01_k».proof.Proof.Bits2
public import proofs.«01_k».proof.Proof.Bits3

@[expose] public section

set_option maxRecDepth 100000
set_option maxHeartbeats 2000000

noncomputable section

namespace Cert.Both

open Idealize.ShloMosaic Idealize.SL.Sem Idealize.ShloMosaic.StableHlo Cert.Host Cert.ReferenceIdeal

variable {F : FTy → Type} [FloatOps F]

/-- The generator's four stretches. -/
theorem bits : Twin 22 25 57 (Cert.KernelIdeal.Gen.hostOps0_1 (F := F))
    (fn_threefry2x32.body (F := F) main_call0.v5 main_call0.v7 main_call0.v26 main_call0.v25 main_call0.call0) 279 :=
  bits0.bind pieces.1.1.isLine (bits1.bind pieces.1.2.1.isLine (bits2.bind pieces.1.2.2.1.isLine bits3))

/-- The draw's operations agree. -/
theorem draw : Twin 22 25 25 (Cert.KernelIdeal.Gen.hostOps0_1 (F := F))
    (fn_uniform.body (F := F) (.of main_v6) (.of main_cst) (.of main_cst_2) main_call0) 297 := by
  unfold fn_uniform.body
  repeat' first
    | with_reducible refine Twin.bind bits threefry_line.isLine ?_
    | exact At.mk rfl rfl
    | exact Pair.mk rfl rfl rfl (by decide) (by decide)
    | with_reducible refine Twin.nullary (y := ?_) (v := ?_) ?_ ?_ ?_ ?_ ?_
    | with_reducible refine Twin.unary (x := ?_) (y := ?_) (f := ?_) ?_ ?_ ?_ ?_ ?_ ?_
    | with_reducible refine Twin.binary (a := ?_) (c := ?_) (y := ?_) (f := ?_) ?_ ?_ ?_ ?_ ?_ ?_ ?_
    | with_reducible refine Twin.reshape (x := ?_) (y := ?_) (h1 := ?_) (h2 := ?_) ?_ ?_ ?_ ?_ ?_
    | with_reducible exact Twin.stop rfl
    | rfl

end Cert.Both
-- ==== Proof.DrawReal.lean ====
/- The uniform draw lies strictly between zero and one. -/
module

public import proofs.«01_k».proof.Proof.RefRun
public import Idealize.ShloMosaic.Lib.Pointwise

@[expose] public section

set_option maxRecDepth 100000
set_option maxHeartbeats 2000000

noncomputable section

namespace Cert.ReferenceIdeal

open Idealize.ShloMosaic Idealize.SL.Sem Idealize.ShloMosaic.StableHlo Cert.Host

variable (W : Valuation τ sig (Elt Ideal))

/-- An entry of the draw: the bits with the exponent of one, moved to the interval. -/
theorem draw_value (h : Holds W (fn_uniform.body (F := Ideal) (.of main_v6) (.of main_cst) (.of main_cst_2) main_call0))
    (hlo : W (Proc.devRef .tc main_cst) = constant (F := Ideal) S_ .f32 0x358637BD#32)
    (hhi : W (Proc.devRef .tc main_cst_2) = constant (F := Ideal) S_ .f32 0x3F7FFFEF#32) (o : Fin 96) (s : Fin 4) (t : Fin 2) :
    ∃ B : BitVec 32, get W main_call0.v42 (ix4 0 o s t) = max (Ideal.ofBits .f32 0x358637BD#32)
      ((Ideal.ofBits .f32 (B >>> 9#32 ||| 1065353216#32) - 1) * (Ideal.ofBits .f32 0x3F7FFFEF#32 - Ideal.ofBits .f32 0x358637BD#32) +
        Ideal.ofBits .f32 0x358637BD#32) := by
  unfold fn_uniform.body at h
  obtain ⟨hv0, h⟩ := h.step
  obtain ⟨hv1, h⟩ := h.step
  obtain ⟨hv2, h⟩ := h.step
  obtain ⟨hv3, h⟩ := h.step
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := h.step.2
  replace h := (Holds.bind threefry_line.isLine h).2
  replace h := h.step.2
  obtain ⟨hc4, h⟩ := h.step
  obtain ⟨hv29, h⟩ := h.step
  obtain ⟨hv30, h⟩ := h.step
  obtain ⟨hc5, h⟩ := h.step
  obtain ⟨hv31, h⟩ := h.step
  obtain ⟨hv32, h⟩ := h.step
  obtain ⟨hv33, h⟩ := h.step
  obtain ⟨hcst, h⟩ := h.step
  obtain ⟨hv34, h⟩ := h.step
  obtain ⟨hv35, h⟩ := h.step
  obtain ⟨hv36, h⟩ := h.step
  obtain ⟨hv37, h⟩ := h.step
  obtain ⟨hv38, h⟩ := h.step
  obtain ⟨hv39, h⟩ := h.step
  obtain ⟨hv40, h⟩ := h.step
  obtain ⟨hv41, h⟩ := h.step
  obtain ⟨hv42, h⟩ := h.step
  have glo : get W (.of main_cst : TRef sig ⟨S_, .f32⟩) = constant (F := Ideal) S_ .f32 0x358637BD#32 := hlo
  have ghi : get W (.of main_cst_2 : TRef sig ⟨S_, .f32⟩) = constant (F := Ideal) S_ .f32 0x3F7FFFEF#32 := hhi
  refine ⟨get W main_call0.v28 (ix4 0 o s t), ?_⟩
  rw [get_binary hv42, get_unary hv41, get_binary hv40, get_unary hv39, get_binary hv38, get_unary hv37, get_binary hv36, get_binary hv35,
    get_unary hv34, get_nullary hcst, get_unary hv33, get_binary hv32, get_unary hv31, get_nullary hc5, get_binary hv30, get_unary hv29,
    get_nullary hc4, get_unary hv2, get_unary hv3, get_unary hv0, get_unary hv1, glo, ghi]
  generalize get W main_call0.v28 = B
  clear hlo hhi glo ghi h
  clear * -
  pointwise
  rfl

/-- The bits with the exponent of one: a number from one up to (not including) two. -/
theorem unit_bits (B : BitVec 32) : ∃ f : ℝ, Ideal.ofBits .f32 (B >>> 9#32 ||| 1065353216#32) = ((1 + f : ℝ) : EReal) ∧ 0 ≤ f ∧ f < 1 := by
  have e1 : (B >>> 9#32 ||| 1065353216#32).extractLsb' 31 1 = 0#1 := by
    ext i hi
    obtain rfl : i = 0 := by omega
    simp
  have e2 : (B >>> 9#32 ||| 1065353216#32).extractLsb' 23 8 = 127#8 := by
    ext i hi
    interval_cases i <;> simp
  generalize B >>> 9#32 ||| 1065353216#32 = b at e1 e2
  have hb := (b.extractLsb' 0 23).isLt
  refine ⟨(b.extractLsb' 0 23).toNat / 2 ^ 23, ?_, by positivity, ?_⟩
  · simp only [Ideal.ofBits, Ideal.ieee, e1, e2]
    norm_num [-EReal.coe_mul]
    rw [← EReal.coe_one, ← EReal.coe_add]
    refine congrArg _ ?_
    ring
  · rw [div_lt_one (by positivity)]
    exact_mod_cast hb

/-- The interval's ends. -/
theorem low_bits : Ideal.ofBits .f32 0x358637BD#32 = ((8796093 * (2 : ℝ) ^ (-43 : ℤ) : ℝ) : EReal) := by
  simp [Ideal.ofBits, Ideal.ieee, -EReal.coe_mul]

/-- The word of the upper end, as a real number. -/
theorem high_bits : Ideal.ofBits .f32 0x3F7FFFEF#32 = ((16777199 * (2 : ℝ) ^ (-24 : ℤ) : ℝ) : EReal) := by
  simp [Ideal.ofBits, Ideal.ieee, -EReal.coe_mul]

/-- Each entry of the draw is a real number strictly between zero and one. -/
theorem draw_real (h : Holds W (fn_uniform.body (F := Ideal) (.of main_v6) (.of main_cst) (.of main_cst_2) main_call0))
    (hlo : W (Proc.devRef .tc main_cst) = constant (F := Ideal) S_ .f32 0x358637BD#32)
    (hhi : W (Proc.devRef .tc main_cst_2) = constant (F := Ideal) S_ .f32 0x3F7FFFEF#32) (o : Fin 96) (s : Fin 4) (t : Fin 2) :
    ∃ b : ℝ, get W main_call0.v42 (ix4 0 o s t) = (b : EReal) ∧ 0 < b ∧ b < 1 := by
  obtain ⟨B, e⟩ := draw_value W h hlo hhi o s t
  obtain ⟨f, hf, f0, f1⟩ := unit_bits B
  have hm : ∀ a b : ℝ, max (a : EReal) b = ((max a b : ℝ) : EReal) := fun a b => (EReal.coe_strictMono.monotone.map_max).symm
  rw [hf, low_bits, high_bits, ← EReal.coe_one, ← EReal.coe_sub, ← EReal.coe_sub, ← EReal.coe_mul, ← EReal.coe_add, hm] at e
  refine ⟨_, e, lt_max_of_lt_left (by norm_num), max_lt (by norm_num) ?_⟩
  norm_num
  nlinarith

end Cert.ReferenceIdeal
-- ==== Proof.Slab.lean ====
module

public import proofs.«01_k».proof.Proof.Gen.KernelIdeal.Skeleton
public import Idealize.ShloMosaic.Lib.Pipeline.Value
public import Idealize.ShloMosaic.Lib.Pipeline.FrameBody
public import Idealize.ShloMosaic.Lib.Pointwise

@[expose] public section

set_option maxRecDepth 100000

noncomputable section

namespace Cert.KernelIdeal.Val

open Idealize.ShloMosaic Idealize.ShloMosaic.TcCoe Idealize.SL.Sem
open Cert.KernelIdeal Cert.KernelIdeal.Gen

/-- A picture of 224 rows and columns with a border of zeros, one pixel wide, read at row `r` and column `w` counted
    from the border. -/
def padAt (X : S224x224x96.Idx → EReal) (r w : ℕ) (k : Fin 96) : EReal :=
  if h : (1 ≤ r ∧ r ≤ 224) ∧ (1 ≤ w ∧ w ≤ 224) then X (ix3 ⟨r - 1, by omega⟩ ⟨w - 1, by omega⟩ k) else 0

/-- Inside the border the padded picture is the picture. -/
theorem padAt_in (X : S224x224x96.Idx → EReal) (r w : ℕ) (k : Fin 96) (a b : Fin 224) (ha : r = a.val + 1)
    (hb : w = b.val + 1) : padAt X r w k = X (ix3 a b k) := by
  subst ha; subst hb
  have := a.isLt
  have := b.isLt
  unfold padAt
  rw [dif_pos (by omega)]
  rfl

/-- On the border the padded picture is zero. -/
theorem padAt_out (X : S224x224x96.Idx → EReal) (r w : ℕ) (k : Fin 96)
    (h : r = 0 ∨ 224 < r ∨ w = 0 ∨ 224 < w) : padAt X r w k = 0 := by
  unfold padAt
  rw [dif_neg (by omega)]

/-- What the scratch holds at block `b`: three copies of 34 rows of the padded picture, shifted by one column each. -/
def slabOf (X : S224x224x96.Idx → EReal) (b : ℕ) : S3x34x224x96.Idx → EReal :=
  fun y => padAt X (32 * b + (y 1).val) ((y 2).val + (y 0).val) (y 3)

/-- The slab as a block of the scratch's element type. -/
abbrev slabV (X : S224x224x96.Idx → EReal) (b : ℕ) : S3x34x224x96.Idx → Elt Ideal (EltTy.bf16) := slabOf X b

/-- A padded picture read at equal positions. -/
theorem padAt_congr (X : S224x224x96.Idx → EReal) {r r' w w' : ℕ} {k k' : Fin 96} (hr : r = r') (hw : w = w')
    (hk : k.val = k'.val) : padAt X r w k = padAt X r' w' k' := by
  subst hr; subst hw; rw [Fin.ext hk]

/-- A piece of the scratch: a box of rows of one of the three copies, and the padded picture on it. -/
theorem piece_slab (X : S224x224x96.Idx → EReal) (b d r n : ℕ)
    (h : ∀ a, (![d, r, 0, 0] : Fin 4 → ℕ) a + (![1, n, 224, 96] : Fin 4 → ℕ) a ≤ S3x34x224x96.size a)
    (p : (⟨4, ![1, n, 224, 96]⟩ : Shape).Idx → EReal)
    (hp : ∀ (x1 : Fin n) (x2 : Fin 224) (x3 : Fin 96),
      p (ix4 0 x1 x2 x3) = padAt X (32 * b + (r + x1.val)) (x2.val + d) x3)
    (x : (⟨4, ![1, n, 224, 96]⟩ : Shape).Idx) :
    p x = slabOf X b ((Rect.unit (s := S3x34x224x96) ![d, r, 0, 0] ![1, n, 224, 96] h).emb x) := by
  obtain ⟨x0, x1, x2, x3, rfl⟩ : ∃ (a : Fin 1) (b : Fin n) (c : Fin 224) (d : Fin 96), x = ix4 a b c d :=
    ⟨_, _, _, _, eq_ix4 x⟩
  obtain rfl : x0 = 0 := Subsingleton.elim _ _
  rw [hp]
  refine padAt_congr X ?_ ?_ ?_
  · show _ = 32 * b + (r + 1 * x1.val); omega
  · show _ = (0 + 1 * x2.val) + (d + 1 * 0); omega
  · show _ = 0 + 1 * x3.val; omega

/-- A position of the scratch lies in a box of rows of one of the copies when its copy and row do. -/
theorem mem_piece (d r n : ℕ)
    (h : ∀ a, (![d, r, 0, 0] : Fin 4 → ℕ) a + (![1, n, 224, 96] : Fin 4 → ℕ) a ≤ S3x34x224x96.size a)
    (y : S3x34x224x96.Idx) (h0 : (y 0).val = d) (h1 : r ≤ (y 1).val ∧ (y 1).val < r + n) :
    y ∈ (Rect.unit (s := S3x34x224x96) ![d, r, 0, 0] ![1, n, 224, 96] h).set := by
  rw [Rect.mem_set_unit]
  intro a
  have h2 : (y 2).val < 224 := (y 2).isLt
  have h3 : (y 3).val < 96 := (y 3).isLt
  match a with
  | ⟨0, _⟩ => show d ≤ (y 0).val ∧ (y 0).val < d + 1; omega
  | ⟨1, _⟩ => exact h1
  | ⟨2, _⟩ => show 0 ≤ (y 2).val ∧ (y 2).val < 0 + 224; omega
  | ⟨3, _⟩ => show 0 ≤ (y 3).val ∧ (y 3).val < 0 + 96; omega

/-- Three stores of 34 rows, one per copy, write the slab. -/
theorem canon_three (X : S224x224x96.Idx → EReal) (b : ℕ)
    (h0 : ∀ a, (![0, 0, 0, 0] : Fin 4 → ℕ) a + (![1, 34, 224, 96] : Fin 4 → ℕ) a ≤ S3x34x224x96.size a)
    (h1 : ∀ a, (![1, 0, 0, 0] : Fin 4 → ℕ) a + (![1, 34, 224, 96] : Fin 4 → ℕ) a ≤ S3x34x224x96.size a)
    (h2 : ∀ a, (![2, 0, 0, 0] : Fin 4 → ℕ) a + (![1, 34, 224, 96] : Fin 4 → ℕ) a ≤ S3x34x224x96.size a)
    (p0 p1 p2 : Vec Ideal S1x34x224x96 .bf16)
    (e0 : ∀ x1 x2 x3, p0 (ix4 0 x1 x2 x3) = padAt X (32 * b + (0 + x1.val)) (x2.val + 0) x3)
    (e1 : ∀ x1 x2 x3, p1 (ix4 0 x1 x2 x3) = padAt X (32 * b + (0 + x1.val)) (x2.val + 1) x3)
    (e2 : ∀ x1 x2 x3, p2 (ix4 0 x1 x2 x3) = padAt X (32 * b + (0 + x1.val)) (x2.val + 2) x3) :
    View.canon (Val := Elt Ideal) (s := S3x34x224x96) (e := .bf16)
      [⟨Rect.unit ![2, 0, 0, 0] ![1, 34, 224, 96] h2, p2⟩, ⟨Rect.unit ![1, 0, 0, 0] ![1, 34, 224, 96] h1, p1⟩,
       ⟨Rect.unit ![0, 0, 0, 0] ![1, 34, 224, 96] h0, p0⟩] = slabV X b := by
  funext y
  refine View.canon_apply_of_pieces (slabV X b) _ ?_ y ?_
  · intro p hp
    simp only [List.mem_cons, List.not_mem_nil, or_false] at hp
    rcases hp with rfl | rfl | rfl
    · exact piece_slab X b 2 0 34 h2 p2 e2
    · exact piece_slab X b 1 0 34 h1 p1 e1
    · exact piece_slab X b 0 0 34 h0 p0 e0
  · have hy : (y 0).val < 3 := (y 0).isLt
    have hr : (y 1).val < 34 := (y 1).isLt
    have hc : (y 0).val = 0 ∨ (y 0).val = 1 ∨ (y 0).val = 2 := by omega
    rcases hc with hc | hc | hc
    · exact ⟨_, List.Mem.tail _ (List.Mem.tail _ (List.Mem.head _)), mem_piece 0 0 34 h0 y hc ⟨by omega, by omega⟩⟩
    · exact ⟨_, List.Mem.tail _ (List.Mem.head _), mem_piece 1 0 34 h1 y hc ⟨by omega, by omega⟩⟩
    · exact ⟨_, List.Mem.head _, mem_piece 2 0 34 h2 y hc ⟨by omega, by omega⟩⟩

/-- Three stores of 33 rows and three of one row write the slab, the one row being row `q` and the others beginning at
    row `r`. -/
theorem canon_six (X : S224x224x96.Idx → EReal) (b r q : ℕ) (hrq : (q = 0 ∧ r = 1) ∨ (q = 33 ∧ r = 0))
    (h0 : ∀ a, (![0, r, 0, 0] : Fin 4 → ℕ) a + (![1, 33, 224, 96] : Fin 4 → ℕ) a ≤ S3x34x224x96.size a)
    (h1 : ∀ a, (![1, r, 0, 0] : Fin 4 → ℕ) a + (![1, 33, 224, 96] : Fin 4 → ℕ) a ≤ S3x34x224x96.size a)
    (h2 : ∀ a, (![2, r, 0, 0] : Fin 4 → ℕ) a + (![1, 33, 224, 96] : Fin 4 → ℕ) a ≤ S3x34x224x96.size a)
    (g0 : ∀ a, (![0, q, 0, 0] : Fin 4 → ℕ) a + (![1, 1, 224, 96] : Fin 4 → ℕ) a ≤ S3x34x224x96.size a)
    (g1 : ∀ a, (![1, q, 0, 0] : Fin 4 → ℕ) a + (![1, 1, 224, 96] : Fin 4 → ℕ) a ≤ S3x34x224x96.size a)
    (g2 : ∀ a, (![2, q, 0, 0] : Fin 4 → ℕ) a + (![1, 1, 224, 96] : Fin 4 → ℕ) a ≤ S3x34x224x96.size a)
    (p0 p1 p2 : Vec Ideal S1x33x224x96 .bf16) (z0 z1 z2 : Vec Ideal S1x1x224x96 .bf16)
    (e0 : ∀ x1 x2 x3, p0 (ix4 0 x1 x2 x3) = padAt X (32 * b + (r + x1.val)) (x2.val + 0) x3)
    (e1 : ∀ x1 x2 x3, p1 (ix4 0 x1 x2 x3) = padAt X (32 * b + (r + x1.val)) (x2.val + 1) x3)
    (e2 : ∀ x1 x2 x3, p2 (ix4 0 x1 x2 x3) = padAt X (32 * b + (r + x1.val)) (x2.val + 2) x3)
    (f0 : ∀ x1 x2 x3, z0 (ix4 0 x1 x2 x3) = padAt X (32 * b + (q + x1.val)) (x2.val + 0) x3)
    (f1 : ∀ x1 x2 x3, z1 (ix4 0 x1 x2 x3) = padAt X (32 * b + (q + x1.val)) (x2.val + 1) x3)
    (f2 : ∀ x1 x2 x3, z2 (ix4 0 x1 x2 x3) = padAt X (32 * b + (q + x1.val)) (x2.val + 2) x3)
    (L : List (View.Piece (Elt Ideal) S3x34x224x96 .bf16))
    (hL : ∀ p, p ∈ L ↔ p ∈ [(⟨Rect.unit ![2, r, 0, 0] ![1, 33, 224, 96] h2, p2⟩ : View.Piece (Elt Ideal) S3x34x224x96 .bf16),
       ⟨Rect.unit ![1, r, 0, 0] ![1, 33, 224, 96] h1, p1⟩,
       ⟨Rect.unit ![0, r, 0, 0] ![1, 33, 224, 96] h0, p0⟩, ⟨Rect.unit ![2, q, 0, 0] ![1, 1, 224, 96] g2, z2⟩,
       ⟨Rect.unit ![1, q, 0, 0] ![1, 1, 224, 96] g1, z1⟩, ⟨Rect.unit ![0, q, 0, 0] ![1, 1, 224, 96] g0, z0⟩]) :
    View.canon (Val := Elt Ideal) (s := S3x34x224x96) (e := .bf16) L = slabV X b := by
  funext y
  refine View.canon_apply_of_pieces (slabV X b) _ ?_ y ?_
  · intro p hp
    rw [hL] at hp
    simp only [List.mem_cons, List.not_mem_nil, or_false] at hp
    rcases hp with rfl | rfl | rfl | rfl | rfl | rfl
    · exact piece_slab X b 2 r 33 h2 p2 e2
    · exact piece_slab X b 1 r 33 h1 p1 e1
    · exact piece_slab X b 0 r 33 h0 p0 e0
    · exact piece_slab X b 2 q 1 g2 z2 f2
    · exact piece_slab X b 1 q 1 g1 z1 f1
    · exact piece_slab X b 0 q 1 g0 z0 f0
  · have hy : (y 0).val < 3 := (y 0).isLt
    have hr : (y 1).val < 34 := (y 1).isLt
    have hc : (y 0).val = 0 ∨ (y 0).val = 1 ∨ (y 0).val = 2 := by omega
    have hd : (q ≤ (y 1).val ∧ (y 1).val < q + 1) ∨ (r ≤ (y 1).val ∧ (y 1).val < r + 33) := by omega
    rcases hc with hc | hc | hc <;> rcases hd with hd | hd
    · exact ⟨_, (hL _).mpr (List.Mem.tail _ (List.Mem.tail _ (List.Mem.tail _ (List.Mem.tail _ (List.Mem.tail _ (List.Mem.head _)))))), mem_piece 0 q 1 g0 y hc hd⟩
    · exact ⟨_, (hL _).mpr (List.Mem.tail _ (List.Mem.tail _ (List.Mem.head _))), mem_piece 0 r 33 h0 y hc hd⟩
    · exact ⟨_, (hL _).mpr (List.Mem.tail _ (List.Mem.tail _ (List.Mem.tail _ (List.Mem.tail _ (List.Mem.head _))))), mem_piece 1 q 1 g1 y hc hd⟩
    · exact ⟨_, (hL _).mpr (List.Mem.tail _ (List.Mem.head _)), mem_piece 1 r 33 h1 y hc hd⟩
    · exact ⟨_, (hL _).mpr (List.Mem.tail _ (List.Mem.tail _ (List.Mem.tail _ (List.Mem.head _)))), mem_piece 2 q 1 g2 y hc hd⟩
    · exact ⟨_, (hL _).mpr (List.Mem.head _), mem_piece 2 r 33 h2 y hc hd⟩

end Cert.KernelIdeal.Val
-- ==== Proof.Mid.lean ====
module

public import proofs.«01_k».proof.Proof.Slab

@[expose] public section

set_option maxRecDepth 100000

noncomputable section

namespace Cert.KernelIdeal.Val

open Idealize.ShloMosaic Idealize.ShloMosaic.TcCoe Idealize.SL.Sem
open Cert.KernelIdeal Cert.KernelIdeal.Gen

/-- A load of a box of the scratch holding `S`. -/
abbrev tapS (S : S3x34x224x96.Idx → Elt Ideal EltTy.bf16) (B : Rect S3x34x224x96) : B.toLoadRect.shape.Idx → Elt Ideal EltTy.bf16 :=
  fun j => S (B.toLoadRect.idx j)

/-- What a middle stage stores, as a function of the scratch, the spatial mask, the weights and the channel rows. -/
def midBlock (S : S3x34x224x96.Idx → Elt Ideal EltTy.bf16) (spa : Vec Ideal S32x224 .bf16) (wm : Vec Ideal S9x96x256 .bf16)
    (cv : Vec Ideal S8x96 .f32) : FVec Ideal S32x224x96 .bf16 :=
  k1_pay1
    (k1_pay23
      (k1_pay22
        (k1_pay21
          (tapS S (Rect.unit (s := S3x34x224x96) ![0, 0, 0, 0] ![1, 32, 224, 96] inb_S3x34x224x96_S1x32x224x96_0_0_0_0))
          (View.ld wm (Rect.unit (s := S9x96x256) ![0, 0, 0] ![1, 96, 256] inb_S9x96x256_S1x96x256_0_0_0))
          (tapS S (Rect.unit (s := S3x34x224x96) ![1, 0, 0, 0] ![1, 32, 224, 96] inb_S3x34x224x96_S1x32x224x96_1_0_0_0))
          (View.ld wm (Rect.unit (s := S9x96x256) ![1, 0, 0] ![1, 96, 256] inb_S9x96x256_S1x96x256_1_0_0)))
          (tapS S (Rect.unit (s := S3x34x224x96) ![2, 0, 0, 0] ![1, 32, 224, 96] inb_S3x34x224x96_S1x32x224x96_2_0_0_0))
          (View.ld wm (Rect.unit (s := S9x96x256) ![2, 0, 0] ![1, 96, 256] inb_S9x96x256_S1x96x256_2_0_0))
          (tapS S (Rect.unit (s := S3x34x224x96) ![0, 1, 0, 0] ![1, 32, 224, 96] inb_S3x34x224x96_S1x32x224x96_0_1_0_0))
          (View.ld wm (Rect.unit (s := S9x96x256) ![3, 0, 0] ![1, 96, 256] inb_S9x96x256_S1x96x256_3_0_0))
          (tapS S (Rect.unit (s := S3x34x224x96) ![1, 1, 0, 0] ![1, 32, 224, 96] inb_S3x34x224x96_S1x32x224x96_1_1_0_0))
          (View.ld wm (Rect.unit (s := S9x96x256) ![4, 0, 0] ![1, 96, 256] inb_S9x96x256_S1x96x256_4_0_0))
          (tapS S (Rect.unit (s := S3x34x224x96) ![2, 1, 0, 0] ![1, 32, 224, 96] inb_S3x34x224x96_S1x32x224x96_2_1_0_0))
          (View.ld wm (Rect.unit (s := S9x96x256) ![5, 0, 0] ![1, 96, 256] inb_S9x96x256_S1x96x256_5_0_0)))
          (tapS S (Rect.unit (s := S3x34x224x96) ![0, 2, 0, 0] ![1, 32, 224, 96] inb_S3x34x224x96_S1x32x224x96_0_2_0_0))
          (View.ld wm (Rect.unit (s := S9x96x256) ![6, 0, 0] ![1, 96, 256] inb_S9x96x256_S1x96x256_6_0_0))
          (tapS S (Rect.unit (s := S3x34x224x96) ![1, 2, 0, 0] ![1, 32, 224, 96] inb_S3x34x224x96_S1x32x224x96_1_2_0_0))
          (View.ld wm (Rect.unit (s := S9x96x256) ![7, 0, 0] ![1, 96, 256] inb_S9x96x256_S1x96x256_7_0_0))
          (tapS S (Rect.unit (s := S3x34x224x96) ![2, 2, 0, 0] ![1, 32, 224, 96] inb_S3x34x224x96_S1x32x224x96_2_2_0_0))
          (View.ld wm (Rect.unit (s := S9x96x256) ![8, 0, 0] ![1, 96, 256] inb_S9x96x256_S1x96x256_8_0_0)))
    (k1_pay24 (View.ld spa (Rect.unit (s := S32x224) ![0, 0] ![32, 224] inb_S32x224_S32x224_0_0)))
    (k1_pay25 (View.ld cv (Rect.unit (s := S8x96) ![0, 0] ![1, 96] inb_S8x96_S1x96_0_0)))
    (k1_pay26 (View.ld cv (Rect.unit (s := S8x96) ![1, 0] ![1, 96] inb_S8x96_S1x96_1_0)))
    (View.ld cv (Rect.unit (s := S8x96) ![2, 0] ![1, 96] inb_S8x96_S1x96_2_0))

/-- The sum over nine taps and 96 channels of a three by three convolution, tap `t` being row `t / 3`, column `t % 3`. -/
def tapSum (P : ℕ → ℕ → Fin 96 → EReal) (wt : Fin 9 → Fin 96 → EReal) : EReal :=
  ∑ k, P 0 0 k * wt 0 k + ∑ k, P 0 1 k * wt 1 k + ∑ k, P 0 2 k * wt 2 k + ∑ k, P 1 0 k * wt 3 k +
    ∑ k, P 1 1 k * wt 4 k + ∑ k, P 1 2 k * wt 5 k + ∑ k, P 2 0 k * wt 6 k + ∑ k, P 2 1 k * wt 7 k +
    ∑ k, P 2 2 k * wt 8 k

/-- What a load of one tap's window of the slab reads. -/
theorem tapS_slab (X : S224x224x96.Idx → EReal) (b d r : ℕ)
    (h : ∀ a, (![d, r, 0, 0] : Fin 4 → ℕ) a + (![1, 32, 224, 96] : Fin 4 → ℕ) a ≤ S3x34x224x96.size a)
    (i : Fin 32) (w : Fin 224) (k : Fin 96) :
    tapS (slabV X b) (Rect.unit (s := S3x34x224x96) ![d, r, 0, 0] ![1, 32, 224, 96] h) (ix4 0 i w k) =
      padAt X (32 * b + (r + i.val)) (w.val + d) k := by
  refine padAt_congr X ?_ ?_ ?_
  · show 32 * b + (r + 1 * i.val) = _; omega
  · show (0 + 1 * w.val) + (d + 1 * 0) = _; omega
  · show 0 + 1 * k.val = _; omega

/-- A middle stage's value at a pixel and channel. -/
theorem midBlock_apply (X : S224x224x96.Idx → EReal) (b : ℕ) (spa : Vec Ideal S32x224 .bf16) (wm : Vec Ideal S9x96x256 .bf16)
    (cv : Vec Ideal S8x96 .f32) (i : Fin 32) (w : Fin 224) (o : Fin 96) :
    midBlock (slabV X b) spa wm cv (ix3 i w o) =
      let P : ℕ → ℕ → Fin 96 → EReal := fun dh dw k => padAt X (32 * b + (dh + i.val)) (w.val + dw) k
      let cc : EReal := tapSum P fun t k => wm (ix3 t k ⟨o.val, by omega⟩)
      let dd : EReal := tapSum P fun t k => wm (ix3 t k ⟨128 + o.val, by omega⟩)
      max (spa (ix2 i w) * (cc + cv (ix2 2 o) - dd * cv (ix2 0 o)) + dd * cv (ix2 0 o) + cv (ix2 1 o)) 0 := by
  pointwise [midBlock, k1_pay1, k1_pay21, k1_pay22, k1_pay23, k1_pay24, k1_pay25, k1_pay26, tapS_slab, tapSum]

end Cert.KernelIdeal.Val
-- ==== Proof.RefConv.lean ====
/- What the reference's convolution computes: at each position, nine sums over the input channels and the bias. -/
module

public import proofs.«01_k».proof.Proof.RefRun
public import proofs.«01_k».proof.Proof.Mid
public import Idealize.ShloMosaic.Lib.Pointwise

@[expose] public section

set_option maxRecDepth 100000
set_option maxHeartbeats 8000000

noncomputable section

namespace Cert.ReferenceIdeal

open Idealize.ShloMosaic Idealize.SL.Sem Idealize.ShloMosaic.StableHlo Cert.Host
open Cert.KernelIdeal.Val (padAt padAt_in padAt_out tapSum)

/-- A picture with its channels last. -/
def pic (X : S1x96x224x224.Idx → EReal) : Cert.KernelIdeal.S224x224x96.Idx → EReal := fun y => X (ix4 0 (y 2) (y 0) (y 1))

/-- The convolution at one position: the padded picture's nine windows against the weights, and the bias. -/
def conv (X : Cert.KernelIdeal.S224x224x96.Idx → EReal) (wt : S96x96x3x3.Idx → EReal) (b : S96.Idx → EReal) (r w : Fin 224) (o : Fin 96) : EReal :=
  tapSum (fun dh dw k => padAt X (dh + r.val) (w.val + dw) k)
    (fun t k => wt (ix4 o k ⟨t.val / 3, by omega⟩ ⟨t.val % 3, by omega⟩)) + b (ix1 o)

/-- The picture padded with a border of zeros. -/
theorem pad_pic (X : S1x96x224x224.Idx → EReal) (z : S_.Idx → EReal) (hz : z = constant (F := Ideal) S_ .f32 0x00000000#32)
    (k : Fin 96) (r w : Fin 226) (hp hv) :
    pad S1x96x226x226 ![0, 0, 1, 1] ![0, 0, 1, 1] ![0, 0, 0, 0] X z hp hv (ix4 0 k r w) = padAt (pic X) r.val w.val k := by
  subst hz
  pointwise
  by_cases h : (1 ≤ r.val ∧ r.val - 1 < 224) ∧ 1 ≤ w.val ∧ w.val - 1 < 224
  · rw [dif_pos h, padAt_in (pic X) r.val w.val k ⟨r.val - 1, h.1.2⟩ ⟨w.val - 1, h.2.2⟩ (by show r.val = r.val - 1 + 1; omega)
      (by show w.val = w.val - 1 + 1; omega)]
    rfl
  · rw [dif_neg h, padAt_out (pic X) r.val w.val k (by omega)]

/-- A sum of products, the factors exchanged. -/
theorem swap {f g f' g' : Fin 96 → EReal} (hf : ∀ k, f k = f' k) (hg : ∀ k, g k = g' k) : ∑ k, f k * g k = ∑ k, g' k * f' k :=
  Finset.sum_congr rfl fun k _ => by rw [hf, hg, mul_comm]

/-- The nine sums as the convolution names them. -/
theorem conv_form (X : Cert.KernelIdeal.S224x224x96.Idx → EReal) (wt : S96x96x3x3.Idx → EReal) (b : S96.Idx → EReal) (r c : Fin 224) (o : Fin 96) :
    ∑ x, wt (ix4 o x 0 0) * padAt X r.val c.val x + ∑ x, wt (ix4 o x 0 1) * padAt X r.val (1 + c.val) x +
      ∑ x, wt (ix4 o x 0 2) * padAt X r.val (2 + c.val) x + ∑ x, wt (ix4 o x 1 0) * padAt X (1 + r.val) c.val x +
      ∑ x, wt (ix4 o x 1 1) * padAt X (1 + r.val) (1 + c.val) x + ∑ x, wt (ix4 o x 1 2) * padAt X (1 + r.val) (2 + c.val) x +
      ∑ x, wt (ix4 o x 2 0) * padAt X (2 + r.val) c.val x + ∑ x, wt (ix4 o x 2 1) * padAt X (2 + r.val) (1 + c.val) x +
      ∑ x, wt (ix4 o x 2 2) * padAt X (2 + r.val) (2 + c.val) x + b (ix1 o) = conv X wt b r c o := by
  have pc : ∀ {r r' w w' : ℕ} (k : Fin 96), r = r' → w = w' → padAt X r w k = padAt X r' w' k := by
    rintro _ _ _ _ k rfl rfl; rfl
  unfold conv tapSum
  refine congrArg (· + b (ix1 o)) ?_
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals exact swap (fun k => rfl) (fun k => pc k (by omega) (by omega))

set_option maxHeartbeats 8000000 in
/-- Both printed bodies compute the convolution. -/
theorem conv_values (W : Valuation τ sig (Elt Ideal)) :
    (∀ x w b φ, Holds W (fn_conv3.body (F := Ideal) x w b φ) → ∀ (o : Fin 96) (r c : Fin 224),
      get W φ.v56 (ix4 0 o r c) = conv (pic (get W x)) (get W w) (get W b) r c o) ∧
    (∀ x w b φ, Holds W (fn_conv3_0.body (F := Ideal) x w b φ) → ∀ (o : Fin 96) (r c : Fin 224),
      get W φ.v56 (ix4 0 o r c) = conv (pic (get W x)) (get W w) (get W b) r c o) := by
  constructor
  all_goals
    intro x w b φ h o r c
    first
      | unfold fn_conv3.body at h
      | unfold fn_conv3_0.body at h
    obtain ⟨hz, h⟩ := h.step
    obtain ⟨h0, h⟩ := h.step
    obtain ⟨h1, h⟩ := h.step
    obtain ⟨h2, h⟩ := h.step
    obtain ⟨h3, h⟩ := h.step
    obtain ⟨h4, h⟩ := h.step
    obtain ⟨h5, h⟩ := h.step
    obtain ⟨h6, h⟩ := h.step
    obtain ⟨h7, h⟩ := h.step
    obtain ⟨h8, h⟩ := h.step
    obtain ⟨h9, h⟩ := h.step
    obtain ⟨h10, h⟩ := h.step
    obtain ⟨h11, h⟩ := h.step
    obtain ⟨h12, h⟩ := h.step
    obtain ⟨h13, h⟩ := h.step
    obtain ⟨h14, h⟩ := h.step
    obtain ⟨h15, h⟩ := h.step
    obtain ⟨h16, h⟩ := h.step
    obtain ⟨h17, h⟩ := h.step
    obtain ⟨h18, h⟩ := h.step
    obtain ⟨h19, h⟩ := h.step
    obtain ⟨h20, h⟩ := h.step
    obtain ⟨h21, h⟩ := h.step
    obtain ⟨h22, h⟩ := h.step
    obtain ⟨h23, h⟩ := h.step
    obtain ⟨h24, h⟩ := h.step
    obtain ⟨h25, h⟩ := h.step
    obtain ⟨h26, h⟩ := h.step
    obtain ⟨h27, h⟩ := h.step
    obtain ⟨h28, h⟩ := h.step
    obtain ⟨h29, h⟩ := h.step
    obtain ⟨h30, h⟩ := h.step
    obtain ⟨h31, h⟩ := h.step
    obtain ⟨h32, h⟩ := h.step
    obtain ⟨h33, h⟩ := h.step
    obtain ⟨h34, h⟩ := h.step
    obtain ⟨h35, h⟩ := h.step
    obtain ⟨h36, h⟩ := h.step
    obtain ⟨h37, h⟩ := h.step
    obtain ⟨h38, h⟩ := h.step
    obtain ⟨h39, h⟩ := h.step
    obtain ⟨h40, h⟩ := h.step
    obtain ⟨h41, h⟩ := h.step
    obtain ⟨h42, h⟩ := h.step
    obtain ⟨h43, h⟩ := h.step
    obtain ⟨h44, h⟩ := h.step
    obtain ⟨h45, h⟩ := h.step
    obtain ⟨h46, h⟩ := h.step
    obtain ⟨h47, h⟩ := h.step
    obtain ⟨h48, h⟩ := h.step
    obtain ⟨h49, h⟩ := h.step
    obtain ⟨h50, h⟩ := h.step
    obtain ⟨h51, h⟩ := h.step
    obtain ⟨h52, h⟩ := h.step
    obtain ⟨h53, h⟩ := h.step
    obtain ⟨h54, h⟩ := h.step
    obtain ⟨h55, h⟩ := h.step
    obtain ⟨h56, h⟩ := h.step
    clear h
    have hP : ∀ (k : Fin 96) (r w : Fin 226), get W φ.v0 (ix4 0 k r w) = padAt (pic (get W x)) r.val w.val k := fun k r w => by
      rw [get_binary h0]; exact pad_pic _ _ (get_nullary hz) k r w _ _
    rw [get_binary h56, get_unary h55, get_reshape h54, get_binary h53, get_binary h47, get_binary h41, get_binary h35, get_binary h29, get_binary h23, get_binary h17, get_binary h11,
      get_unary h5, get_binary h4, get_reshape h3, get_unary h2, get_unary h1,
      get_unary h10, get_binary h9, get_reshape h8, get_unary h7, get_unary h6,
      get_unary h16, get_binary h15, get_reshape h14, get_unary h13, get_unary h12,
      get_unary h22, get_binary h21, get_reshape h20, get_unary h19, get_unary h18,
      get_unary h28, get_binary h27, get_reshape h26, get_unary h25, get_unary h24,
      get_unary h34, get_binary h33, get_reshape h32, get_unary h31, get_unary h30,
      get_unary h40, get_binary h39, get_reshape h38, get_unary h37, get_unary h36,
      get_unary h46, get_binary h45, get_reshape h44, get_unary h43, get_unary h42,
      get_unary h52, get_binary h51, get_reshape h50, get_unary h49, get_unary h48]
    generalize get W φ.v0 = P at hP
    generalize get W x = X at hP
    pointwise
    simp only [hP]
    exact conv_form (pic X) (get W w) (get W b) r c o

end Cert.ReferenceIdeal
-- ==== Proof.Mask.lean ====
/- The channel mask as a function of the argument and the uniform draw, and what is true of its entries. -/
module

public import proofs.«01_k».proof.Proof.RefRun
public import Idealize.ShloMosaic.Lib.Pointwise

@[expose] public section

set_option maxRecDepth 100000

noncomputable section

namespace Cert.ReferenceIdeal

open Idealize.ShloMosaic Idealize.SL.Sem Idealize.ShloMosaic.StableHlo Cert.Host Cert.ReferenceIdeal.Gen

/-- An array over the pairs of channel and stage choices. -/
abbrev Pairs := S1x96x4x2.Idx → EReal

/-- The scores: the argument and a doubly logarithmic draw, at temperature one. -/
def scores (l u : Pairs) : Pairs :=
  Host.divf (F := Ideal) (φ := .f32) (addf (F := Ideal) (φ := .f32) l (Host.negf (F := Ideal) (φ := .f32) (Host.log (F := Ideal) (φ := .f32)
    (Host.negf (F := Ideal) (φ := .f32) (Host.log (F := Ideal) (φ := .f32) u)))))
    (broadcastInDim S1x96x4x2 ![] bcast_S_S1x96x4x2 (constant (F := Ideal) S_ .f32 0x3F800000#32))

/-- The scores' exponentials, the larger of each pair taken off first. -/
def weights (y : Pairs) : Pairs :=
  Host.exp (F := Ideal) (φ := .f32) (subf (F := Ideal) (φ := .f32) y (broadcastInDim S1x96x4x2 ![0, 1, 2, 3] bcast_S1x96x4x1_S1x96x4x2_0_1_2_3
    (broadcastInDim S1x96x4x1 ![0, 1, 2] bcast_S1x96x4_S1x96x4x1_0_1_2
      (maximumf (F := Ideal) (φ := .f32) (broadcastInDim S1x96x4 ![] bcast_S_S1x96x4 (constant (F := Ideal) S_ .f32 0xFF800000#32))
        (Host.reduce (FloatOps.maximumf (F := Ideal) (φ := .f32)) y (constant (F := Ideal) S_ .f32 0xFF800000#32) reducesTo_S1x96x4x2_S1x96x4_d3 h_S_)))))

/-- The weights, each pair scaled to sum to one. -/
def scaled (e : Pairs) : Pairs :=
  Host.divf (F := Ideal) (φ := .f32) e (broadcastInDim S1x96x4x2 ![0, 1, 2, 3] bcast_S1x96x4x1_S1x96x4x2_0_1_2_3
    (broadcastInDim S1x96x4x1 ![0, 1, 2] bcast_S1x96x4_S1x96x4x1_0_1_2
      (Host.reduceAdd (F := Ideal) (φ := .f32) e (constant (F := Ideal) S_ .f32 0x00000000#32) reducesTo_S1x96x4x2_S1x96x4_d3 h_S_)))

/-- The mask. -/
def maskOf (l u : Pairs) : Pairs := scaled (weights (scores l u))

/-- Minus infinity's bits. -/
theorem neg_inf : Ideal.ofBits FTy.f32 4286578688#32 = ⊥ := by
  simp [Ideal.ofBits, Ideal.ieee, -EReal.coe_mul]

/-- A score of real numbers, the draw strictly between zero and one, is a real number. -/
theorem scores_real (l u : Pairs) (o : Fin 96) (s : Fin 4) (t : Fin 2) (a b : ℝ) (hl : l (ix4 0 o s t) = (a : EReal))
    (hu : u (ix4 0 o s t) = (b : EReal)) (h0 : 0 < b) (h1 : b < 1) : ∃ r : ℝ, scores l u (ix4 0 o s t) = (r : EReal) := by
  have hlog : Real.log b < 0 := Real.log_neg h0 h1
  refine ⟨a + -Real.log (-Real.log b), ?_⟩
  unfold scores
  pointwise
  have e1 : -(Real.log b : EReal) = ((-Real.log b : ℝ) : EReal) := (EReal.coe_neg _).symm
  rw [hl, hu, Ideal.log_coe, if_neg (not_le.mpr h0), e1, Ideal.log_coe, if_neg (not_le.mpr (by linarith)), ← EReal.coe_neg, ← EReal.coe_add,
    ← EReal.coe_one, Ideal.div_coe one_ne_zero, ← EReal.coe_mul]
  norm_num

/-- A pair's weights are positive real numbers when its scores are real numbers. -/
theorem weights_real (y : Pairs) (o : Fin 96) (s : Fin 4) (a b : ℝ) (h0 : y (ix4 0 o s 0) = (a : EReal)) (h1 : y (ix4 0 o s 1) = (b : EReal)) :
    weights y (ix4 0 o s 0) = ((Real.exp (a - max a b) : ℝ) : EReal) ∧ weights y (ix4 0 o s 1) = ((Real.exp (b - max a b) : ℝ) : EReal) := by
  have hm : max (⊥ : EReal) (Finset.fold max ⊥ (fun x => y (ix4 0 o s x)) Finset.univ) = ((max a b : ℝ) : EReal) := by
    have : (Finset.univ : Finset (Fin 2)) = {0, 1} := by decide
    have hc : ((max a b : ℝ) : EReal) = max (a : EReal) b := EReal.coe_strictMono.monotone.map_max
    rw [this, Finset.fold_insert (by decide), Finset.fold_singleton, h0, h1, hc]
    simp
  unfold weights
  constructor
  · pointwise
    rw [neg_inf, hm, h0, ← EReal.coe_sub, Ideal.exp_coe]
  · pointwise
    rw [neg_inf, hm, h1, ← EReal.coe_sub, Ideal.exp_coe]

/-- A pair of the mask: two real numbers that sum to one. -/
theorem maskOf_pair (l u : Pairs) (o : Fin 96) (s : Fin 4) (hl : ∀ t : Fin 2, ∃ a : ℝ, l (ix4 0 o s t) = (a : EReal))
    (hu : ∀ t : Fin 2, ∃ b : ℝ, u (ix4 0 o s t) = (b : EReal) ∧ 0 < b ∧ b < 1) :
    ∃ a b : ℝ, maskOf l u (ix4 0 o s 0) = (a : EReal) ∧ maskOf l u (ix4 0 o s 1) = (b : EReal) ∧ a + b = 1 := by
  have hr : ∀ t : Fin 2, ∃ r : ℝ, scores l u (ix4 0 o s t) = (r : EReal) := fun t => by
    obtain ⟨a, ha⟩ := hl t
    obtain ⟨b, hb, h0, h1⟩ := hu t
    exact scores_real l u o s t a b ha hb h0 h1
  obtain ⟨a, ha⟩ := hr 0
  obtain ⟨b, hb⟩ := hr 1
  obtain ⟨e0, e1⟩ := weights_real (scores l u) o s a b ha hb
  have p0 := Real.exp_pos (a - max a b)
  have p1 := Real.exp_pos (b - max a b)
  have hs : ∑ x, weights (scores l u) (ix4 0 o s x) = ((Real.exp (a - max a b) + Real.exp (b - max a b) : ℝ) : EReal) := by
    rw [Fin.sum_univ_two, e0, e1, EReal.coe_add]
  have hd : ∀ (e : Pairs) (t : Fin 2), scaled e (ix4 0 o s t) = Ideal.div (e (ix4 0 o s t)) (∑ x, e (ix4 0 o s x)) := fun e t => by
    unfold scaled
    pointwise
  have hne : Real.exp (a - max a b) + Real.exp (b - max a b) ≠ 0 := by positivity
  refine ⟨Real.exp (a - max a b) * (1 / (Real.exp (a - max a b) + Real.exp (b - max a b))),
    Real.exp (b - max a b) * (1 / (Real.exp (a - max a b) + Real.exp (b - max a b))), ?_, ?_, ?_⟩
  · rw [maskOf, hd, hs, e0, Ideal.div_coe hne, ← EReal.coe_mul]
  · rw [maskOf, hd, hs, e1, Ideal.div_coe hne, ← EReal.coe_mul]
  · field_simp

end Cert.ReferenceIdeal
-- ==== Proof.First.lean ====
module

public import proofs.«01_k».proof.Proof.Mid

@[expose] public section

set_option maxRecDepth 100000

noncomputable section

namespace Cert.KernelIdeal.Val

open Idealize.ShloMosaic Idealize.ShloMosaic.TcCoe Idealize.SL.Sem
open Cert.KernelIdeal Cert.KernelIdeal.Gen

/-- What the first stage stores, as a function of the scratch, the spatial mask, the weights and the channel rows. -/
def firstBlock (S : S3x34x224x96.Idx → Elt Ideal EltTy.bf16) (spa : Vec Ideal S32x224 .bf16) (wm : Vec Ideal S9x96x96 .bf16)
    (cv : Vec Ideal S8x96 .f32) : FVec Ideal S32x224x96 .bf16 :=
  k0_pay1
    (k0_pay24 (View.ld spa (Rect.unit (s := S32x224) ![0, 0] ![32, 224] inb_S32x224_S32x224_0_0)))
    (k0_pay25 (View.ld cv (Rect.unit (s := S8x96) ![0, 0] ![1, 96] inb_S8x96_S1x96_0_0)))
    (k0_pay26 (View.ld cv (Rect.unit (s := S8x96) ![1, 0] ![1, 96] inb_S8x96_S1x96_1_0)))
    (k0_pay27 (View.ld cv (Rect.unit (s := S8x96) ![2, 0] ![1, 96] inb_S8x96_S1x96_2_0)))
    (k0_pay28
      (k0_pay23
        (k0_pay22
          (tapS S (Rect.unit (s := S3x34x224x96) ![0, 0, 0, 0] ![1, 32, 224, 96] inb_S3x34x224x96_S1x32x224x96_0_0_0_0))
          (View.ld wm (Rect.unit (s := S9x96x96) ![0, 0, 0] ![1, 96, 96] inb_S9x96x96_S1x96x96_0_0_0))
          (tapS S (Rect.unit (s := S3x34x224x96) ![1, 0, 0, 0] ![1, 32, 224, 96] inb_S3x34x224x96_S1x32x224x96_1_0_0_0))
          (View.ld wm (Rect.unit (s := S9x96x96) ![1, 0, 0] ![1, 96, 96] inb_S9x96x96_S1x96x96_1_0_0)))
          (tapS S (Rect.unit (s := S3x34x224x96) ![2, 0, 0, 0] ![1, 32, 224, 96] inb_S3x34x224x96_S1x32x224x96_2_0_0_0))
          (View.ld wm (Rect.unit (s := S9x96x96) ![2, 0, 0] ![1, 96, 96] inb_S9x96x96_S1x96x96_2_0_0))
          (tapS S (Rect.unit (s := S3x34x224x96) ![0, 1, 0, 0] ![1, 32, 224, 96] inb_S3x34x224x96_S1x32x224x96_0_1_0_0))
          (View.ld wm (Rect.unit (s := S9x96x96) ![3, 0, 0] ![1, 96, 96] inb_S9x96x96_S1x96x96_3_0_0))
          (tapS S (Rect.unit (s := S3x34x224x96) ![1, 1, 0, 0] ![1, 32, 224, 96] inb_S3x34x224x96_S1x32x224x96_1_1_0_0))
          (View.ld wm (Rect.unit (s := S9x96x96) ![4, 0, 0] ![1, 96, 96] inb_S9x96x96_S1x96x96_4_0_0))
          (tapS S (Rect.unit (s := S3x34x224x96) ![2, 1, 0, 0] ![1, 32, 224, 96] inb_S3x34x224x96_S1x32x224x96_2_1_0_0))
          (View.ld wm (Rect.unit (s := S9x96x96) ![5, 0, 0] ![1, 96, 96] inb_S9x96x96_S1x96x96_5_0_0)))
          (tapS S (Rect.unit (s := S3x34x224x96) ![0, 2, 0, 0] ![1, 32, 224, 96] inb_S3x34x224x96_S1x32x224x96_0_2_0_0))
          (View.ld wm (Rect.unit (s := S9x96x96) ![6, 0, 0] ![1, 96, 96] inb_S9x96x96_S1x96x96_6_0_0))
          (tapS S (Rect.unit (s := S3x34x224x96) ![1, 2, 0, 0] ![1, 32, 224, 96] inb_S3x34x224x96_S1x32x224x96_1_2_0_0))
          (View.ld wm (Rect.unit (s := S9x96x96) ![7, 0, 0] ![1, 96, 96] inb_S9x96x96_S1x96x96_7_0_0))
          (tapS S (Rect.unit (s := S3x34x224x96) ![2, 2, 0, 0] ![1, 32, 224, 96] inb_S3x34x224x96_S1x32x224x96_2_2_0_0))
          (View.ld wm (Rect.unit (s := S9x96x96) ![8, 0, 0] ![1, 96, 96] inb_S9x96x96_S1x96x96_8_0_0)))

/-- The first stage's value at a pixel and channel. -/
theorem firstBlock_apply (X : S224x224x96.Idx → EReal) (b : ℕ) (spa : Vec Ideal S32x224 .bf16) (wm : Vec Ideal S9x96x96 .bf16)
    (cv : Vec Ideal S8x96 .f32) (i : Fin 32) (w : Fin 224) (o : Fin 96) :
    firstBlock (slabV X b) spa wm cv (ix3 i w o) =
      let P : ℕ → ℕ → Fin 96 → EReal := fun dh dw k => padAt X (32 * b + (dh + i.val)) (w.val + dw) k
      max ((tapSum P (fun t k => wm (ix3 t k o)) + cv (ix2 2 o)) * (cv (ix2 0 o) * spa (ix2 i w) + cv (ix2 1 o))) 0 := by
  pointwise [firstBlock, k0_pay1, k0_pay22, k0_pay23, k0_pay28, k0_pay24, k0_pay25, k0_pay26, k0_pay27, tapS_slab, tapSum]

end Cert.KernelIdeal.Val
-- ==== Proof.Last.lean ====
module

public import proofs.«01_k».proof.Proof.Mid

@[expose] public section

set_option maxRecDepth 100000

noncomputable section

namespace Cert.KernelIdeal.Val

open Idealize.ShloMosaic Idealize.ShloMosaic.TcCoe Idealize.SL.Sem
open Cert.KernelIdeal Cert.KernelIdeal.Gen

/-- What the last stage stores: its own middle stage and the three stages before it, through the one by one convolution. -/
def lastBlock (M : FVec Ideal S32x224x96 .bf16) (f0 f1 f2 : Vec Ideal S32x224x96 .bf16) (wf : Vec Ideal S4x96x96 .bf16)
    (bc : Vec Ideal S8x96 .f32) : FVec Ideal S96x32x224 .f32 :=
  k3_pay1 M
    (k3_pay28 (View.ld f0 (Rect.unit (s := S32x224x96) ![0, 0, 0] ![32, 224, 96] inb_S32x224x96_S32x224x96_0_0_0))
      (View.ld wf (Rect.unit (s := S4x96x96) ![0, 0, 0] ![1, 96, 96] inb_S4x96x96_S1x96x96_0_0_0))
      (View.ld f1 (Rect.unit (s := S32x224x96) ![0, 0, 0] ![32, 224, 96] inb_S32x224x96_S32x224x96_0_0_0))
      (View.ld wf (Rect.unit (s := S4x96x96) ![1, 0, 0] ![1, 96, 96] inb_S4x96x96_S1x96x96_1_0_0)))
    (k3_pay29 (View.ld f2 (Rect.unit (s := S32x224x96) ![0, 0, 0] ![32, 224, 96] inb_S32x224x96_S32x224x96_0_0_0)))
    (View.ld wf (Rect.unit (s := S4x96x96) ![2, 0, 0] ![1, 96, 96] inb_S4x96x96_S1x96x96_2_0_0))
    (View.ld wf (Rect.unit (s := S4x96x96) ![3, 0, 0] ![1, 96, 96] inb_S4x96x96_S1x96x96_3_0_0))
    (View.ld bc (Rect.unit (s := S8x96) ![0, 0] ![1, 96] inb_S8x96_S1x96_0_0))

/-- The last stage's value at a channel and pixel. -/
theorem lastBlock_apply (M : FVec Ideal S32x224x96 .bf16) (f0 f1 f2 : Vec Ideal S32x224x96 .bf16) (wf : Vec Ideal S4x96x96 .bf16)
    (bc : Vec Ideal S8x96 .f32) (o : Fin 96) (i : Fin 32) (w : Fin 224) :
    lastBlock M f0 f1 f2 wf bc (ix3 o i w) =
      ∑ k : Fin 96, f0 (ix3 i w k) * wf (ix3 0 k o) + ∑ k : Fin 96, f1 (ix3 i w k) * wf (ix3 1 k o) +
        ∑ k : Fin 96, f2 (ix3 i w k) * wf (ix3 2 k o) + ∑ k : Fin 96, M (ix3 i w k) * wf (ix3 3 k o) + bc (ix2 0 o) := by
  pointwise [lastBlock, k3_pay1, k3_pay28, k3_pay29]

end Cert.KernelIdeal.Val
-- ==== Proof.Stage.lean ====
module

public import proofs.«01_k».proof.Proof.Mid
public import proofs.«01_k».proof.Proof.First
public import proofs.«01_k».proof.Proof.Last

@[expose] public section

noncomputable section

namespace Cert.KernelIdeal.Val

open Idealize.ShloMosaic
open Cert.KernelIdeal

/-- The first stage at a pixel and channel of the whole picture. -/
def firstStage (X : S224x224x96.Idx → EReal) (spa : S224x224.Idx → EReal) (wm : S9x96x96.Idx → EReal)
    (cv : S8x96.Idx → EReal) (r w : Fin 224) (o : Fin 96) : EReal :=
  max ((tapSum (fun dh dw k => padAt X (dh + r.val) (w.val + dw) k) (fun t k => wm (ix3 t k o)) + cv (ix2 2 o))
    * (cv (ix2 0 o) * spa (ix2 r w) + cv (ix2 1 o))) 0

/-- A middle stage at a pixel and channel of the whole picture. -/
def midStage (X : S224x224x96.Idx → EReal) (spa : S224x224.Idx → EReal) (wm : S9x96x256.Idx → EReal)
    (cv : S8x96.Idx → EReal) (r w : Fin 224) (o : Fin 96) : EReal :=
  let P : ℕ → ℕ → Fin 96 → EReal := fun dh dw k => padAt X (dh + r.val) (w.val + dw) k
  let cc := tapSum P fun t k => wm (ix3 t k ⟨o.val, by have := o.isLt; omega⟩)
  let dd := tapSum P fun t k => wm (ix3 t k ⟨128 + o.val, by have := o.isLt; omega⟩)
  max (spa (ix2 r w) * (cc + cv (ix2 2 o) - dd * cv (ix2 0 o)) + dd * cv (ix2 0 o) + cv (ix2 1 o)) 0

/-- The collecting sum at an output channel and a pixel: four pictures through four channel matrices. -/
def lastStage (M f0 f1 f2 : S224x224x96.Idx → EReal) (wf : S4x96x96.Idx → EReal) (bc : S8x96.Idx → EReal)
    (o : Fin 96) (r w : Fin 224) : EReal :=
  (∑ k, f0 (ix3 r w k) * wf (ix3 0 k o)) + (∑ k, f1 (ix3 r w k) * wf (ix3 1 k o))
    + (∑ k, f2 (ix3 r w k) * wf (ix3 2 k o)) + (∑ k, M (ix3 r w k) * wf (ix3 3 k o)) + bc (ix2 0 o)

end Cert.KernelIdeal.Val
-- ==== Proof.Algebra.lean ====
/- The equation of one stage: the kernel takes the masks through the convolution and adds the two masked convolutions
   in another order than the reference. Over real numbers the two are equal, where each channel's mask sums to one. -/
module

public import proofs.«01_k».proof.Proof.Stage

@[expose] public section

noncomputable section

namespace Cert.KernelIdeal.Val

open Idealize.ShloMosaic

/-- A real number among the extended ones. -/
def IsReal (x : EReal) : Prop := ∃ r : ℝ, x = (r : EReal)

/-- Zero is real. -/
theorem IsReal.zero : IsReal 0 := ⟨0, EReal.coe_zero.symm⟩

/-- A sum of two reals is real. -/
theorem IsReal.add {x y : EReal} (h : IsReal x) (h' : IsReal y) : IsReal (x + y) := by
  obtain ⟨a, rfl⟩ := h
  obtain ⟨b, rfl⟩ := h'
  exact ⟨a + b, (EReal.coe_add a b).symm⟩

/-- A product of two reals is real. -/
theorem IsReal.mul {x y : EReal} (h : IsReal x) (h' : IsReal y) : IsReal (x * y) := by
  obtain ⟨a, rfl⟩ := h
  obtain ⟨b, rfl⟩ := h'
  exact ⟨a * b, (EReal.coe_mul a b).symm⟩

/-- The larger of two reals is real. -/
theorem IsReal.max {x y : EReal} (h : IsReal x) (h' : IsReal y) : IsReal (max x y) := by
  obtain ⟨a, rfl⟩ := h
  obtain ⟨b, rfl⟩ := h'
  exact ⟨Max.max a b, (EReal.coe_strictMono.monotone.map_max).symm⟩

/-- A sum of reals is the same sum of extended reals. -/
theorem coe_sum (s : Finset (Fin 96)) (f : Fin 96 → ℝ) : ∑ k ∈ s, (f k : EReal) = ((∑ k ∈ s, f k : ℝ) : EReal) := by
  induction s using Finset.induction_on with
  | empty => simp
  | insert a s ha ih => rw [Finset.sum_insert ha, Finset.sum_insert ha, EReal.coe_add, ih]

/-- The nine sums over real numbers. -/
def tapReal (p : ℕ → ℕ → Fin 96 → ℝ) (w : Fin 9 → Fin 96 → ℝ) : ℝ :=
  ∑ k, p 0 0 k * w 0 k + ∑ k, p 0 1 k * w 1 k + ∑ k, p 0 2 k * w 2 k + ∑ k, p 1 0 k * w 3 k + ∑ k, p 1 1 k * w 4 k +
    ∑ k, p 1 2 k * w 5 k + ∑ k, p 2 0 k * w 6 k + ∑ k, p 2 1 k * w 7 k + ∑ k, p 2 2 k * w 8 k

/-- Nine sums of real products are real, and are those nine sums over the reals. -/
theorem tapSum_coe (p : ℕ → ℕ → Fin 96 → ℝ) (w : Fin 9 → Fin 96 → ℝ) :
    tapSum (fun a b k => (p a b k : EReal)) (fun t k => (w t k : EReal)) = (tapReal p w : EReal) := by
  unfold tapSum tapReal
  simp only [← EReal.coe_mul, coe_sum, ← EReal.coe_add]

/-- A factor per input channel may be taken to the weights or to the picture. -/
theorem tapReal_move (p : ℕ → ℕ → Fin 96 → ℝ) (w : Fin 9 → Fin 96 → ℝ) (d : Fin 96 → ℝ) :
    tapReal p (fun t k => w t k * d k) = tapReal (fun a b k => p a b k * d k) w := by
  have e : ∀ a b t, ∑ k, p a b k * (w t k * d k) = ∑ k, p a b k * d k * w t k := fun a b t =>
    Finset.sum_congr rfl fun k _ => by ring
  unfold tapReal
  simp only [e]

/-- Two pictures masked by factors that sum to one give together the whole picture's sums. -/
theorem tapReal_split (p : ℕ → ℕ → Fin 96 → ℝ) (w : Fin 9 → Fin 96 → ℝ) (c d : Fin 96 → ℝ) (h : ∀ k, c k + d k = 1) :
    tapReal p w = tapReal (fun a b k => p a b k * c k) w + tapReal (fun a b k => p a b k * d k) w := by
  have e : ∀ a b t, ∑ k, p a b k * w t k = ∑ k, p a b k * c k * w t k + ∑ k, p a b k * d k * w t k := fun a b t => by
    rw [← Finset.sum_add_distrib]
    refine Finset.sum_congr rfl fun k _ => ?_
    have := h k
    linear_combination (-(p a b k * w t k)) * this
  unfold tapReal
  simp only [e]
  ring

/-- The padded picture of real numbers. -/
theorem padAt_real {X : S224x224x96.Idx → EReal} (hX : ∀ y, IsReal (X y)) : ∃ p : ℕ → ℕ → Fin 96 → ℝ, ∀ r w k, padAt X r w k = (p r w k : EReal) := by
  have : ∀ r w k, ∃ q : ℝ, padAt X r w k = (q : EReal) := fun r w k => by
    unfold padAt
    split
    · exact hX _
    · exact IsReal.zero
  choose p hp using this
  exact ⟨p, hp⟩

/-- A factor per channel, before or after padding. -/
theorem padAt_mul (X : S224x224x96.Idx → EReal) (d : Fin 96 → EReal) (r w : ℕ) (k : Fin 96) :
    padAt (fun y => X y * d (y 2)) r w k = padAt X r w k * d k := by
  unfold padAt
  split
  · rfl
  · rw [zero_mul]

/-- Two real numbers that sum to one. -/
def Halves (x y : EReal) : Prop := ∃ a b : ℝ, x = (a : EReal) ∧ y = (b : EReal) ∧ a + b = 1

/-- The later stages' equation at one position: on the left as the kernel adds, on the right as the reference does. -/
theorem mid_eq {X : S224x224x96.Idx → EReal} (hX : ∀ y, IsReal (X y)) {wt : Fin 9 → Fin 96 → EReal} (hw : ∀ t k, IsReal (wt t k))
    {c d : Fin 96 → EReal} (hcd : ∀ k, Halves (c k) (d k)) {a0 a1 b s : EReal} (ha : Halves a0 a1) (hb : IsReal b) (hs : IsReal s)
    (r w : ℕ) :
    let cc := tapSum (fun dh dw k => padAt X (dh + r) (w + dw) k) wt
    let dd := tapSum (fun dh dw k => padAt X (dh + r) (w + dw) k) (fun t k => wt t k * d k)
    let fd := tapSum (fun dh dw k => padAt (fun y => X y * d (y 2)) (dh + r) (w + dw) k) wt + b
    let fs := tapSum (fun dh dw k => padAt (fun y => X y * c (y 2)) (dh + r) (w + dw) k) wt + b
    s * (cc + b * (a0 + 1) - dd * a1) + dd * a1 + b * a1 = fd * a0 * s + fd * a1 + fs * a0 * s + fs * a1 * s ∧
      IsReal (s * (cc + b * (a0 + 1) - dd * a1) + dd * a1 + b * a1) := by
  obtain ⟨p, hp⟩ := padAt_real hX
  choose wr hwr using hw
  obtain rfl : wt = fun t k => (wr t k : EReal) := funext fun t => funext fun k => hwr t k
  clear hwr
  intro cc dd fd fs
  choose cr dr hcr hdr hsum using hcd
  obtain ⟨a0, a1, rfl, rfl, ha⟩ := ha
  obtain ⟨b, rfl⟩ := hb
  obtain ⟨s, rfl⟩ := hs
  have ecc : cc = (tapReal (fun dh dw k => p (dh + r) (w + dw) k) wr : EReal) := by
    rw [← tapSum_coe]; simp only [cc, hp]
  have edd : dd = (tapReal (fun dh dw k => p (dh + r) (w + dw) k * dr k) wr : EReal) := by
    rw [← tapReal_move, ← tapSum_coe]; simp only [dd, hp, hdr, EReal.coe_mul]
  have efd : fd = ((tapReal (fun dh dw k => p (dh + r) (w + dw) k * dr k) wr + b : ℝ) : EReal) := by
    rw [EReal.coe_add, ← tapSum_coe]; simp only [fd, padAt_mul, hp, hdr, EReal.coe_mul]
  have efs : fs = ((tapReal (fun dh dw k => p (dh + r) (w + dw) k * cr k) wr + b : ℝ) : EReal) := by
    rw [EReal.coe_add, ← tapSum_coe]; simp only [fs, padAt_mul, hp, hcr, EReal.coe_mul]
  rw [tapReal_split _ _ cr dr hsum] at ecc
  rw [ecc, edd, efd, efs, ← EReal.coe_one]
  generalize tapReal (fun dh dw k => p (dh + r) (w + dw) k * dr k) wr = D
  generalize tapReal (fun dh dw k => p (dh + r) (w + dw) k * cr k) wr = C
  simp only [← EReal.coe_mul, ← EReal.coe_add, ← EReal.coe_sub]
  refine ⟨congrArg _ ?_, _, rfl⟩
  obtain rfl : a0 = 1 - a1 := by linarith
  ring

/-- The first stage's equation at one position. -/
theorem first_eq {X : S224x224x96.Idx → EReal} (hX : ∀ y, IsReal (X y)) {wt : Fin 9 → Fin 96 → EReal} (hw : ∀ t k, IsReal (wt t k))
    {a0 a1 b s : EReal} (ha : Halves a0 a1) (hb : IsReal b) (hs : IsReal s) (r w : ℕ) :
    let fea := tapSum (fun dh dw k => padAt X (dh + r) (w + dw) k) wt + b
    fea * (a0 * s + a1) = fea * a0 * s + fea * a1 ∧ IsReal (fea * (a0 * s + a1)) := by
  obtain ⟨p, hp⟩ := padAt_real hX
  choose wr hwr using hw
  obtain rfl : wt = fun t k => (wr t k : EReal) := funext fun t => funext fun k => hwr t k
  clear hwr
  intro fea
  obtain ⟨a0, a1, rfl, rfl, ha⟩ := ha
  obtain ⟨b, rfl⟩ := hb
  obtain ⟨s, rfl⟩ := hs
  have e : fea = ((tapReal (fun dh dw k => p (dh + r) (w + dw) k) wr + b : ℝ) : EReal) := by
    rw [EReal.coe_add, ← tapSum_coe]; simp only [fea, hp]
  rw [e]
  generalize tapReal (fun dh dw k => p (dh + r) (w + dw) k) wr + b = D
  simp only [← EReal.coe_mul, ← EReal.coe_add]
  refine ⟨congrArg _ ?_, _, rfl⟩
  ring

/-- A sum over 384 channels, taken as four sums over 96. -/
theorem sum_four (f : Fin 384 → EReal) (g : Fin 4 → Fin 96 → EReal) (h : ∀ (j : Fin 4) (k : Fin 96) (q : Fin 384), q.val = 96 * j.val + k.val → f q = g j k) :
    ∑ q, f q = ∑ k, g 0 k + ∑ k, g 1 k + ∑ k, g 2 k + ∑ k, g 3 k := by
  have e : ∑ q, f q = ∑ x : Fin 4 × Fin 96, f (finProdFinEquiv x) := (Equiv.sum_comp (finProdFinEquiv (m := 4) (n := 96)) f).symm
  rw [e, Fintype.sum_prod_type, Fin.sum_univ_four]
  have e' : ∀ j k, f (finProdFinEquiv (j, k)) = g j k := fun j k => h j k _ (by
    show k.val + 96 * j.val = _; omega)
  simp only [e']

end Cert.KernelIdeal.Val
-- ==== Proof.RefMain.lean ====
/- What the reference's main function leaves in the buffers that matter: the mask, the four stages and the result. -/
module

public import proofs.«01_k».proof.Proof.RefConv
public import proofs.«01_k».proof.Proof.Mask
public import proofs.«01_k».proof.Proof.Algebra

@[expose] public section

set_option maxRecDepth 100000
set_option maxHeartbeats 8000000

noncomputable section

namespace Cert.ReferenceIdeal

open Idealize.ShloMosaic Idealize.SL.Sem Idealize.ShloMosaic.StableHlo Cert.Host Cert.ReferenceIdeal.Gen
open Cert.KernelIdeal.Val (padAt tapSum sum_four)

/-- A picture. -/
abbrev Pic := S1x96x224x224.Idx → EReal

/-- The dense and the sparse half of a stage put together at one position. -/
def joined (fd fs a0 a1 s : EReal) : EReal := max (fd * a0 * s + fd * a1 + fs * a0 * s + fs * a1 * s) 0

/-- The first stage at one position. -/
def stage0 (X : Cert.KernelIdeal.S224x224x96.Idx → EReal) (wt : S96x96x3x3.Idx → EReal) (b : S96.Idx → EReal) (M : Pairs)
    (spa : S1x1x224x224.Idx → EReal) (r c : Fin 224) (o : Fin 96) : EReal :=
  max (conv X wt b r c o * M (ix4 0 o 0 0) * spa (ix4 0 0 r c) + conv X wt b r c o * M (ix4 0 o 0 1)) 0

/-- A later stage at one position. -/
def stageN (j : Fin 3) (X : Cert.KernelIdeal.S224x224x96.Idx → EReal) (wt : S96x96x3x3.Idx → EReal) (b : S96.Idx → EReal) (M : Pairs)
    (spa : S1x1x224x224.Idx → EReal) (r c : Fin 224) (o : Fin 96) : EReal :=
  joined (conv (fun y => X y * M (ix4 0 (y 2) j.castSucc 1)) wt b r c o) (conv (fun y => X y * M (ix4 0 (y 2) j.castSucc 0)) wt b r c o)
    (M (ix4 0 o j.succ 0)) (M (ix4 0 o j.succ 1)) (spa (ix4 0 0 r c))

variable (W : Valuation τ sig (Elt Ideal))

/-- The combining function's result at one position. -/
theorem combine_value (x y n s φ) (h : Holds W (fn_combine.body (F := Ideal) x y n s φ)) (o : Fin 96) (r c : Fin 224) :
    get W φ.v22 (ix4 0 o r c) = joined (get W x (ix4 0 o r c)) (get W y (ix4 0 o r c)) (get W n (ix4 0 o 0 0)) (get W n (ix4 0 o 0 1))
      (get W s (ix4 0 0 r c)) := by
  unfold fn_combine.body at h
  obtain ⟨hv0, h⟩ := h.step
  obtain ⟨hv1, h⟩ := h.step
  obtain ⟨hv2, h⟩ := h.step
  obtain ⟨hv3, h⟩ := h.step
  obtain ⟨hv4, h⟩ := h.step
  obtain ⟨hv5, h⟩ := h.step
  obtain ⟨hv6, h⟩ := h.step
  obtain ⟨hv7, h⟩ := h.step
  obtain ⟨hv8, h⟩ := h.step
  obtain ⟨hv9, h⟩ := h.step
  obtain ⟨hv10, h⟩ := h.step
  obtain ⟨hv11, h⟩ := h.step
  obtain ⟨hv12, h⟩ := h.step
  obtain ⟨hv13, h⟩ := h.step
  obtain ⟨hv14, h⟩ := h.step
  obtain ⟨hv15, h⟩ := h.step
  obtain ⟨hv16, h⟩ := h.step
  obtain ⟨hv17, h⟩ := h.step
  obtain ⟨hv18, h⟩ := h.step
  obtain ⟨hv19, h⟩ := h.step
  obtain ⟨hv20, h⟩ := h.step
  obtain ⟨hcst, h⟩ := h.step
  obtain ⟨hv21, h⟩ := h.step
  obtain ⟨hv22, h⟩ := h.step
  rw [get_binary hv22, get_unary hv21, get_nullary hcst, get_binary hv20, get_binary hv19, get_unary hv18, get_binary hv17, get_unary hv16,
    get_unary hv15, get_binary hv14, get_binary hv13, get_unary hv12, get_binary hv11, get_unary hv10, get_unary hv9, get_binary hv8,
    get_binary hv7, get_unary hv6, get_unary hv5, get_binary hv4, get_unary hv3, get_binary hv2, get_unary hv1, get_unary hv0]
  generalize get W x = x
  generalize get W y = y
  generalize get W n = n
  generalize get W s = s
  unfold joined
  pointwise

/-- A later stage from its parts. -/
theorem stage_of (j : Fin 3) {X Xd Xs fd fs out : Pic} {wt : S96x96x3x3.Idx → EReal} {b : S96.Idx → EReal} {M : Pairs} {now : S1x96x1x2.Idx → EReal}
    {spa : S1x1x224x224.Idx → EReal}
    (hXd : ∀ (o : Fin 96) (r c : Fin 224), Xd (ix4 0 o r c) = X (ix4 0 o r c) * M (ix4 0 o j.castSucc 1))
    (hXs : ∀ (o : Fin 96) (r c : Fin 224), Xs (ix4 0 o r c) = X (ix4 0 o r c) * M (ix4 0 o j.castSucc 0))
    (hfd : ∀ (o : Fin 96) (r c : Fin 224), fd (ix4 0 o r c) = conv (pic Xd) wt b r c o)
    (hfs : ∀ (o : Fin 96) (r c : Fin 224), fs (ix4 0 o r c) = conv (pic Xs) wt b r c o)
    (hnow : ∀ (o : Fin 96) (t : Fin 2), now (ix4 0 o 0 t) = M (ix4 0 o j.succ t))
    (hout : ∀ (o : Fin 96) (r c : Fin 224), out (ix4 0 o r c) =
      joined (fd (ix4 0 o r c)) (fs (ix4 0 o r c)) (now (ix4 0 o 0 0)) (now (ix4 0 o 0 1)) (spa (ix4 0 0 r c)))
    (o : Fin 96) (r c : Fin 224) : out (ix4 0 o r c) = stageN j (pic X) wt b M spa r c o := by
  have ed : pic Xd = fun y => pic X y * M (ix4 0 (y 2) j.castSucc 1) := funext fun y => hXd _ _ _
  have es : pic Xs = fun y => pic X y * M (ix4 0 (y 2) j.castSucc 0) := funext fun y => hXs _ _ _
  rw [hout, hfd, hfs, hnow, hnow, ed, es, stageN]

/-- The contents of a buffer. -/
abbrev at' (r : Ref sig .tc) := W (Proc.devRef .tc r)

/-- The buffers that matter, from the arguments. -/
structure Vals : Prop where
  /-- The uniform draw's equations. -/
  draw : Holds W (fn_uniform.body (F := Ideal) (.of main_v6) (.of main_cst) (.of main_cst_2) main_call0)
  /-- Its lower end. -/
  lo : at' W main_cst = constant (F := Ideal) S_ .f32 0x358637BD#32
  /-- Its upper end. -/
  hi : at' W main_cst_2 = constant (F := Ideal) S_ .f32 0x3F7FFFEF#32
  /-- The mask. -/
  v25 : at' W main_v25 = maskOf (at' W main_arg2) (get W main_call0.v42)
  /-- The first stage. -/
  v38 : ∀ (o : Fin 96) (r c : Fin 224), at' W main_v38 (ix4 0 o r c) =
    stage0 (pic (at' W main_arg0)) (at' W main_arg3) (at' W main_arg4) (at' W main_v25) (at' W main_arg1) r c o
  /-- The second stage. -/
  v48 : ∀ (o : Fin 96) (r c : Fin 224), at' W main_v48 (ix4 0 o r c) =
    stageN 0 (pic (at' W main_v38)) (at' W main_arg5) (at' W main_arg6) (at' W main_v25) (at' W main_arg1) r c o
  /-- The third stage. -/
  v58 : ∀ (o : Fin 96) (r c : Fin 224), at' W main_v58 (ix4 0 o r c) =
    stageN 1 (pic (at' W main_v48)) (at' W main_arg7) (at' W main_arg8) (at' W main_v25) (at' W main_arg1) r c o
  /-- The fourth stage. -/
  v68 : ∀ (o : Fin 96) (r c : Fin 224), at' W main_v68 (ix4 0 o r c) =
    stageN 2 (pic (at' W main_v58)) (at' W main_arg9) (at' W main_arg10) (at' W main_v25) (at' W main_arg1) r c o
  /-- The closing convolution. -/
  v75 : ∀ (g : Fin 4 → Fin 96 → EReal) (o : Fin 96) (r c : Fin 224),
    (∀ (j : Fin 4) (k : Fin 96) (q : Fin 384), q.val = 96 * j.val + k.val → at' W main_arg11 (ix4 o q 0 0) = g j k) →
    at' W main_v75 (ix4 0 o r c) = ∑ k, g 0 k * pic (at' W main_v38) (ix3 r c k) + ∑ k, g 1 k * pic (at' W main_v48) (ix3 r c k) +
      ∑ k, g 2 k * pic (at' W main_v58) (ix3 r c k) + ∑ k, g 3 k * pic (at' W main_v68) (ix3 r c k) + at' W main_arg12 (ix1 o)

/-- They do hold that. -/
theorem vals (c : Dev nD) (h : Holds W (main (F := Ideal) c)) : Vals W := by
  unfold main at h
  obtain ⟨h, h'⟩ := Holds.bind (main_line0 c).isLine h
  unfold main_part0 at h
  unfold main_part1 at h'
  obtain ⟨hc, h⟩ := h.step
  obtain ⟨hc_0, h⟩ := h.step
  obtain ⟨hv0, h⟩ := h.step
  obtain ⟨hv1, h⟩ := h.step
  obtain ⟨hv2, h⟩ := h.step
  obtain ⟨hc_1, h⟩ := h.step
  obtain ⟨hv3, h⟩ := h.step
  obtain ⟨hv4, h⟩ := h.step
  obtain ⟨hv5, h⟩ := h.step
  obtain ⟨hv6, h⟩ := h.step
  obtain ⟨hcst, h⟩ := h.step
  obtain ⟨hcst_2, h⟩ := h.step
  obtain ⟨hdraw, h⟩ := Holds.bind uniform_line.isLine h
  obtain ⟨hv8, h⟩ := h.step
  obtain ⟨hv9, h⟩ := h.step
  obtain ⟨hv10, h⟩ := h.step
  obtain ⟨hv11, h⟩ := h.step
  obtain ⟨hv12, h⟩ := h.step
  obtain ⟨hcst_3, h⟩ := h.step
  obtain ⟨hv13, h⟩ := h.step
  obtain ⟨hv14, h⟩ := h.step
  obtain ⟨hcst_4, h⟩ := h.step
  obtain ⟨hv15, h⟩ := h.step
  obtain ⟨hcst_5, h⟩ := h.step
  obtain ⟨hv16, h⟩ := h.step
  obtain ⟨hv17, h⟩ := h.step
  obtain ⟨hv18, h⟩ := h.step
  obtain ⟨hv19, h⟩ := h.step
  obtain ⟨hv20, h⟩ := h.step
  obtain ⟨hv21, h⟩ := h.step
  obtain ⟨hcst_6, h⟩ := h.step
  obtain ⟨hv22, h⟩ := h.step
  obtain ⟨hv23, h⟩ := h.step
  obtain ⟨hv24, h⟩ := h.step
  obtain ⟨hv25, h⟩ := h.step
  obtain ⟨hv26, h⟩ := h.step
  obtain ⟨hcall1, h⟩ := Holds.bind pieces.2.1.1.isLine h
  obtain ⟨hv28, h⟩ := h.step
  obtain ⟨hv29, h⟩ := h.step
  obtain ⟨hv30, h⟩ := h.step
  obtain ⟨hv31, h⟩ := h.step
  obtain ⟨hv32, h⟩ := h.step
  obtain ⟨hv33, h⟩ := h.step
  obtain ⟨hv34, h⟩ := h.step
  obtain ⟨hv35, h⟩ := h.step
  obtain ⟨hv36, h⟩ := h.step
  obtain ⟨hcst_7, h⟩ := h.step
  obtain ⟨hv37, h⟩ := h.step
  obtain ⟨hv38, h⟩ := h.step
  obtain ⟨hv39, h⟩ := h.step
  obtain ⟨hv40, h⟩ := h.step
  obtain ⟨hv41, h⟩ := h.step
  obtain ⟨hv42, h⟩ := h.step
  obtain ⟨hcall2, h⟩ := Holds.bind pieces.2.1.2.1.isLine h
  obtain ⟨hv44, h⟩ := h.step
  obtain ⟨hv45, h⟩ := h.step
  obtain ⟨hv46, h⟩ := h.step
  obtain ⟨hcall3, h⟩ := Holds.bind pieces.2.1.2.2.1.isLine h
  obtain ⟨hcall4, h⟩ := Holds.bind pieces.2.2.1.isLine h
  have hv49 := h.one
  obtain ⟨hv50, h'⟩ := h'.step
  obtain ⟨hv51, h'⟩ := h'.step
  obtain ⟨hv52, h'⟩ := h'.step
  obtain ⟨hcall5, h'⟩ := Holds.bind pieces.2.1.2.2.2.1.isLine h'
  obtain ⟨hv54, h'⟩ := h'.step
  obtain ⟨hv55, h'⟩ := h'.step
  obtain ⟨hv56, h'⟩ := h'.step
  obtain ⟨hcall6, h'⟩ := Holds.bind pieces.2.1.2.2.2.2.1.isLine h'
  obtain ⟨hcall7, h'⟩ := Holds.bind pieces.2.2.2.1.isLine h'
  obtain ⟨hv59, h'⟩ := h'.step
  obtain ⟨hv60, h'⟩ := h'.step
  obtain ⟨hv61, h'⟩ := h'.step
  obtain ⟨hv62, h'⟩ := h'.step
  obtain ⟨hcall8, h'⟩ := Holds.bind pieces.2.1.2.2.2.2.2.1.isLine h'
  obtain ⟨hv64, h'⟩ := h'.step
  obtain ⟨hv65, h'⟩ := h'.step
  obtain ⟨hv66, h'⟩ := h'.step
  obtain ⟨hcall9, h'⟩ := Holds.bind pieces.2.1.2.2.2.2.2.2.isLine h'
  obtain ⟨hcall10, h'⟩ := Holds.bind pieces.2.2.2.2.isLine h'
  obtain ⟨hv69, h'⟩ := h'.step
  obtain ⟨hv70, h'⟩ := h'.step
  obtain ⟨hv71, h'⟩ := h'.step
  obtain ⟨hv72, h'⟩ := h'.step
  obtain ⟨hv73, h'⟩ := h'.step
  obtain ⟨hv74, h'⟩ := h'.step
  obtain ⟨hv75, h'⟩ := h'.step
  clear h h' hc hc_0 hv0 hv1 hv2 hc_1 hv3 hv4 hv5 hv6
  have ev8 := unary_eq hv8
  have ev9 := unary_eq hv9
  have ev10 := unary_eq hv10
  have ev11 := unary_eq hv11
  have ev13 := unary_eq hv13
  have ev16 := unary_eq hv16
  have ev18 := unary_eq hv18
  have ev19 := unary_eq hv19
  have ev21 := unary_eq hv21
  have ev23 := unary_eq hv23
  have ev24 := unary_eq hv24
  have ev26 := unary_eq hv26
  have ev28 := unary_eq hv28
  have ev29 := unary_eq hv29
  have ev31 := unary_eq hv31
  have ev33 := unary_eq hv33
  have ev34 := unary_eq hv34
  have ev37 := unary_eq hv37
  have ev39 := unary_eq hv39
  have ev40 := unary_eq hv40
  have ev41 := unary_eq hv41
  have ev44 := unary_eq hv44
  have ev45 := unary_eq hv45
  have ev49 := unary_eq hv49
  have ev50 := unary_eq hv50
  have ev51 := unary_eq hv51
  have ev54 := unary_eq hv54
  have ev55 := unary_eq hv55
  have ev59 := unary_eq hv59
  have ev60 := unary_eq hv60
  have ev61 := unary_eq hv61
  have ev64 := unary_eq hv64
  have ev65 := unary_eq hv65
  have ev72 := unary_eq hv72
  have ev74 := unary_eq hv74
  have ev12 := binary_eq hv12
  have ev14 := binary_eq hv14
  have ev15 := binary_eq hv15
  have ev17 := binary_eq hv17
  have ev20 := binary_eq hv20
  have ev22 := binary_eq hv22
  have ev25 := binary_eq hv25
  have ev30 := binary_eq hv30
  have ev32 := binary_eq hv32
  have ev35 := binary_eq hv35
  have ev36 := binary_eq hv36
  have ev38 := binary_eq hv38
  have ev42 := binary_eq hv42
  have ev46 := binary_eq hv46
  have ev52 := binary_eq hv52
  have ev56 := binary_eq hv56
  have ev62 := binary_eq hv62
  have ev66 := binary_eq hv66
  have ev71 := binary_eq hv71
  have ev75 := binary_eq hv75
  have ecst := nullary_eq hcst
  have ecst_2 := nullary_eq hcst_2
  have ecst_3 := nullary_eq hcst_3
  have ecst_4 := nullary_eq hcst_4
  have ecst_5 := nullary_eq hcst_5
  have ecst_6 := nullary_eq hcst_6
  have ecst_7 := nullary_eq hcst_7
  have ev69 := nary_eq hv69
  have ev70 := reshape_eq hv70
  have ev73 := reshape_eq hv73
  clear hv8 hv9 hv10 hv11 hv13 hv16 hv18 hv19 hv21 hv23 hv24 hv26 hv28 hv29 hv31 hv33 hv34 hv37 hv39 hv40 hv41 hv44 hv45 hv49 hv50 hv51 hv54 hv55 hv59 hv60 hv61 hv64 hv65 hv72 hv74 hv12 hv14 hv15 hv17 hv20 hv22 hv25 hv30 hv32 hv35 hv36 hv38 hv42 hv46 hv52 hv56 hv62 hv66 hv71 hv75 hcst hcst_2 hcst_3 hcst_4 hcst_5 hcst_6 hcst_7 hv69 hv70 hv73
  have c1 := (conv_values W).1 _ _ _ _ hcall1
  have c2 := (conv_values W).2 _ _ _ _ hcall2
  have c3 := (conv_values W).2 _ _ _ _ hcall3
  have c4 := combine_value W _ _ _ _ _ hcall4
  have c5 := (conv_values W).2 _ _ _ _ hcall5
  have c6 := (conv_values W).2 _ _ _ _ hcall6
  have c7 := combine_value W _ _ _ _ _ hcall7
  have c8 := (conv_values W).2 _ _ _ _ hcall8
  have c9 := (conv_values W).2 _ _ _ _ hcall9
  have c10 := combine_value W _ _ _ _ _ hcall10
  clear hcall1 hcall2 hcall3 hcall4 hcall5 hcall6 hcall7 hcall8 hcall9 hcall10
  refine ⟨hdraw, ecst, ecst_2, ?_, ?_, ?_, ?_, ?_, ?_⟩
  · unfold at'
    rw [ev25, ev24, ev23, ev22, ecst_6, ev21, ev20, ev19, ev18, ev17, ev16, ecst_5, ev15, ecst_4, ev14, ev13, ecst_3, ev12, ev11, ev10, ev9, ev8]
    rfl
  · intro o r c
    have c1' : W (Proc.devRef .tc main_v27) (ix4 0 o r c) = conv (pic (at' W main_arg0)) (at' W main_arg3) (at' W main_arg4) r c o := c1 o r c
    unfold at' stage0
    rw [← c1', ev38, ev37, ecst_7, ev36, ev35, ev34, ev33, ev32, ev31, ev30, ev29, ev28, ev26]
    pointwise
  · refine stage_of 0 (Xd := at' W main_v42) (Xs := at' W main_v46) (now := at' W main_v39) ?_ ?_ c2 c3 ?_ c4
    · intro o r c; unfold at'; rw [ev42, ev41, ev40]; pointwise; rfl
    · intro o r c; unfold at'; rw [ev46, ev45, ev44]; pointwise; rfl
    · intro o t; unfold at'; rw [ev39]; pointwise; rfl
  · refine stage_of 1 (Xd := at' W main_v52) (Xs := at' W main_v56) (now := at' W main_v49) ?_ ?_ c5 c6 ?_ c7
    · intro o r c; unfold at'; rw [ev52, ev51, ev50]; pointwise; rfl
    · intro o r c; unfold at'; rw [ev56, ev55, ev54]; pointwise; rfl
    · intro o t; unfold at'; rw [ev49]; pointwise; rfl
  · refine stage_of 2 (Xd := at' W main_v62) (Xs := at' W main_v66) (now := at' W main_v59) ?_ ?_ c8 c9 ?_ c10
    · intro o r c; unfold at'; rw [ev62, ev61, ev60]; pointwise; rfl
    · intro o r c; unfold at'; rw [ev66, ev65, ev64]; pointwise; rfl
    · intro o t; unfold at'; rw [ev59]; pointwise; rfl
  · intro g o r c hg
    have cat : ∀ (j : Fin 4) (k : Fin 96) (q : Fin 384), q.val = 96 * j.val + k.val → W (Proc.devRef .tc main_v69) (ix4 0 q r c) =
        (match j with
          | 0 => W (Proc.devRef .tc main_v38) (ix4 0 k r c)
          | 1 => W (Proc.devRef .tc main_v48) (ix4 0 k r c)
          | 2 => W (Proc.devRef .tc main_v58) (ix4 0 k r c)
          | 3 => W (Proc.devRef .tc main_v68) (ix4 0 k r c) : EReal) := by
      intro j k q hq
      match j, hq with
      | 0, hq =>
        have hq' : q.val = 0 + k.val := by rw [hq]; simp
        rw [ev69]
        pointwise
        rw [dif_pos (by omega)]
        exact congrArg (fun x => W (Proc.devRef .tc main_v38) (ix4 0 x r c)) (Fin.ext (by show q.val = k.val; omega))
      | 1, hq =>
        have hq' : q.val = 96 + k.val := by rw [hq]; exact rfl
        rw [ev69]
        pointwise
        rw [dif_neg (by omega), dif_pos (by omega)]
        exact congrArg (fun x => W (Proc.devRef .tc main_v48) (ix4 0 x r c)) (Fin.ext (by show q.val - 96 = k.val; omega))
      | 2, hq =>
        have hq' : q.val = 192 + k.val := by rw [hq]; exact rfl
        rw [ev69]
        pointwise
        rw [dif_neg (by omega), dif_neg (by omega), dif_pos (by omega)]
        exact congrArg (fun x => W (Proc.devRef .tc main_v58) (ix4 0 x r c)) (Fin.ext (by show q.val - 96 - 96 = k.val; omega))
      | 3, hq =>
        have hq' : q.val = 288 + k.val := by rw [hq]; exact rfl
        rw [ev69]
        pointwise
        rw [dif_neg (by omega), dif_neg (by omega), dif_neg (by omega)]
        exact congrArg (fun x => W (Proc.devRef .tc main_v68) (ix4 0 x r c)) (Fin.ext (by show q.val - 96 - 96 - 96 = k.val; omega))
    unfold at'
    rw [ev75, ev74, ev73, ev72, ev71, ev70]
    generalize W (Proc.devRef .tc main_v69) = V at cat
    pointwise
    refine congrArg (· + W (Proc.devRef .tc main_arg12) (ix1 o)) (sum_four _ (fun j k => g j k * pic (match j with
      | 0 => W (Proc.devRef .tc main_v38)
      | 1 => W (Proc.devRef .tc main_v48)
      | 2 => W (Proc.devRef .tc main_v58)
      | 3 => W (Proc.devRef .tc main_v68) : Pic) (ix3 r c k)) ?_)
    intro j k q hq
    rw [← hg j k q hq, cat j k q hq]
    match j with
    | 0 => rfl
    | 1 => rfl
    | 2 => rfl
    | 3 => rfl

end Cert.ReferenceIdeal
-- ==== Proof.Prep0.lean ====
/- What the host operations before the first stage put in the arrays that the stage reads. -/
module

public import proofs.«01_k».proof.Proof.Host
public import proofs.«01_k».proof.Proof.Gen.KernelIdeal.Launch
public import Idealize.ShloMosaic.Lib.Pointwise

@[expose] public section

set_option maxRecDepth 100000

noncomputable section

namespace Cert.KernelIdeal.Val

open Idealize.ShloMosaic Idealize.ShloMosaic.TcCoe Idealize.SL.Sem Idealize.ShloMosaic.StableHlo
open Cert.KernelIdeal Cert.KernelIdeal.Gen Cert.Host

variable (W : Valuation τ sig (Elt Ideal))

/-- The contents of a buffer. -/
abbrev at' (r : Ref sig .tc) : r.ty.Contents (Elt Ideal) := W (Proc.devRef .tc r)

/-- A tap's number tells its row and column. -/
theorem tap_eq {α : Type} (f : Fin 3 → Fin 3 → α) (t : Fin 9) (dh dw : Fin 3) (ht : t.val = 3 * dh.val + dw.val) {h1 h2} :
    f ⟨t.val / 3, h1⟩ ⟨t.val % 3, h2⟩ = f dh dw := by
  have := dw.isLt
  exact congrArg₂ f (Fin.ext (by show t.val / 3 = dh.val; omega)) (Fin.ext (by show t.val % 3 = dw.val; omega))

/-- The arrays that the first stage reads, from the arguments and the channel mask. -/
structure Prep0 : Prop where
  /-- The spatial mask, its two leading axes dropped. -/
  v27 : ∀ r w : Fin 224, at' W main_v27 (ix2 r w) = at' W main_arg1 (ix4 0 0 r w)
  /-- The input picture, its leading axis dropped. -/
  v28 : ∀ (k : Fin 96) (r w : Fin 224), at' W main_v28 (ix3 k r w) = at' W main_arg0 (ix4 0 k r w)
  /-- The weights, the tap in front and the output channel last. -/
  v31 : ∀ (t : Fin 9) (dh dw : Fin 3) (k o : Fin 96), t.val = 3 * dh.val + dw.val →
    at' W main_v31 (ix3 t k o) = at' W main_arg3 (ix4 o k dh dw)
  /-- The first channel row: the mask's first column. -/
  v45_0 : ∀ o : Fin 96, at' W main_v45 (ix2 0 o) = at' W main_v25 (ix4 0 o 0 0)
  /-- The second channel row: the mask's second column. -/
  v45_1 : ∀ o : Fin 96, at' W main_v45 (ix2 1 o) = at' W main_v25 (ix4 0 o 0 1)
  /-- The third channel row: the biases. -/
  v45_2 : ∀ o : Fin 96, at' W main_v45 (ix2 2 o) = at' W main_arg4 (ix1 o)

set_option maxHeartbeats 4000000 in
/-- They do hold that, once the operations have run. -/
theorem prep0 (h : ∀ op ∈ (hostOps0_2 : List (HloOp τ sig (Elt Ideal))), op.result W = W) : Prep0 W := by
  simp only [hostOps0_2, List.forall_mem_cons] at h
  obtain ⟨-, -, -, -, -, -, -, -, -, -, -, -, -, -, -, -, -, -, -, -, -, -, h26, h27, h28, h29, h30, h31, h32, h33, h34, h35,
    -, -, h37, h38, h39, -, -, -, -, -, h45, -⟩ := h
  have e26 := reshape_eq h26
  have e27 := unary_eq h27
  have e28 := reshape_eq h28
  have e29 := unary_eq h29
  have e30 := reshape_eq h30
  have e31 := unary_eq h31
  have e32 := unary_eq h32
  have e33 := reshape_eq h33
  have e34 := unary_eq h34
  have e35 := reshape_eq h35
  have e37 := unary_eq h37
  have e38 := unary_eq h38
  have e39 := unary_eq h39
  have e45 := nary_eq h45
  clear h26 h27 h28 h29 h30 h31 h32 h33 h34 h35 h37 h38 h39 h45
  refine ⟨?_, ?_, ?_, ?_, ?_, ?_⟩
  · intro r w
    unfold at'
    rw [e27, e26]
    pointwise
  · intro k r w
    unfold at'
    rw [e28]
    pointwise
  · intro t dh dw k o ht
    unfold at'
    rw [e31, e30, e29]
    pointwise
    exact tap_eq (fun a b => W (Proc.devRef .tc main_arg3) (ix4 o k a b)) t dh dw ht
  · intro o
    unfold at'
    rw [e45]
    pointwise
    rw [e37, e33, e32]
    pointwise
  · intro o
    unfold at'
    rw [e45]
    pointwise
    rw [e38, e35, e34]
    pointwise
  · intro o
    unfold at'
    rw [e45]
    pointwise
    rw [e39]
    pointwise

end Cert.KernelIdeal.Val
-- ==== Proof.Prep1.lean ====
/- What the host operations between the first stage and the second put in the arrays that the later stages read. -/
module

public import proofs.«01_k».proof.Proof.Prep0
public import proofs.«01_k».proof.Proof.Gen.KernelIdeal.Launch
public import Idealize.ShloMosaic.Lib.Pointwise

@[expose] public section

set_option maxRecDepth 100000

noncomputable section

namespace Cert.KernelIdeal.Val

open Idealize.ShloMosaic Idealize.ShloMosaic.TcCoe Idealize.SL.Sem Idealize.ShloMosaic.StableHlo
open Cert.KernelIdeal Cert.KernelIdeal.Gen Cert.Host

variable (W : Valuation τ sig (Elt Ideal))

/-- The three later stages' weights. -/
def w3 (s : Fin 3) : S96x96x3x3.Idx → EReal :=
  match s with
  | 0 => at' W main_arg5
  | 1 => at' W main_arg7
  | 2 => at' W main_arg9

/-- The three later stages' biases. -/
def b3 (s : Fin 3) : S96.Idx → EReal :=
  match s with
  | 0 => at' W main_arg6
  | 1 => at' W main_arg8
  | 2 => at' W main_arg10

/-- The channel mask. -/
def cm (W : Valuation τ sig (Elt Ideal)) : S1x96x4x2.Idx → EReal := at' W main_v25

/-- The arrays that the later stages read, from the arguments and the channel mask. -/
structure Prep1 : Prop where
  /-- The closing convolution's weights, one matrix per stage, the output channel last. -/
  v49 : ∀ (j : Fin 4) (k o : Fin 96) (q : Fin 384), q.val = 96 * j.val + k.val →
    at' W main_v49 (ix3 j k o) = at' W main_arg11 (ix4 o q 0 0)
  /-- Its bias. -/
  v59 : ∀ o : Fin 96, at' W main_v59 (ix2 0 o) = at' W main_arg12 (ix1 o)
  /-- A stage's weights. -/
  v74 : ∀ (s : Fin 3) (t : Fin 9) (dh dw : Fin 3) (k o : Fin 96) (q : Fin 256), t.val = 3 * dh.val + dw.val → q.val = o.val →
    at' W main_v74 (ix4 s t k q) = w3 W s (ix4 o k dh dw)
  /-- A stage's weights times the mask of the stage before. -/
  v74d : ∀ (s : Fin 3) (t : Fin 9) (dh dw : Fin 3) (k o : Fin 96) (q : Fin 256), t.val = 3 * dh.val + dw.val → q.val = 128 + o.val →
    at' W main_v74 (ix4 s t k q) = w3 W s (ix4 o k dh dw) * cm W (ix4 0 k s.castSucc 1)
  /-- A stage's first channel row: the mask's second column. -/
  v98_0 : ∀ (s : Fin 3) (o : Fin 96), at' W main_v98 (ix3 s 0 o) = cm W (ix4 0 o s.succ 1)
  /-- A stage's second channel row: the biases times that. -/
  v98_1 : ∀ (s : Fin 3) (o : Fin 96), at' W main_v98 (ix3 s 1 o) = b3 W s (ix1 o) * cm W (ix4 0 o s.succ 1)
  /-- A stage's third channel row: the biases times the mask's first column and one. -/
  v98_2 : ∀ (s : Fin 3) (o : Fin 96), at' W main_v98 (ix3 s 2 o) = b3 W s (ix1 o) * (cm W (ix4 0 o s.succ 0) + 1)
  /-- The second stage's weights. -/
  v100 : ∀ (t : Fin 9) (k : Fin 96) (q : Fin 256), at' W main_v100 (ix3 t k q) = at' W main_v74 (ix4 0 t k q)
  /-- The second stage's channel rows. -/
  v102 : ∀ (a : Fin 8) (o : Fin 96), at' W main_v102 (ix2 a o) = at' W main_v98 (ix3 0 a o)

set_option maxHeartbeats 8000000 in
/-- They do hold that, once the operations have run. -/
theorem prep1 (h : ∀ op ∈ (hostOps1 : List (HloOp τ sig (Elt Ideal))), op.result W = W) : Prep1 W := by
  simp only [hostOps1, List.forall_mem_cons] at h
  obtain ⟨hv47, hv48, hv49, hcst_8, hv50, hv51, hv52, hv53, hv54, hv55, hv56, hv57, hv58, hv59, hv60, hv61, hv62, hv63, hv64, hv65, hv66, hv67, hv68, hv69, hv70, hv71, hcst_9, hv72, hv73, hv74, hv75, hv76, hv77, hv78, hv79, hv80, hv81, hv82, hv83, hv84, hv85, hcst_10, hv86, hv87, hv88, hcst_11, hv89, hv90, hv91, hv92, hv93, hv94, hv95, hv96, hv97, hv98, hv99, hv100, hv101, hv102, -⟩ := h
  have e47 := reshape_eq hv47
  have e48 := unary_eq hv48
  have e49 := unary_eq hv49
  have ecst_8 := nullary_eq hcst_8
  have e50 := unary_eq hv50
  have e51 := unary_eq hv51
  have e52 := unary_eq hv52
  have e53 := unary_eq hv53
  have e54 := unary_eq hv54
  have e55 := unary_eq hv55
  have e56 := unary_eq hv56
  have e57 := unary_eq hv57
  have e58 := unary_eq hv58
  have e59 := nary_eq hv59
  have e60 := unary_eq hv60
  have e61 := unary_eq hv61
  have e62 := unary_eq hv62
  have e63 := nary_eq hv63
  have e64 := unary_eq hv64
  have e65 := reshape_eq hv65
  have e66 := unary_eq hv66
  have e67 := reshape_eq hv67
  have e68 := unary_eq hv68
  have e69 := unary_eq hv69
  have e70 := unary_eq hv70
  have e71 := binary_eq hv71
  have ecst_9 := nullary_eq hcst_9
  have e72 := unary_eq hv72
  have e73 := nary_eq hv73
  have e74 := unary_eq hv74
  have e75 := unary_eq hv75
  have e76 := reshape_eq hv76
  have e77 := unary_eq hv77
  have e78 := unary_eq hv78
  have e79 := reshape_eq hv79
  have e80 := unary_eq hv80
  have e81 := unary_eq hv81
  have e82 := unary_eq hv82
  have e83 := unary_eq hv83
  have e84 := nary_eq hv84
  have e85 := binary_eq hv85
  have ecst_10 := nullary_eq hcst_10
  have e86 := unary_eq hv86
  have e87 := binary_eq hv87
  have e88 := binary_eq hv88
  have ecst_11 := nullary_eq hcst_11
  have e89 := unary_eq hv89
  have e90 := unary_eq hv90
  have e91 := unary_eq hv91
  have e92 := unary_eq hv92
  have e93 := unary_eq hv93
  have e94 := unary_eq hv94
  have e95 := unary_eq hv95
  have e96 := unary_eq hv96
  have e97 := unary_eq hv97
  have e98 := nary_eq hv98
  have e99 := unary_eq hv99
  have e100 := reshape_eq hv100
  have e101 := unary_eq hv101
  have e102 := reshape_eq hv102
  clear hv47 hv48 hv49 hcst_8 hv50 hv51 hv52 hv53 hv54 hv55 hv56 hv57 hv58 hv59 hv60 hv61 hv62 hv63 hv64 hv65 hv66 hv67 hv68 hv69 hv70 hv71 hcst_9 hv72 hv73 hv74 hv75 hv76 hv77 hv78 hv79 hv80 hv81 hv82 hv83 hv84 hv85 hcst_10 hv86 hv87 hv88 hcst_11 hv89 hv90 hv91 hv92 hv93 hv94 hv95 hv96 hv97 hv98 hv99 hv100 hv101 hv102
  have stack : ∀ (s : Fin 3) (o k : Fin 96) (dh dw : Fin 3), W (Proc.devRef .tc main_v63) (ix5 s o k dh dw) = w3 W s (ix4 o k dh dw) := by
    intro s o k dh dw
    match s with
    | 0 => rw [e63]; pointwise; rw [e60]; pointwise; rfl
    | 1 => rw [e63]; pointwise; rw [e61]; pointwise; rfl
    | 2 => rw [e63]; pointwise; rw [e62]; pointwise; rfl
  have bias : ∀ (s : Fin 3) (o : Fin 96), W (Proc.devRef .tc main_v84) (ix2 s o) = b3 W s (ix1 o) := by
    intro s o
    match s with
    | 0 => rw [e84]; pointwise; rw [e81]; pointwise; rfl
    | 1 => rw [e84]; pointwise; rw [e82]; pointwise; rfl
    | 2 => rw [e84]; pointwise; rw [e83]; pointwise; rfl
  have wts : ∀ (s : Fin 3) (t : Fin 9) (dh dw : Fin 3) (k o : Fin 96), t.val = 3 * dh.val + dw.val →
      W (Proc.devRef .tc main_v65) (ix4 s t k o) = w3 W s (ix4 o k dh dw) := by
    intro s t dh dw k o ht
    rw [← stack, e65, e64]
    pointwise
    exact tap_eq (fun a b => W (Proc.devRef .tc main_v63) (ix5 s o k a b)) t dh dw ht
  refine ⟨?_, ?_, ?_, ?_, ?_, ?_, ?_, ?_, ?_⟩
  · intro j k o q hq
    unfold at'
    rw [e49, e48, e47]
    pointwise
    refine congrArg (fun q => W (Proc.devRef .tc main_arg11) (ix4 o q 0 0)) (Fin.ext ?_)
    show j.val * 96 + k.val = q.val
    omega
  · intro o
    unfold at'
    rw [e59]; pointwise; rw [e51]; pointwise
  · intro s t dh dw k o q ht hq
    have := o.isLt
    unfold at'
    rw [e74, e73]
    pointwise
    rw [dif_pos (by omega)]
    exact (congrArg (fun q => W (Proc.devRef .tc main_v65) (ix4 s t k q)) (Fin.ext hq)).trans (wts s t dh dw k o ht)
  · intro s t dh dw k o q ht hq
    have := o.isLt
    unfold at'
    rw [e74, e73]
    pointwise
    rw [dif_neg (by omega), dif_neg (by omega), dif_pos (by omega), e71]
    pointwise
    rw [e70, e69, e68, e67, e66]
    pointwise
    refine congrArg₂ (fun a b : EReal => a * b) (Eq.trans (congrArg (fun q => W (Proc.devRef .tc main_v65) (ix4 s t k q)) (Fin.ext ?_))
      (wts s t dh dw k o ht)) rfl
    show q.val - 96 - 32 = o.val
    omega
  · intro s o
    unfold at'
    rw [e98]; pointwise; rw [e90, e80, e79, e78]; pointwise
    exact congrArg (fun i => cm W (ix4 0 o i 1)) (Fin.ext (Nat.add_comm 1 s.val))
  · intro s o
    unfold at'
    rw [e98]; pointwise; rw [e91, e85]; pointwise; rw [bias, e80, e79, e78]; pointwise
    exact congrArg (fun i => b3 W s (ix1 o) * cm W (ix4 0 o i 1)) (Fin.ext (Nat.add_comm 1 s.val))
  · intro s o
    unfold at'
    rw [e98]; pointwise; rw [e92, e88]; pointwise; rw [bias, e87, e77, e76, e75, e86, ecst_10]; pointwise
    exact congrArg (fun i => b3 W s (ix1 o) * (cm W (ix4 0 o i 0) + 1)) (Fin.ext (Nat.add_comm 1 s.val))
  · intro t k q
    unfold at'
    rw [e100, e99]; pointwise
  · intro a o
    unfold at'
    rw [e102, e101]; pointwise

end Cert.KernelIdeal.Val
-- ==== Proof.Prep2.lean ====
/- What the host operations around the later stages put in the arrays that the stages read, the kernel's result, and the
   channel mask. -/
module

public import proofs.«01_k».proof.Proof.Prep1
public import proofs.«01_k».proof.Proof.Mask

@[expose] public section

set_option maxRecDepth 100000
set_option maxHeartbeats 4000000

noncomputable section

namespace Cert.KernelIdeal.Val

open Idealize.ShloMosaic Idealize.ShloMosaic.TcCoe Idealize.SL.Sem Idealize.ShloMosaic.StableHlo
open Cert.KernelIdeal Cert.KernelIdeal.Gen Cert.Host

variable (W : Valuation τ sig (Elt Ideal))

/-- The third stage's weights and channel rows. -/
theorem prep2 (h : ∀ op ∈ (hostOps2 : List (HloOp τ sig (Elt Ideal))), op.result W = W) :
    (∀ (t : Fin 9) (k : Fin 96) (q : Fin 256), at' W main_v105 (ix3 t k q) = at' W main_v74 (ix4 1 t k q)) ∧
    (∀ (a : Fin 8) (o : Fin 96), at' W main_v107 (ix2 a o) = at' W main_v98 (ix3 1 a o)) := by
  simp only [hostOps2, List.forall_mem_cons] at h
  obtain ⟨h1, h2, h3, h4, -⟩ := h
  constructor
  · intro t k q; unfold at'; rw [reshape_eq h2, unary_eq h1]; pointwise
  · intro a o; unfold at'; rw [reshape_eq h4, unary_eq h3]; pointwise

/-- The fourth stage's weights and channel rows. -/
theorem prep3 (h : ∀ op ∈ (hostOps3 : List (HloOp τ sig (Elt Ideal))), op.result W = W) :
    (∀ (t : Fin 9) (k : Fin 96) (q : Fin 256), at' W main_v110 (ix3 t k q) = at' W main_v74 (ix4 2 t k q)) ∧
    (∀ (a : Fin 8) (o : Fin 96), at' W main_v112 (ix2 a o) = at' W main_v98 (ix3 2 a o)) := by
  simp only [hostOps3, List.forall_mem_cons] at h
  obtain ⟨h1, h2, h3, h4, -⟩ := h
  constructor
  · intro t k q; unfold at'; rw [reshape_eq h2, unary_eq h1]; pointwise
  · intro a o; unfold at'; rw [reshape_eq h4, unary_eq h3]; pointwise

/-- The result: the collecting sums, with a leading axis. -/
theorem prep4 (h : ∀ op ∈ (hostOps4 : List (HloOp τ sig (Elt Ideal))), op.result W = W) (o : Fin 96) (r w : Fin 224) :
    at' W main_v114 (ix4 0 o r w) = at' W main_v113 (ix3 o r w) := by
  simp only [hostOps4, List.forall_mem_cons] at h
  unfold at'
  rw [unary_eq h.1]
  pointwise

/-- The channel mask. -/
theorem mask_eq (h : ∀ op ∈ (hostOps0_2 : List (HloOp τ sig (Elt Ideal))), op.result W = W) :
    at' W main_v25 = ReferenceIdeal.maskOf (at' W main_arg2) (at' W main_v7) := by
  simp only [hostOps0_2, List.forall_mem_cons] at h
  obtain ⟨h8, h9, h10, h11, h12, hc3, h13, h14, hc4, h15, hc5, h16, h17, h18, h19, h20, h21, hc6, h22, h23, h24, h25, -⟩ := h
  unfold at'
  rw [binary_eq h25, unary_eq h24, unary_eq h23, binary_eq h22, nullary_eq hc6, unary_eq h21, binary_eq h20, unary_eq h19, unary_eq h18,
    binary_eq h17, unary_eq h16, nullary_eq hc5, binary_eq h15, nullary_eq hc4, binary_eq h14, unary_eq h13, nullary_eq hc3, binary_eq h12,
    unary_eq h11, unary_eq h10, unary_eq h9, unary_eq h8]
  rfl

end Cert.KernelIdeal.Val
-- ==== Proof.Prefix.lean ====
/- The two programs draw the same numbers, so their channel masks are equal; and each pair of a mask sums to one. -/
module

public import proofs.«01_k».proof.Proof.Draw
public import proofs.«01_k».proof.Proof.DrawReal
public import proofs.«01_k».proof.Proof.RefMain
public import proofs.«01_k».proof.Proof.Prep2

@[expose] public section

set_option maxRecDepth 100000
set_option maxHeartbeats 4000000

noncomputable section

namespace Cert.Both

open Idealize.ShloMosaic Idealize.SL.Sem Idealize.ShloMosaic.StableHlo Cert.Host Cert.ReferenceIdeal.Gen
open Cert.KernelIdeal.Val (Halves)

/-- The key of the draw: the two halves of the seed. -/
def key : (⟨ReferenceIdeal.S2, .i32⟩ : BufTy).Contents (Elt Ideal) :=
  concatenate ReferenceIdeal.S2 0
    [⟨ReferenceIdeal.S1, broadcastInDim ReferenceIdeal.S1 ![] bcast_S_S1
        (Host.shrui (constantI ReferenceIdeal.S_ 32 1234#32) (constantI ReferenceIdeal.S_ 32 32#32))⟩,
      ⟨ReferenceIdeal.S1, broadcastInDim ReferenceIdeal.S1 ![] bcast_S_S1
        (andi (constantI ReferenceIdeal.S_ 32 1234#32) (constantI ReferenceIdeal.S_ 32 4294967295#32))⟩] concatenates_S1_S1_S2_d0

/-- The lower end of the draw's interval. -/
def lower : (⟨ReferenceIdeal.S_, .f32⟩ : BufTy).Contents (Elt Ideal) := constant (F := Ideal) ReferenceIdeal.S_ .f32 0x358637BD#32

/-- The upper end of the draw's interval. -/
def upper : (⟨ReferenceIdeal.S_, .f32⟩ : BufTy).Contents (Elt Ideal) := constant (F := Ideal) ReferenceIdeal.S_ .f32 0x3F7FFFEF#32

/-- The key and the interval's ends in the kernel's program. -/
theorem kernel_key (W : Valuation KernelIdeal.τ KernelIdeal.sig (Elt Ideal))
    (h : ∀ op ∈ (KernelIdeal.Gen.hostOps0 : List (HloOp KernelIdeal.τ KernelIdeal.sig (Elt Ideal))), op.result W = W) :
    W (Proc.devRef .tc KernelIdeal.main_v6) = key ∧
    W (Proc.devRef .tc KernelIdeal.main_cst) = constant (F := Ideal) ReferenceIdeal.S_ .f32 0x358637BD#32 ∧
    W (Proc.devRef .tc KernelIdeal.main_cst_2) = constant (F := Ideal) ReferenceIdeal.S_ .f32 0x3F7FFFEF#32 := by
  simp only [KernelIdeal.Gen.hostOps0, List.forall_mem_cons] at h
  obtain ⟨hc, hc0, h0, h1, h2, hc1, h3, h4, h5, h6, hlo, hhi, -⟩ := h
  refine ⟨?_, nullary_eq hlo, nullary_eq hhi⟩
  rw [binary_eq h6, unary_eq h5, unary_eq h4, binary_eq h3, nullary_eq hc1, unary_eq h2, unary_eq h1, binary_eq h0, nullary_eq hc0, nullary_eq hc]
  rfl

/-- The key in the reference. -/
theorem reference_key (c : Dev ReferenceIdeal.nD) (W : Valuation ReferenceIdeal.τ ReferenceIdeal.sig (Elt Ideal))
    (h : Holds W (ReferenceIdeal.main (F := Ideal) c)) : W (Proc.devRef .tc ReferenceIdeal.main_v6) = key := by
  unfold ReferenceIdeal.main at h
  replace h := (Holds.bind (ReferenceIdeal.main_line0 c).isLine h).1
  unfold ReferenceIdeal.main_part0 at h
  obtain ⟨hc, h⟩ := h.step
  obtain ⟨hc0, h⟩ := h.step
  obtain ⟨h0, h⟩ := h.step
  obtain ⟨h1, h⟩ := h.step
  obtain ⟨h2, h⟩ := h.step
  obtain ⟨hc1, h⟩ := h.step
  obtain ⟨h3, h⟩ := h.step
  obtain ⟨h4, h⟩ := h.step
  obtain ⟨h5, h⟩ := h.step
  obtain ⟨h6, h⟩ := h.step
  rw [binary_eq h6, unary_eq h5, unary_eq h4, binary_eq h3, nullary_eq hc1, unary_eq h2, unary_eq h1, binary_eq h0, nullary_eq hc0, nullary_eq hc]
  rfl

/-- The draws are equal. -/
theorem draw_eq (W : Valuation KernelIdeal.τ KernelIdeal.sig (Elt Ideal)) (W' : Valuation ReferenceIdeal.τ ReferenceIdeal.sig (Elt Ideal))
    (h : ∀ op ∈ (KernelIdeal.Gen.hostOps0 : List (HloOp KernelIdeal.τ KernelIdeal.sig (Elt Ideal))), op.result W = W)
    (h1 : ∀ op ∈ (KernelIdeal.Gen.hostOps0_1 : List (HloOp KernelIdeal.τ KernelIdeal.sig (Elt Ideal))), op.result W = W)
    (c : Dev ReferenceIdeal.nD) (h' : Holds W' (ReferenceIdeal.main (F := Ideal) c)) :
    get W (.of KernelIdeal.main_v7 : TRef KernelIdeal.sig ⟨ReferenceIdeal.S1x96x4x2, .f32⟩) = get W' ReferenceIdeal.main_call0.v42 := by
  obtain ⟨k1, k2, k3⟩ := kernel_key W h
  have V := ReferenceIdeal.vals W' c h'
  have a0 : Agree 22 22 W W' := Agree.nil
  have a1 : Agree 22 23 W W' := a0.succ (y := KernelIdeal.main_v6) (y' := ReferenceIdeal.main_v6) (At.mk rfl rfl) (At.mk rfl rfl) (by
    have k := reference_key c W' h'
    rw [k1]
    refine HEq.trans ?_ (heq_of_eq k.symm)
    exact toBuf_heq (.of KernelIdeal.main_v6 : TRef KernelIdeal.sig ⟨ReferenceIdeal.S2, .i32⟩)
      (.of ReferenceIdeal.main_v6 : TRef ReferenceIdeal.sig ⟨ReferenceIdeal.S2, .i32⟩) (rfl : key = key))
  have a2 : Agree 22 24 W W' := a1.succ (y := KernelIdeal.main_cst) (y' := ReferenceIdeal.main_cst) (At.mk rfl rfl) (At.mk rfl rfl) (by
    rw [k2]
    refine HEq.trans ?_ (heq_of_eq V.lo.symm)
    exact toBuf_heq (.of KernelIdeal.main_cst : TRef KernelIdeal.sig ⟨ReferenceIdeal.S_, .f32⟩)
      (.of ReferenceIdeal.main_cst : TRef ReferenceIdeal.sig ⟨ReferenceIdeal.S_, .f32⟩)
      (rfl : lower = lower))
  have a3 : Agree 22 25 W W' := a2.succ (y := KernelIdeal.main_cst_2) (y' := ReferenceIdeal.main_cst_2) (At.mk rfl rfl) (At.mk rfl rfl) (by
    rw [k3]
    refine HEq.trans ?_ (heq_of_eq V.hi.symm)
    exact toBuf_heq (.of KernelIdeal.main_cst_2 : TRef KernelIdeal.sig ⟨ReferenceIdeal.S_, .f32⟩)
      (.of ReferenceIdeal.main_cst_2 : TRef ReferenceIdeal.sig ⟨ReferenceIdeal.S_, .f32⟩)
      (rfl : upper = upper))
  exact (draw W W' h1 V.draw a3).get (.of KernelIdeal.main_v7 : TRef KernelIdeal.sig ⟨ReferenceIdeal.S1x96x4x2, .f32⟩) ReferenceIdeal.main_call0.v42 (Pair.mk rfl rfl rfl (by decide) (by decide))

/-- The masks are equal, where the masked argument is. -/
theorem mask_same (W : Valuation KernelIdeal.τ KernelIdeal.sig (Elt Ideal)) (W' : Valuation ReferenceIdeal.τ ReferenceIdeal.sig (Elt Ideal))
    (h : ∀ op ∈ (KernelIdeal.Gen.hostOps0 : List (HloOp KernelIdeal.τ KernelIdeal.sig (Elt Ideal))), op.result W = W)
    (h1 : ∀ op ∈ (KernelIdeal.Gen.hostOps0_1 : List (HloOp KernelIdeal.τ KernelIdeal.sig (Elt Ideal))), op.result W = W)
    (h2 : ∀ op ∈ (KernelIdeal.Gen.hostOps0_2 : List (HloOp KernelIdeal.τ KernelIdeal.sig (Elt Ideal))), op.result W = W)
    (c : Dev ReferenceIdeal.nD) (h' : Holds W' (ReferenceIdeal.main (F := Ideal) c))
    (ha : Eq (α := ReferenceIdeal.Pairs) (KernelIdeal.Val.at' W KernelIdeal.main_arg2) (ReferenceIdeal.at' W' ReferenceIdeal.main_arg2)) :
    Eq (α := ReferenceIdeal.Pairs) (KernelIdeal.Val.cm W) (ReferenceIdeal.at' W' ReferenceIdeal.main_v25) := by
  have V := ReferenceIdeal.vals W' c h'
  refine (KernelIdeal.Val.mask_eq W h2).trans (Eq.trans ?_ V.v25.symm)
  exact congrArg₂ ReferenceIdeal.maskOf ha (draw_eq W W' h h1 c h')

/-- Each pair of the mask is two real numbers that sum to one. -/
theorem mask_halves (W' : Valuation ReferenceIdeal.τ ReferenceIdeal.sig (Elt Ideal)) (c : Dev ReferenceIdeal.nD)
    (h' : Holds W' (ReferenceIdeal.main (F := Ideal) c))
    (ha : ∀ y : ReferenceIdeal.S1x96x4x2.Idx, ∃ a : ℝ, (ReferenceIdeal.at' W' ReferenceIdeal.main_arg2 : ReferenceIdeal.Pairs) y = (a : EReal))
    (o : Fin 96) (s : Fin 4) : Halves ((ReferenceIdeal.at' W' ReferenceIdeal.main_v25 : ReferenceIdeal.Pairs) (ix4 0 o s 0))
      ((ReferenceIdeal.at' W' ReferenceIdeal.main_v25 : ReferenceIdeal.Pairs) (ix4 0 o s 1)) := by
  have V := ReferenceIdeal.vals W' c h'
  have e := V.v25
  rw [e]
  exact ReferenceIdeal.maskOf_pair _ _ o s (fun t => ha _) (fun t => ReferenceIdeal.draw_real W' V.draw V.lo V.hi o s t)

end Cert.Both
-- ==== Proof.Bridge.lean ====
/- Each stage as the kernel computes it is the stage as the reference computes it, on real numbers. -/
module

public import proofs.«01_k».proof.Proof.RefMain

@[expose] public section

noncomputable section

namespace Cert.KernelIdeal.Val

open Idealize.ShloMosaic
open Cert.ReferenceIdeal (conv stage0 stageN joined Pairs pic)

/-- The nine sums depend on the weights' values only. -/
theorem tapSum_congr {P : ℕ → ℕ → Fin 96 → EReal} {w w' : Fin 9 → Fin 96 → EReal} (h : ∀ t k, w t k = w' t k) :
    tapSum P w = tapSum P w' := by
  rw [show w = w' from funext fun t => funext fun k => h t k]

/-- The first stage. -/
theorem first_bridge {X : S224x224x96.Idx → EReal} {spa : S224x224.Idx → EReal} {wm : S9x96x96.Idx → EReal} {cv : S8x96.Idx → EReal}
    {wt : ReferenceIdeal.S96x96x3x3.Idx → EReal} {b : ReferenceIdeal.S96.Idx → EReal} {M : Pairs}
    {sp : ReferenceIdeal.S1x1x224x224.Idx → EReal}
    (hX : ∀ y, IsReal (X y)) (hw : ∀ y, IsReal (wt y)) (hb : ∀ y, IsReal (b y)) (hs : ∀ y, IsReal (sp y))
    (hM : ∀ (o : Fin 96) (s : Fin 4), Halves (M (ix4 0 o s 0)) (M (ix4 0 o s 1)))
    (es : ∀ r w : Fin 224, spa (ix2 r w) = sp (ix4 0 0 r w))
    (ew : ∀ (t : Fin 9) (dh dw : Fin 3) (k o : Fin 96), t.val = 3 * dh.val + dw.val → wm (ix3 t k o) = wt (ix4 o k dh dw))
    (e0 : ∀ o : Fin 96, cv (ix2 0 o) = M (ix4 0 o 0 0)) (e1 : ∀ o : Fin 96, cv (ix2 1 o) = M (ix4 0 o 0 1))
    (e2 : ∀ o : Fin 96, cv (ix2 2 o) = b (ix1 o)) (r w : Fin 224) (o : Fin 96) :
    firstStage X spa wm cv r w o = stage0 X wt b M sp r w o ∧ IsReal (stage0 X wt b M sp r w o) := by
  obtain ⟨e, hr⟩ := first_eq hX (wt := fun t k => wt (ix4 o k ⟨t.val / 3, by omega⟩ ⟨t.val % 3, by omega⟩)) (fun t k => hw _)
    (hM o 0) (hb (ix1 o)) (hs (ix4 0 0 r w)) r.val w.val
  have h : firstStage X spa wm cv r w o = stage0 X wt b M sp r w o := by
    unfold firstStage stage0 conv
    rw [e0, e1, e2, es, tapSum_congr fun t k => ew t ⟨t.val / 3, by omega⟩ ⟨t.val % 3, by omega⟩ k o
      (by show t.val = 3 * (t.val / 3) + t.val % 3; omega)]
    exact congrArg (max · 0) e
  refine ⟨h, ?_⟩
  unfold stage0 conv
  rw [← e]
  exact hr.max .zero

/-- A later stage. -/
theorem mid_bridge (j : Fin 3) {X : S224x224x96.Idx → EReal} {spa : S224x224.Idx → EReal} {wm : S9x96x256.Idx → EReal}
    {cv : S8x96.Idx → EReal} {wt : ReferenceIdeal.S96x96x3x3.Idx → EReal} {b : ReferenceIdeal.S96.Idx → EReal} {M : Pairs}
    {sp : ReferenceIdeal.S1x1x224x224.Idx → EReal}
    (hX : ∀ y, IsReal (X y)) (hw : ∀ y, IsReal (wt y)) (hb : ∀ y, IsReal (b y)) (hs : ∀ y, IsReal (sp y))
    (hM : ∀ (o : Fin 96) (s : Fin 4), Halves (M (ix4 0 o s 0)) (M (ix4 0 o s 1)))
    (es : ∀ r w : Fin 224, spa (ix2 r w) = sp (ix4 0 0 r w))
    (ew : ∀ (t : Fin 9) (dh dw : Fin 3) (k o : Fin 96) (q : Fin 256), t.val = 3 * dh.val + dw.val → q.val = o.val →
      wm (ix3 t k q) = wt (ix4 o k dh dw))
    (ed : ∀ (t : Fin 9) (dh dw : Fin 3) (k o : Fin 96) (q : Fin 256), t.val = 3 * dh.val + dw.val → q.val = 128 + o.val →
      wm (ix3 t k q) = wt (ix4 o k dh dw) * M (ix4 0 k j.castSucc 1))
    (e0 : ∀ o : Fin 96, cv (ix2 0 o) = M (ix4 0 o j.succ 1)) (e1 : ∀ o : Fin 96, cv (ix2 1 o) = b (ix1 o) * M (ix4 0 o j.succ 1))
    (e2 : ∀ o : Fin 96, cv (ix2 2 o) = b (ix1 o) * (M (ix4 0 o j.succ 0) + 1)) (r w : Fin 224) (o : Fin 96) :
    midStage X spa wm cv r w o = stageN j X wt b M sp r w o ∧ IsReal (stageN j X wt b M sp r w o) := by
  obtain ⟨e, hr⟩ := mid_eq hX (wt := fun t k => wt (ix4 o k ⟨t.val / 3, by omega⟩ ⟨t.val % 3, by omega⟩)) (fun t k => hw _)
    (c := fun k => M (ix4 0 k j.castSucc 0)) (d := fun k => M (ix4 0 k j.castSucc 1)) (fun k => hM k j.castSucc)
    (hM o j.succ) (hb (ix1 o)) (hs (ix4 0 0 r w)) r.val w.val
  have ht : ∀ t : Fin 9, t.val = 3 * (t.val / 3) + t.val % 3 := fun t => by omega
  have h : midStage X spa wm cv r w o = stageN j X wt b M sp r w o := by
    unfold midStage stageN joined conv
    dsimp only
    rw [e0, e1, e2, es, tapSum_congr fun t k => ew t ⟨t.val / 3, by omega⟩ ⟨t.val % 3, by omega⟩ k o _ (ht t) rfl,
      tapSum_congr fun t k => ed t ⟨t.val / 3, by omega⟩ ⟨t.val % 3, by omega⟩ k o _ (ht t) rfl]
    exact congrArg (max · 0) e
  refine ⟨h, ?_⟩
  unfold stageN joined conv
  rw [e] at hr
  exact hr.max .zero

end Cert.KernelIdeal.Val
-- ==== Proof.Goods.lean ====
/- The host operations of the kernel's program write their buffers one after the other, so that, once a stretch of them
   has run, each of its operations would change nothing more. -/
module

public import proofs.«01_k».proof.Proof.Host
public import proofs.«01_k».proof.Proof.Gen.KernelIdeal.Frame.Fold0
public import Idealize.ShloMosaic.Lib.Pointwise

@[expose] public section

set_option maxRecDepth 100000
set_option maxHeartbeats 8000000

noncomputable section

namespace Cert.Host

open Idealize.ShloMosaic Idealize.SL.Sem Idealize.ShloMosaic.StableHlo

variable {τ : Topo} {sig : RefSig} {Val : EltTy → Type}

/-- The empty list is good. -/
theorem Good.nil {n m : ℕ} (h : n = m) : Good n ([] : List (HloOp τ sig Val)) m := h

/-- A good list behind an operation at its place is good. -/
theorem Good.cons {n m : ℕ} {op : HloOp τ sig Val} {l : List (HloOp τ sig Val)} (h : OpAt n op) (h' : Good (n + 1) l m) : Good n (op :: l) m :=
  ⟨h, h'⟩

/-- One list of operations after another. -/
theorem after_two (l l' : List (HloOp τ sig Val)) (V : Valuation τ sig Val) : after (l ++ l') V = after l' (after l V) := by
  induction l generalizing V with
  | nil => rfl
  | cons o l ih => rw [List.cons_append, after_cons, after_cons, ih]

end Cert.Host

namespace Cert.KernelIdeal.Val

open Idealize.ShloMosaic Idealize.ShloMosaic.TcCoe Idealize.SL.Sem Idealize.ShloMosaic.StableHlo
open Cert.KernelIdeal Cert.KernelIdeal.Gen Cert.Host

/-- The stretches and the numbers of the buffers that they write. -/
theorem goods :
    Good 13 (hostOps0 : List (HloOp τ sig (Elt Ideal))) 25 ∧ Good 25 (hostOps0_1 : List (HloOp τ sig (Elt Ideal))) 297 ∧
    Good 297 (hostOps0_2 : List (HloOp τ sig (Elt Ideal))) 340 ∧ Good 341 (hostOps1 : List (HloOp τ sig (Elt Ideal))) 401 ∧
    Good 402 (hostOps2 : List (HloOp τ sig (Elt Ideal))) 406 ∧ Good 407 (hostOps3 : List (HloOp τ sig (Elt Ideal))) 411 ∧
    Good 412 (hostOps4 : List (HloOp τ sig (Elt Ideal))) 413 := by
  refine ⟨?_, ?_, ?_, ?_, ?_, ?_, ?_⟩
  all_goals first
    | unfold hostOps0
    | unfold hostOps0_1
    | unfold hostOps0_2
    | unfold hostOps1
    | unfold hostOps2
    | unfold hostOps3
    | unfold hostOps4
  repeat' first
    | exact At.mk rfl rfl
    | exact Before.mk rfl (by decide)
    | with_reducible refine Good.cons (OpAt.unary ?_ ?_) ?_
    | with_reducible refine Good.cons (OpAt.binary ?_ ?_ ?_) ?_
    | with_reducible refine Good.cons (OpAt.nullary ?_) ?_
    | with_reducible refine Good.cons (OpAt.reshape ?_ ?_) ?_
    | with_reducible refine Good.cons (OpAt.nary ?_ ?_) ?_
    | with_reducible refine Good.nil ?_
    | rfl
    | exact fun j => by fin_cases j <;> exact Before.mk rfl (by decide)

variable (m : (ℓ : Loc nD τ sig) → Buf (Elt Ideal) ℓ) (ρ : Dev nD → PrngReg) (c : Dev nD)

/-- Before the first stage: the operations of all three stretches hold. -/
theorem fixed3 : (∀ op ∈ (hostOps0 : List (HloOp τ sig (Elt Ideal))), op.result (W3 m ρ c) = W3 m ρ c) ∧
    (∀ op ∈ (hostOps0_1 : List (HloOp τ sig (Elt Ideal))), op.result (W3 m ρ c) = W3 m ρ c) ∧
    (∀ op ∈ (hostOps0_2 : List (HloOp τ sig (Elt Ideal))), op.result (W3 m ρ c) = W3 m ρ c) := by
  have e : W3 m ρ c = after (hostOps0 ++ (hostOps0_1 ++ hostOps0_2)) (W0 m ρ c) := by rw [after_two, after_two]
  have h := (goods.1.append (goods.2.1.append goods.2.2.1)).fixed (W0 m ρ c)
  rw [← e] at h
  exact ⟨fun op ho => h op (List.mem_append_left _ ho), fun op ho => h op (List.mem_append_right _ (List.mem_append_left _ ho)),
    fun op ho => h op (List.mem_append_right _ (List.mem_append_right _ ho))⟩

/-- Between the stages. -/
theorem fixed5 : ∀ op ∈ (hostOps1 : List (HloOp τ sig (Elt Ideal))), op.result (W5 m ρ c) = W5 m ρ c := goods.2.2.2.1.fixed _
/-- The same after the second stage. -/
theorem fixed7 : ∀ op ∈ (hostOps2 : List (HloOp τ sig (Elt Ideal))), op.result (W7 m ρ c) = W7 m ρ c := goods.2.2.2.2.1.fixed _
/-- The same after the third stage. -/
theorem fixed9 : ∀ op ∈ (hostOps3 : List (HloOp τ sig (Elt Ideal))), op.result (W9 m ρ c) = W9 m ρ c := goods.2.2.2.2.2.1.fixed _
/-- The same after the fourth stage. -/
theorem fixed11 : ∀ op ∈ (hostOps4 : List (HloOp τ sig (Elt Ideal))), op.result (W11 m ρ c) = W11 m ρ c := goods.2.2.2.2.2.2.fixed _

end Cert.KernelIdeal.Val
-- ==== Proof.Pads0.lean ====
module

public import proofs.«01_k».proof.Proof.Slab

@[expose] public section

set_option maxRecDepth 100000

noncomputable section

namespace Cert.KernelIdeal.Val

open Idealize.ShloMosaic Idealize.ShloMosaic.TcCoe Idealize.SL.Sem
open Cert.KernelIdeal Cert.KernelIdeal.Gen

/-- The input picture with its channels last. -/
def chLast (X : S96x224x224.Idx → EReal) : S224x224x96.Idx → EReal := fun y => X (ix3 (y 2) (y 0) (y 1))

/-- The input picture, channels last, padded, inside the border. -/
theorem padAt_chLast (X : S96x224x224.Idx → EReal) (r w : ℕ) (k : Fin 96) (a b : Fin 224) (ha : r = a.val + 1)
    (hb : w = b.val + 1) : padAt (chLast X) r w k = X (ix3 k a b) :=
  padAt_in (chLast X) r w k a b ha hb

/-- A middle block's three stores write the slab. -/
theorem canon0B (X : Vec Ideal S96x224x224 .f32) (b o : ℕ) (ho : o + 8 = 32 * b) (hb : b ≤ 5) (off : Fin 3 → ℕ)
    (hoff : off = ![0, o, 0]) (h : ∀ a, off a + S96x48x224.size a ≤ S96x224x224.size a)
    (h0 : ∀ a, (![0, 0, 0, 0] : Fin 4 → ℕ) a + (![1, 34, 224, 96] : Fin 4 → ℕ) a ≤ S3x34x224x96.size a)
    (h1 : ∀ a, (![1, 0, 0, 0] : Fin 4 → ℕ) a + (![1, 34, 224, 96] : Fin 4 → ℕ) a ≤ S3x34x224x96.size a)
    (h2 : ∀ a, (![2, 0, 0, 0] : Fin 4 → ℕ) a + (![1, 34, 224, 96] : Fin 4 → ℕ) a ≤ S3x34x224x96.size a) :
    View.canon (Val := Elt Ideal) (s := S3x34x224x96) (e := .bf16)
      [⟨Rect.unit ![2, 0, 0, 0] ![1, 34, 224, 96] h2, k0_pay21 (View.ld X (Rect.unit (s := S96x224x224) off S96x48x224.size h))⟩,
       ⟨Rect.unit ![1, 0, 0, 0] ![1, 34, 224, 96] h1, k0_pay20 (View.ld X (Rect.unit (s := S96x224x224) off S96x48x224.size h))⟩,
       ⟨Rect.unit ![0, 0, 0, 0] ![1, 34, 224, 96] h0, k0_pay19 (View.ld X (Rect.unit (s := S96x224x224) off S96x48x224.size h))⟩] = slabV (chLast X) b := by
  subst hoff
  refine canon_three (chLast X) b h0 h1 h2 _ _ _ ?_ ?_ ?_ <;> intro x1 x2 x3
  · pointwise [k0_pay19, k0_pay18]
    split
    · exact (padAt_out _ _ _ _ (by omega)).symm
    · exact (padAt_chLast X _ _ _ _ _ (by show _ = (o + (7 + x1.val)) + 1; omega) (by show _ = (x2.val - 1) + 1; omega)).symm
  · pointwise [k0_pay20, k0_pay18]
    exact (padAt_chLast X _ _ _ _ _ (by show _ = (o + (7 + x1.val)) + 1; omega) (by rfl)).symm
  · pointwise [k0_pay21, k0_pay18]
    split
    · exact (padAt_chLast X _ _ _ _ _ (by show _ = (o + (7 + x1.val)) + 1; omega) (by show _ = (1 + x2.val) + 1; omega)).symm
    · exact (padAt_out _ _ _ _ (by omega)).symm

/-- The first block's six stores write the slab. -/
theorem canon0A (X : Vec Ideal S96x224x224 .f32)
    (h : ∀ a, (![0, 0, 0] : Fin 3 → ℕ) a + (![96, 40, 224] : Fin 3 → ℕ) a ≤ S96x224x224.size a)
    (h0 : ∀ a, (![0, 1, 0, 0] : Fin 4 → ℕ) a + (![1, 33, 224, 96] : Fin 4 → ℕ) a ≤ S3x34x224x96.size a)
    (g0 : ∀ a, (![0, 0, 0, 0] : Fin 4 → ℕ) a + (![1, 1, 224, 96] : Fin 4 → ℕ) a ≤ S3x34x224x96.size a)
    (h1 : ∀ a, (![1, 1, 0, 0] : Fin 4 → ℕ) a + (![1, 33, 224, 96] : Fin 4 → ℕ) a ≤ S3x34x224x96.size a)
    (g1 : ∀ a, (![1, 0, 0, 0] : Fin 4 → ℕ) a + (![1, 1, 224, 96] : Fin 4 → ℕ) a ≤ S3x34x224x96.size a)
    (h2 : ∀ a, (![2, 1, 0, 0] : Fin 4 → ℕ) a + (![1, 33, 224, 96] : Fin 4 → ℕ) a ≤ S3x34x224x96.size a)
    (g2 : ∀ a, (![2, 0, 0, 0] : Fin 4 → ℕ) a + (![1, 1, 224, 96] : Fin 4 → ℕ) a ≤ S3x34x224x96.size a) :
    View.canon (Val := Elt Ideal) (s := S3x34x224x96) (e := .bf16)
      [⟨Rect.unit ![2, 1, 0, 0] ![1, 33, 224, 96] h2, k0_pay16 (k0_pay8 (View.ld X (Rect.unit (s := S96x224x224) ![0, 0, 0] ![96, 40, 224] h)))⟩,
       ⟨Rect.unit ![2, 0, 0, 0] ![1, 1, 224, 96] g2, k0_pay7 (F := Ideal) k0_pay15⟩,
       ⟨Rect.unit ![1, 1, 0, 0] ![1, 33, 224, 96] h1, k0_pay6 (View.ld X (Rect.unit (s := S96x224x224) ![0, 0, 0] ![96, 40, 224] h))⟩,
       ⟨Rect.unit ![1, 0, 0, 0] ![1, 1, 224, 96] g1, k0_pay5 (F := Ideal) k0_pay15⟩,
       ⟨Rect.unit ![0, 1, 0, 0] ![1, 33, 224, 96] h0, k0_pay4 (View.ld X (Rect.unit (s := S96x224x224) ![0, 0, 0] ![96, 40, 224] h))⟩,
       ⟨Rect.unit ![0, 0, 0, 0] ![1, 1, 224, 96] g0, k0_pay3 (F := Ideal) k0_pay15⟩] = slabV (chLast X) 0 := by
  refine canon_six (chLast X) 0 1 0 (by omega) h0 h1 h2 g0 g1 g2 (k0_pay4 (View.ld X (Rect.unit (s := S96x224x224) ![0, 0, 0] ![96, 40, 224] h))) (k0_pay6 (View.ld X (Rect.unit (s := S96x224x224) ![0, 0, 0] ![96, 40, 224] h))) (k0_pay16 (k0_pay8 (View.ld X (Rect.unit (s := S96x224x224) ![0, 0, 0] ![96, 40, 224] h))))
    (k0_pay3 (F := Ideal) k0_pay15) (k0_pay5 (F := Ideal) k0_pay15) (k0_pay7 (F := Ideal) k0_pay15) ?_ ?_ ?_ ?_ ?_ ?_ _ ?hL
  case hL =>
    intro p
    simp only [List.mem_cons, List.not_mem_nil, or_false]
    tauto
  all_goals intro x1 x2 x3
  · pointwise [k0_pay4, k0_pay2]
    split
    · exact (padAt_out _ _ _ _ (by omega)).symm
    · exact (padAt_chLast X _ _ _ _ _ (by show _ = x1.val + 1; omega) (by show _ = (x2.val - 1) + 1; omega)).symm
  · pointwise [k0_pay6, k0_pay2]
    exact (padAt_chLast X _ _ _ _ _ (by show _ = x1.val + 1; omega) (by rfl)).symm
  · pointwise [k0_pay16, k0_pay8, k0_pay2]
    split
    · exact (padAt_chLast X _ _ _ _ _ (by show _ = x1.val + 1; omega) (by show _ = (1 + x2.val) + 1; omega)).symm
    · exact (padAt_out _ _ _ _ (by omega)).symm
  · pointwise [k0_pay15, k0_pay3, k0_pay15]
    exact (padAt_out _ _ _ _ (by omega)).symm
  · pointwise [k0_pay15, k0_pay5, k0_pay15]
    exact (padAt_out _ _ _ _ (by omega)).symm
  · pointwise [k0_pay15, k0_pay7, k0_pay15]
    exact (padAt_out _ _ _ _ (by omega)).symm

/-- The last block's six stores write the slab. -/
theorem canon0C (X : Vec Ideal S96x224x224 .f32)
    (h : ∀ a, (![0, 184, 0] : Fin 3 → ℕ) a + (![96, 40, 224] : Fin 3 → ℕ) a ≤ S96x224x224.size a)
    (h0 : ∀ a, (![0, 0, 0, 0] : Fin 4 → ℕ) a + (![1, 33, 224, 96] : Fin 4 → ℕ) a ≤ S3x34x224x96.size a)
    (g0 : ∀ a, (![0, 33, 0, 0] : Fin 4 → ℕ) a + (![1, 1, 224, 96] : Fin 4 → ℕ) a ≤ S3x34x224x96.size a)
    (h1 : ∀ a, (![1, 0, 0, 0] : Fin 4 → ℕ) a + (![1, 33, 224, 96] : Fin 4 → ℕ) a ≤ S3x34x224x96.size a)
    (g1 : ∀ a, (![1, 33, 0, 0] : Fin 4 → ℕ) a + (![1, 1, 224, 96] : Fin 4 → ℕ) a ≤ S3x34x224x96.size a)
    (h2 : ∀ a, (![2, 0, 0, 0] : Fin 4 → ℕ) a + (![1, 33, 224, 96] : Fin 4 → ℕ) a ≤ S3x34x224x96.size a)
    (g2 : ∀ a, (![2, 33, 0, 0] : Fin 4 → ℕ) a + (![1, 1, 224, 96] : Fin 4 → ℕ) a ≤ S3x34x224x96.size a) :
    View.canon (Val := Elt Ideal) (s := S3x34x224x96) (e := .bf16)
      [⟨Rect.unit ![2, 33, 0, 0] ![1, 1, 224, 96] g2, k0_pay17 (F := Ideal)⟩,
       ⟨Rect.unit ![2, 0, 0, 0] ![1, 33, 224, 96] h2, k0_pay14 (View.ld X (Rect.unit (s := S96x224x224) ![0, 184, 0] ![96, 40, 224] h))⟩,
       ⟨Rect.unit ![1, 33, 0, 0] ![1, 1, 224, 96] g1, k0_pay13 (F := Ideal) k0_pay15⟩,
       ⟨Rect.unit ![1, 0, 0, 0] ![1, 33, 224, 96] h1, k0_pay12 (View.ld X (Rect.unit (s := S96x224x224) ![0, 184, 0] ![96, 40, 224] h))⟩,
       ⟨Rect.unit ![0, 33, 0, 0] ![1, 1, 224, 96] g0, k0_pay11 (F := Ideal) k0_pay15⟩,
       ⟨Rect.unit ![0, 0, 0, 0] ![1, 33, 224, 96] h0, k0_pay10 (View.ld X (Rect.unit (s := S96x224x224) ![0, 184, 0] ![96, 40, 224] h))⟩] = slabV (chLast X) 6 := by
  refine canon_six (chLast X) 6 0 33 (by omega) h0 h1 h2 g0 g1 g2 (k0_pay10 (View.ld X (Rect.unit (s := S96x224x224) ![0, 184, 0] ![96, 40, 224] h))) (k0_pay12 (View.ld X (Rect.unit (s := S96x224x224) ![0, 184, 0] ![96, 40, 224] h))) (k0_pay14 (View.ld X (Rect.unit (s := S96x224x224) ![0, 184, 0] ![96, 40, 224] h)))
    (k0_pay11 (F := Ideal) k0_pay15) (k0_pay13 (F := Ideal) k0_pay15) (k0_pay17 (F := Ideal)) ?_ ?_ ?_ ?_ ?_ ?_ _ ?hL
  case hL =>
    intro p
    simp only [List.mem_cons, List.not_mem_nil, or_false]
    tauto
  all_goals intro x1 x2 x3
  · pointwise [k0_pay10, k0_pay9]
    split
    · exact (padAt_out _ _ _ _ (by omega)).symm
    · exact (padAt_chLast X _ _ _ _ _ (by show _ = (184 + (7 + x1.val)) + 1; omega) (by show _ = (x2.val - 1) + 1; omega)).symm
  · pointwise [k0_pay12, k0_pay9]
    exact (padAt_chLast X _ _ _ _ _ (by show _ = (184 + (7 + x1.val)) + 1; omega) (by rfl)).symm
  · pointwise [k0_pay14, k0_pay9]
    split
    · exact (padAt_chLast X _ _ _ _ _ (by show _ = (184 + (7 + x1.val)) + 1; omega) (by show _ = (1 + x2.val) + 1; omega)).symm
    · exact (padAt_out _ _ _ _ (by omega)).symm
  · pointwise [k0_pay11, k0_pay15, k0_pay15]
    exact (padAt_out _ _ _ _ (by omega)).symm
  · pointwise [k0_pay13, k0_pay15, k0_pay15]
    exact (padAt_out _ _ _ _ (by omega)).symm
  · pointwise [k0_pay17, k0_pay15]
    exact (padAt_out _ _ _ _ (by omega)).symm

end Cert.KernelIdeal.Val
-- ==== Proof.R0.lean ====
module

public import proofs.«01_k».proof.Proof.Gen.KernelIdeal.Frame.Region0
public import proofs.«01_k».proof.Proof.Pads0
public import proofs.«01_k».proof.Proof.First

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- A middle block's load begins eight rows above the block. -/
theorem off0 : ∀ t : Fin grid0.N, (1 ≤ t.val % 7 ∧ t.val % 7 ≤ 5) →
    (Scalar.indexCast (Scalar.subi (Scalar.muli (BitVec.ofNat 32 (grid0.coords t 0).val) 32#32) 8#32)).toNat + 8 = 32 * t.val ∧ t.val ≤ 5 := by
  decide +kernel

/-- There are seven blocks. -/
theorem lt0 : ∀ t : Fin grid0.N, t.val < 7 := by decide +kernel

/-- What the first block stores. -/
theorem block0_A (c : Dev nD) (t : Fin cfg0.N) (h0 : t.val % 7 = 0) (h1 : ¬t.val % 7 = 6) (h2 : ¬(1 ≤ t.val % 7 ∧ t.val % 7 ≤ 5)) :
    outsAt0 V c t.val t.isLt = firstBlock (slabV (chLast (iblk0 V c 0 t)) t.val) (iblk0 V c 1 t) (iblk0 V c 2 t) (iblk0 V c 3 t) := by
  rw [outsAt0_A V c t h0 h1 h2]
  unfold out0_A_4
  rw [View.read_writes_eq_canon _ _ _ (cover0_A_4 c _ _ _ _ _ _ _ _ _ _ _ _ _ _ _ _ _ _ _ _)]
  unfold kernelRun0_A
  dsimp only
  sl_unfold_run_names
  simp only [View.readAt_eq_ld, (hs0_0 t).read_unread, (hs0_1 t).read_unread, (hs0_2 t).read_unread, (hs0_3 t).read_unread,
    View.readCov_eq_canon']
  rw [canon0A (iblk0 V c 0 t), View.canon_unit_zero (by decide)]
  have h : t.val = 0 := by have := lt0 t; omega
  rw [h]
  rfl

/-- What a middle block stores. -/
theorem block0_B (c : Dev nD) (t : Fin cfg0.N) (h0 : ¬t.val % 7 = 0) (h1 : ¬t.val % 7 = 6) (h2 : (1 ≤ t.val % 7 ∧ t.val % 7 ≤ 5)) :
    outsAt0 V c t.val t.isLt = firstBlock (slabV (chLast (iblk0 V c 0 t)) t.val) (iblk0 V c 1 t) (iblk0 V c 2 t) (iblk0 V c 3 t) := by
  rw [outsAt0_B V c t h0 h1 h2]
  unfold out0_B_4
  rw [View.read_writes_eq_canon _ _ _ (cover0_B_4 c _ _ _ _ _ _ _ _ _ _ _ _ _ _ _ _ _ _ _ _)]
  unfold kernelRun0_B
  dsimp only
  sl_unfold_run_names
  simp only [View.readAt_eq_ld, (hs0_0 t).read_unread, (hs0_1 t).read_unread, (hs0_2 t).read_unread, (hs0_3 t).read_unread,
    View.readCov_eq_canon']
  rw [canon0B (iblk0 V c 0 t) t.val _ (off0 t h2).1 (off0 t h2).2 (k0_off1 (grid0.coords t)) rfl, View.canon_unit_zero (by decide)]
  rfl

/-- What the last block stores. -/
theorem block0_C (c : Dev nD) (t : Fin cfg0.N) (h0 : ¬t.val % 7 = 0) (h1 : t.val % 7 = 6) (h2 : ¬(1 ≤ t.val % 7 ∧ t.val % 7 ≤ 5)) :
    outsAt0 V c t.val t.isLt = firstBlock (slabV (chLast (iblk0 V c 0 t)) t.val) (iblk0 V c 1 t) (iblk0 V c 2 t) (iblk0 V c 3 t) := by
  rw [outsAt0_C V c t h0 h1 h2]
  unfold out0_C_4
  rw [View.read_writes_eq_canon _ _ _ (cover0_C_4 c _ _ _ _ _ _ _ _ _ _ _ _ _ _ _ _ _ _ _ _)]
  unfold kernelRun0_C
  dsimp only
  sl_unfold_run_names
  simp only [View.readAt_eq_ld, (hs0_0 t).read_unread, (hs0_1 t).read_unread, (hs0_2 t).read_unread, (hs0_3 t).read_unread,
    View.readCov_eq_canon']
  rw [canon0C (iblk0 V c 0 t), View.canon_unit_zero (by decide)]
  have h : t.val = 6 := by have := lt0 t; omega
  rw [h]
  rfl

/-- What every block stores: the first stage of its rows. -/
theorem block0 (c : Dev nD) (t : Fin cfg0.N) :
    outsAt0 V c t.val t.isLt = firstBlock (slabV (chLast (iblk0 V c 0 t)) t.val) (iblk0 V c 1 t) (iblk0 V c 2 t) (iblk0 V c 3 t) := by
  have := lt0 t
  by_cases h0 : t.val % 7 = 0
  · exact block0_A V c t h0 (by omega) (by omega)
  · by_cases h1 : t.val % 7 = 6
    · exact block0_C V c t h0 h1 (by omega)
    · exact block0_B V c t h0 h1 (by omega)

end Cert.KernelIdeal.Val
-- ==== Proof.Arr0.lean ====
module

public import proofs.«01_k».proof.Proof.R0
public import proofs.«01_k».proof.Proof.Stage
public import Idealize.ShloMosaic.Lib.Pipeline.ValueKit

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- Where each window's block begins. -/
theorem idx0 : ∀ t : Fin cfg0.N, (∀ a, win0_0.index t a = 0)
    ∧ (win0_1.index t (0 : Fin 2) = t.val ∧ win0_1.index t (1 : Fin 2) = 0)
    ∧ (∀ a, win0_2.index t a = 0)
    ∧ (∀ a, win0_3.index t a = 0)
    ∧ (win0_4.index t (0 : Fin 3) = t.val ∧ win0_4.index t (1 : Fin 3) = 0 ∧ win0_4.index t (2 : Fin 3) = 0) :=
  (by decide +kernel : ∀ t : Fin grid0.N, _)

/-- Window 0 is the whole of its array. -/
theorem in0_0 (c : Dev nD) (t : Fin cfg0.N) : iblk0 V c 0 t = V c main_v28 := by
  obtain ⟨h, -⟩ := idx0 t
  have h0 := h 0
  have h1 := h 1
  have h2 := h 2
  funext j
  blk_ext [iblk0, h0, h1, h2]

/-- Window 1 is 32 rows of its array. -/
theorem in0_1 (c : Dev nD) (t : Fin cfg0.N) (i : Fin 32) (w r : Fin 224) (hr : r.val = 32 * t.val + i.val) :
    iblk0 V c 1 t (ix2 i w) = V c main_v27 (ix2 r w) := by
  obtain ⟨-, ⟨h0, h1⟩, -⟩ := idx0 t
  blk_ext [iblk0, h0, h1, hr]

/-- Window 2 is the whole of its array. -/
theorem in0_2 (c : Dev nD) (t : Fin cfg0.N) : iblk0 V c 2 t = V c main_v31 := by
  obtain ⟨-, -, h, -⟩ := idx0 t
  have h0 := h 0
  have h1 := h 1
  have h2 := h 2
  funext j
  blk_ext [iblk0, h0, h1, h2]

/-- Window 3 is the whole of its array. -/
theorem in0_3 (c : Dev nD) (t : Fin cfg0.N) : iblk0 V c 3 t = V c main_v45 := by
  obtain ⟨-, -, -, h, -⟩ := idx0 t
  have h0 := h 0
  have h1 := h 1
  funext j
  blk_ext [iblk0, h0, h1]

/-- The region's output array: the first stage at every pixel. -/
theorem arr0 (c : Dev nD) : (dat0 V c).arrAt 4 cfg0.N = fun j : S224x224x96.Idx =>
    firstStage (chLast (V c main_v28)) (V c main_v27) (V c main_v31) (V c main_v45) (j 0) (j 1) (j 2) := by
  refine (dat0 V c).arrAt_eq_of_covers 4 _ (by decide +kernel) fun t hf y => ?_
  obtain ⟨-, -, -, -, h0, h1, h2⟩ := idx0 t
  rw [after0_4, block0, in0_0, in0_2, in0_3]
  blk_simp
  idx_vars y
  have e0 : ((((cfg0.win 4).blk t).view.emb (ix3 y0 y1 y2) : S224x224x96.Idx) 0).val = 32 * t.val + y0.val := by
    blk_simp [h0]; omega
  have e1 : (((cfg0.win 4).blk t).view.emb (ix3 y0 y1 y2) : S224x224x96.Idx) 1 = y1 := by
    apply Fin.ext; blk_simp [h1]
  have e2 : (((cfg0.win 4).blk t).view.emb (ix3 y0 y1 y2) : S224x224x96.Idx) 2 = y2 := by
    apply Fin.ext; blk_simp [h2]
  refine Eq.trans ?_ (congrArg₂ (firstStage (chLast (V c main_v28)) (V c main_v27) (V c main_v31) (V c main_v45) _) e1.symm e2.symm)
  refine (firstBlock_apply _ _ _ _ _ _ _ _).trans ?_
  unfold firstStage
  rw [in0_1 V c t y0 y1 _ e0]
  have e : ∀ dh, 32 * t.val + (dh + y0.val) = dh + ((((cfg0.win 4).blk t).view.emb (ix3 y0 y1 y2) : S224x224x96.Idx) 0).val := by
    intro dh; omega
  simp only [e]

end Cert.KernelIdeal.Val
-- ==== Proof.Pads.lean ====
module

public import proofs.«01_k».proof.Proof.Slab

@[expose] public section

set_option maxRecDepth 100000

noncomputable section

namespace Cert.KernelIdeal.Val

open Idealize.ShloMosaic Idealize.ShloMosaic.TcCoe Idealize.SL.Sem
open Cert.KernelIdeal Cert.KernelIdeal.Gen

/-- A middle block's three stores write the slab. -/
theorem canonB (X : Vec Ideal S224x224x96 .bf16) (b o : ℕ) (ho : o + 1 = 32 * b) (hb : b ≤ 5) (off : Fin 3 → ℕ)
    (hoff : off = ![o, 0, 0]) (h : ∀ a, off a + S34x224x96.size a ≤ S224x224x96.size a)
    (h0 : ∀ a, (![0, 0, 0, 0] : Fin 4 → ℕ) a + (![1, 34, 224, 96] : Fin 4 → ℕ) a ≤ S3x34x224x96.size a)
    (h1 : ∀ a, (![1, 0, 0, 0] : Fin 4 → ℕ) a + (![1, 34, 224, 96] : Fin 4 → ℕ) a ≤ S3x34x224x96.size a)
    (h2 : ∀ a, (![2, 0, 0, 0] : Fin 4 → ℕ) a + (![1, 34, 224, 96] : Fin 4 → ℕ) a ≤ S3x34x224x96.size a) :
    View.canon (Val := Elt Ideal) (s := S3x34x224x96) (e := .bf16)
      [⟨Rect.unit ![2, 0, 0, 0] ![1, 34, 224, 96] h2, k1_pay20 (View.ld X (Rect.unit (s := S224x224x96) off S34x224x96.size h))⟩,
       ⟨Rect.unit ![1, 0, 0, 0] ![1, 34, 224, 96] h1, k1_pay19 (View.ld X (Rect.unit (s := S224x224x96) off S34x224x96.size h))⟩,
       ⟨Rect.unit ![0, 0, 0, 0] ![1, 34, 224, 96] h0, k1_pay18 (View.ld X (Rect.unit (s := S224x224x96) off S34x224x96.size h))⟩] = slabV X b := by
  subst hoff
  refine canon_three X b h0 h1 h2 _ _ _ ?_ ?_ ?_ <;> intro x1 x2 x3
  · pointwise [k1_pay18, k1_pay17]
    split
    · exact (padAt_out X _ _ _ (by omega)).symm
    · exact (padAt_in X _ _ _ _ _ (by show _ = (o + x1.val) + 1; omega) (by show _ = (x2.val - 1) + 1; omega)).symm
  · pointwise [k1_pay19, k1_pay17]
    exact (padAt_in X _ _ _ _ _ (by show _ = (o + x1.val) + 1; omega) (by rfl)).symm
  · pointwise [k1_pay20, k1_pay17]
    split
    · exact (padAt_in X _ _ _ _ _ (by show _ = (o + x1.val) + 1; omega) (by show _ = (1 + x2.val) + 1; omega)).symm
    · exact (padAt_out X _ _ _ (by omega)).symm

/-- The first block's six stores write the slab. -/
theorem canonA (X : Vec Ideal S224x224x96 .bf16)
    (h : ∀ a, (![0, 0, 0] : Fin 3 → ℕ) a + (![33, 224, 96] : Fin 3 → ℕ) a ≤ S224x224x96.size a)
    (h0 : ∀ a, (![0, 1, 0, 0] : Fin 4 → ℕ) a + (![1, 33, 224, 96] : Fin 4 → ℕ) a ≤ S3x34x224x96.size a)
    (g0 : ∀ a, (![0, 0, 0, 0] : Fin 4 → ℕ) a + (![1, 1, 224, 96] : Fin 4 → ℕ) a ≤ S3x34x224x96.size a)
    (h1 : ∀ a, (![1, 1, 0, 0] : Fin 4 → ℕ) a + (![1, 33, 224, 96] : Fin 4 → ℕ) a ≤ S3x34x224x96.size a)
    (g1 : ∀ a, (![1, 0, 0, 0] : Fin 4 → ℕ) a + (![1, 1, 224, 96] : Fin 4 → ℕ) a ≤ S3x34x224x96.size a)
    (h2 : ∀ a, (![2, 1, 0, 0] : Fin 4 → ℕ) a + (![1, 33, 224, 96] : Fin 4 → ℕ) a ≤ S3x34x224x96.size a)
    (g2 : ∀ a, (![2, 0, 0, 0] : Fin 4 → ℕ) a + (![1, 1, 224, 96] : Fin 4 → ℕ) a ≤ S3x34x224x96.size a) :
    View.canon (Val := Elt Ideal) (s := S3x34x224x96) (e := .bf16)
      [⟨Rect.unit ![2, 1, 0, 0] ![1, 33, 224, 96] h2, k1_pay8 (View.ld X (Rect.unit (s := S224x224x96) ![0, 0, 0] ![33, 224, 96] h))⟩,
       ⟨Rect.unit ![2, 0, 0, 0] ![1, 1, 224, 96] g2, k1_pay7 (F := Ideal) k1_pay16⟩,
       ⟨Rect.unit ![1, 1, 0, 0] ![1, 33, 224, 96] h1, k1_pay6 (View.ld X (Rect.unit (s := S224x224x96) ![0, 0, 0] ![33, 224, 96] h))⟩,
       ⟨Rect.unit ![1, 0, 0, 0] ![1, 1, 224, 96] g1, k1_pay5 (F := Ideal) k1_pay16⟩,
       ⟨Rect.unit ![0, 1, 0, 0] ![1, 33, 224, 96] h0, k1_pay4 (View.ld X (Rect.unit (s := S224x224x96) ![0, 0, 0] ![33, 224, 96] h))⟩,
       ⟨Rect.unit ![0, 0, 0, 0] ![1, 1, 224, 96] g0, k1_pay3 (F := Ideal) k1_pay16⟩] = slabV X 0 := by
  refine canon_six X 0 1 0 (by omega) h0 h1 h2 g0 g1 g2 (k1_pay4 (View.ld X (Rect.unit (s := S224x224x96) ![0, 0, 0] ![33, 224, 96] h))) (k1_pay6 (View.ld X (Rect.unit (s := S224x224x96) ![0, 0, 0] ![33, 224, 96] h))) (k1_pay8 (View.ld X (Rect.unit (s := S224x224x96) ![0, 0, 0] ![33, 224, 96] h)))
    (k1_pay3 (F := Ideal) k1_pay16) (k1_pay5 (F := Ideal) k1_pay16) (k1_pay7 (F := Ideal) k1_pay16) ?_ ?_ ?_ ?_ ?_ ?_ _ ?hL
  case hL =>
    intro p
    simp only [List.mem_cons, List.not_mem_nil, or_false]
    tauto
  all_goals intro x1 x2 x3
  · pointwise [k1_pay4, k1_pay2]
    split
    · exact (padAt_out X _ _ _ (by omega)).symm
    · exact (padAt_in X _ _ _ _ _ (by show _ = x1.val + 1; omega) (by show _ = (x2.val - 1) + 1; omega)).symm
  · pointwise [k1_pay6, k1_pay2]
    exact (padAt_in X _ _ _ _ _ (by show _ = x1.val + 1; omega) (by rfl)).symm
  · pointwise [k1_pay8, k1_pay2]
    split
    · exact (padAt_in X _ _ _ _ _ (by show _ = x1.val + 1; omega) (by show _ = (1 + x2.val) + 1; omega)).symm
    · exact (padAt_out X _ _ _ (by omega)).symm
  · pointwise [k1_pay3, k1_pay16]
    exact (padAt_out X _ _ _ (by omega)).symm
  · pointwise [k1_pay5, k1_pay16]
    exact (padAt_out X _ _ _ (by omega)).symm
  · pointwise [k1_pay7, k1_pay16]
    exact (padAt_out X _ _ _ (by omega)).symm

/-- The last block's six stores write the slab. -/
theorem canonC (X : Vec Ideal S224x224x96 .bf16)
    (h : ∀ a, (![191, 0, 0] : Fin 3 → ℕ) a + (![33, 224, 96] : Fin 3 → ℕ) a ≤ S224x224x96.size a)
    (h0 : ∀ a, (![0, 0, 0, 0] : Fin 4 → ℕ) a + (![1, 33, 224, 96] : Fin 4 → ℕ) a ≤ S3x34x224x96.size a)
    (g0 : ∀ a, (![0, 33, 0, 0] : Fin 4 → ℕ) a + (![1, 1, 224, 96] : Fin 4 → ℕ) a ≤ S3x34x224x96.size a)
    (h1 : ∀ a, (![1, 0, 0, 0] : Fin 4 → ℕ) a + (![1, 33, 224, 96] : Fin 4 → ℕ) a ≤ S3x34x224x96.size a)
    (g1 : ∀ a, (![1, 33, 0, 0] : Fin 4 → ℕ) a + (![1, 1, 224, 96] : Fin 4 → ℕ) a ≤ S3x34x224x96.size a)
    (h2 : ∀ a, (![2, 0, 0, 0] : Fin 4 → ℕ) a + (![1, 33, 224, 96] : Fin 4 → ℕ) a ≤ S3x34x224x96.size a)
    (g2 : ∀ a, (![2, 33, 0, 0] : Fin 4 → ℕ) a + (![1, 1, 224, 96] : Fin 4 → ℕ) a ≤ S3x34x224x96.size a) :
    View.canon (Val := Elt Ideal) (s := S3x34x224x96) (e := .bf16)
      [⟨Rect.unit ![2, 33, 0, 0] ![1, 1, 224, 96] g2, k1_pay15 (F := Ideal) k1_pay16⟩,
       ⟨Rect.unit ![2, 0, 0, 0] ![1, 33, 224, 96] h2, k1_pay14 (View.ld X (Rect.unit (s := S224x224x96) ![191, 0, 0] ![33, 224, 96] h))⟩,
       ⟨Rect.unit ![1, 33, 0, 0] ![1, 1, 224, 96] g1, k1_pay13 (F := Ideal) k1_pay16⟩,
       ⟨Rect.unit ![1, 0, 0, 0] ![1, 33, 224, 96] h1, k1_pay12 (View.ld X (Rect.unit (s := S224x224x96) ![191, 0, 0] ![33, 224, 96] h))⟩,
       ⟨Rect.unit ![0, 33, 0, 0] ![1, 1, 224, 96] g0, k1_pay11 (F := Ideal) k1_pay16⟩,
       ⟨Rect.unit ![0, 0, 0, 0] ![1, 33, 224, 96] h0, k1_pay10 (View.ld X (Rect.unit (s := S224x224x96) ![191, 0, 0] ![33, 224, 96] h))⟩] = slabV X 6 := by
  refine canon_six X 6 0 33 (by omega) h0 h1 h2 g0 g1 g2 (k1_pay10 (View.ld X (Rect.unit (s := S224x224x96) ![191, 0, 0] ![33, 224, 96] h))) (k1_pay12 (View.ld X (Rect.unit (s := S224x224x96) ![191, 0, 0] ![33, 224, 96] h))) (k1_pay14 (View.ld X (Rect.unit (s := S224x224x96) ![191, 0, 0] ![33, 224, 96] h)))
    (k1_pay11 (F := Ideal) k1_pay16) (k1_pay13 (F := Ideal) k1_pay16) (k1_pay15 (F := Ideal) k1_pay16) ?_ ?_ ?_ ?_ ?_ ?_ _ ?hL
  case hL =>
    intro p
    simp only [List.mem_cons, List.not_mem_nil, or_false]
    tauto
  all_goals intro x1 x2 x3
  · pointwise [k1_pay10, k1_pay9]
    split
    · exact (padAt_out X _ _ _ (by omega)).symm
    · exact (padAt_in X _ _ _ _ _ (by show _ = (191 + x1.val) + 1; omega) (by show _ = (x2.val - 1) + 1; omega)).symm
  · pointwise [k1_pay12, k1_pay9]
    exact (padAt_in X _ _ _ _ _ (by show _ = (191 + x1.val) + 1; omega) (by rfl)).symm
  · pointwise [k1_pay14, k1_pay9]
    split
    · exact (padAt_in X _ _ _ _ _ (by show _ = (191 + x1.val) + 1; omega) (by show _ = (1 + x2.val) + 1; omega)).symm
    · exact (padAt_out X _ _ _ (by omega)).symm
  · pointwise [k1_pay11, k1_pay16]
    exact (padAt_out X _ _ _ (by omega)).symm
  · pointwise [k1_pay13, k1_pay16]
    exact (padAt_out X _ _ _ (by omega)).symm
  · pointwise [k1_pay15, k1_pay16]
    exact (padAt_out X _ _ _ (by omega)).symm

end Cert.KernelIdeal.Val
-- ==== Proof.R1.lean ====
module

public import proofs.«01_k».proof.Proof.Gen.KernelIdeal.Frame.Region1
public import proofs.«01_k».proof.Proof.Pads
public import proofs.«01_k».proof.Proof.Mid

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- A middle block's load begins one row above the block. -/
theorem off1 : ∀ t : Fin grid1.N, (1 ≤ t.val % 7 ∧ t.val % 7 ≤ 5) →
    (Scalar.indexCast (Scalar.subi (Scalar.muli (BitVec.ofNat 32 (grid1.coords t 0).val) 32#32) 1#32)).toNat + 1 = 32 * t.val ∧ t.val ≤ 5 := by
  decide +kernel

/-- There are seven blocks. -/
theorem lt1 : ∀ t : Fin grid1.N, t.val < 7 := by decide +kernel

/-- What the first block stores. -/
theorem block1_A (c : Dev nD) (t : Fin cfg1.N) (h0 : t.val % 7 = 0) (h1 : ¬t.val % 7 = 6) (h2 : ¬(1 ≤ t.val % 7 ∧ t.val % 7 ≤ 5)) :
    outsAt1 V c t.val t.isLt = midBlock (slabV (iblk1 V c 0 t) t.val) (iblk1 V c 1 t) (iblk1 V c 2 t) (iblk1 V c 3 t) := by
  rw [outsAt1_A V c t h0 h1 h2]
  unfold out1_A_4
  rw [View.read_writes_eq_canon _ _ _ (cover1_A_4 c _ _ _ _ _ _ _ _ _ _ _ _ _ _ _ _ _ _ _ _)]
  unfold kernelRun1_A
  dsimp only
  sl_unfold_run_names
  simp only [View.readAt_eq_ld, (hs1_0 t).read_unread, (hs1_1 t).read_unread, (hs1_2 t).read_unread, (hs1_3 t).read_unread,
    View.readCov_eq_canon']
  rw [canonA (iblk1 V c 0 t), View.canon_unit_zero (by decide)]
  have h : t.val = 0 := by have := lt1 t; omega
  rw [h]
  rfl

/-- What a middle block stores. -/
theorem block1_B (c : Dev nD) (t : Fin cfg1.N) (h0 : ¬t.val % 7 = 0) (h1 : ¬t.val % 7 = 6) (h2 : (1 ≤ t.val % 7 ∧ t.val % 7 ≤ 5)) :
    outsAt1 V c t.val t.isLt = midBlock (slabV (iblk1 V c 0 t) t.val) (iblk1 V c 1 t) (iblk1 V c 2 t) (iblk1 V c 3 t) := by
  rw [outsAt1_B V c t h0 h1 h2]
  unfold out1_B_4
  rw [View.read_writes_eq_canon _ _ _ (cover1_B_4 c _ _ _ _ _ _ _ _ _ _ _ _ _ _ _ _ _ _ _ _)]
  unfold kernelRun1_B
  dsimp only
  sl_unfold_run_names
  simp only [View.readAt_eq_ld, (hs1_0 t).read_unread, (hs1_1 t).read_unread, (hs1_2 t).read_unread, (hs1_3 t).read_unread,
    View.readCov_eq_canon']
  rw [canonB (iblk1 V c 0 t) t.val _ (off1 t h2).1 (off1 t h2).2 (k1_off1 (grid1.coords t)) rfl, View.canon_unit_zero (by decide)]
  rfl

/-- What the last block stores. -/
theorem block1_C (c : Dev nD) (t : Fin cfg1.N) (h0 : ¬t.val % 7 = 0) (h1 : t.val % 7 = 6) (h2 : ¬(1 ≤ t.val % 7 ∧ t.val % 7 ≤ 5)) :
    outsAt1 V c t.val t.isLt = midBlock (slabV (iblk1 V c 0 t) t.val) (iblk1 V c 1 t) (iblk1 V c 2 t) (iblk1 V c 3 t) := by
  rw [outsAt1_C V c t h0 h1 h2]
  unfold out1_C_4
  rw [View.read_writes_eq_canon _ _ _ (cover1_C_4 c _ _ _ _ _ _ _ _ _ _ _ _ _ _ _ _ _ _ _ _)]
  unfold kernelRun1_C
  dsimp only
  sl_unfold_run_names
  simp only [View.readAt_eq_ld, (hs1_0 t).read_unread, (hs1_1 t).read_unread, (hs1_2 t).read_unread, (hs1_3 t).read_unread,
    View.readCov_eq_canon']
  rw [canonC (iblk1 V c 0 t), View.canon_unit_zero (by decide)]
  have h : t.val = 6 := by have := lt1 t; omega
  rw [h]
  rfl

/-- What every block stores: the middle stage of its rows. -/
theorem block1 (c : Dev nD) (t : Fin cfg1.N) :
    outsAt1 V c t.val t.isLt = midBlock (slabV (iblk1 V c 0 t) t.val) (iblk1 V c 1 t) (iblk1 V c 2 t) (iblk1 V c 3 t) := by
  have := lt1 t
  by_cases h0 : t.val % 7 = 0
  · exact block1_A V c t h0 (by omega) (by omega)
  · by_cases h1 : t.val % 7 = 6
    · exact block1_C V c t h0 h1 (by omega)
    · exact block1_B V c t h0 h1 (by omega)

end Cert.KernelIdeal.Val
-- ==== Proof.Arr1.lean ====
module

public import proofs.«01_k».proof.Proof.R1
public import proofs.«01_k».proof.Proof.Stage
public import Idealize.ShloMosaic.Lib.Pipeline.ValueKit

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- Where each window's block begins. -/
theorem idx1 : ∀ t : Fin cfg1.N, (∀ a, win1_0.index t a = 0)
    ∧ (win1_1.index t (0 : Fin 2) = t.val ∧ win1_1.index t (1 : Fin 2) = 0)
    ∧ (∀ a, win1_2.index t a = 0)
    ∧ (∀ a, win1_3.index t a = 0)
    ∧ (win1_4.index t (0 : Fin 3) = t.val ∧ win1_4.index t (1 : Fin 3) = 0 ∧ win1_4.index t (2 : Fin 3) = 0) :=
  (by decide +kernel : ∀ t : Fin grid1.N, _)

/-- Window 0 is the whole of its array. -/
theorem in1_0 (c : Dev nD) (t : Fin cfg1.N) : iblk1 V c 0 t = V c main_v46 := by
  obtain ⟨h, -⟩ := idx1 t
  have h0 := h 0
  have h1 := h 1
  have h2 := h 2
  funext j
  blk_ext [iblk1, h0, h1, h2]

/-- Window 1 is 32 rows of its array. -/
theorem in1_1 (c : Dev nD) (t : Fin cfg1.N) (i : Fin 32) (w r : Fin 224) (hr : r.val = 32 * t.val + i.val) :
    iblk1 V c 1 t (ix2 i w) = V c main_v27 (ix2 r w) := by
  obtain ⟨-, ⟨h0, h1⟩, -⟩ := idx1 t
  blk_ext [iblk1, h0, h1, hr]

/-- Window 2 is the whole of its array. -/
theorem in1_2 (c : Dev nD) (t : Fin cfg1.N) : iblk1 V c 2 t = V c main_v100 := by
  obtain ⟨-, -, h, -⟩ := idx1 t
  have h0 := h 0
  have h1 := h 1
  have h2 := h 2
  funext j
  blk_ext [iblk1, h0, h1, h2]

/-- Window 3 is the whole of its array. -/
theorem in1_3 (c : Dev nD) (t : Fin cfg1.N) : iblk1 V c 3 t = V c main_v102 := by
  obtain ⟨-, -, -, h, -⟩ := idx1 t
  have h0 := h 0
  have h1 := h 1
  funext j
  blk_ext [iblk1, h0, h1]

/-- The region's output array: the middle stage at every pixel. -/
theorem arr1 (c : Dev nD) : (dat1 V c).arrAt 4 cfg1.N = fun j : S224x224x96.Idx =>
    midStage (V c main_v46) (V c main_v27) (V c main_v100) (V c main_v102) (j 0) (j 1) (j 2) := by
  refine (dat1 V c).arrAt_eq_of_covers 4 _ (by decide +kernel) fun t hf y => ?_
  obtain ⟨-, -, -, -, h0, h1, h2⟩ := idx1 t
  rw [after1_4, block1, in1_0, in1_2, in1_3]
  blk_simp
  idx_vars y
  have e0 : ((((cfg1.win 4).blk t).view.emb (ix3 y0 y1 y2) : S224x224x96.Idx) 0).val = 32 * t.val + y0.val := by
    blk_simp [h0]; omega
  have e1 : (((cfg1.win 4).blk t).view.emb (ix3 y0 y1 y2) : S224x224x96.Idx) 1 = y1 := by
    apply Fin.ext; blk_simp [h1]
  have e2 : (((cfg1.win 4).blk t).view.emb (ix3 y0 y1 y2) : S224x224x96.Idx) 2 = y2 := by
    apply Fin.ext; blk_simp [h2]
  refine Eq.trans ?_ (congrArg₂ (midStage (V c main_v46) (V c main_v27) (V c main_v100) (V c main_v102) _) e1.symm e2.symm)
  refine (midBlock_apply _ _ _ _ _ _ _ _).trans ?_
  unfold midStage
  rw [in1_1 V c t y0 y1 _ e0]
  have e : ∀ dh, 32 * t.val + (dh + y0.val) = dh + ((((cfg1.win 4).blk t).view.emb (ix3 y0 y1 y2) : S224x224x96.Idx) 0).val := by
    intro dh; omega
  simp only [e]

end Cert.KernelIdeal.Val
-- ==== Proof.R2.lean ====
module

public import proofs.«01_k».proof.Proof.Gen.KernelIdeal.Frame.Region2
public import proofs.«01_k».proof.Proof.Pads
public import proofs.«01_k».proof.Proof.Mid

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- This stage's operations are the first middle stage's. -/
theorem same2 : k2_pay1 (F := Ideal) = k1_pay1 (F := Ideal) ∧
    k2_pay3 (F := Ideal) = k1_pay3 (F := Ideal) ∧
    k2_pay4 (F := Ideal) = k1_pay4 (F := Ideal) ∧
    k2_pay5 (F := Ideal) = k1_pay5 (F := Ideal) ∧
    k2_pay6 (F := Ideal) = k1_pay6 (F := Ideal) ∧
    k2_pay7 (F := Ideal) = k1_pay7 (F := Ideal) ∧
    k2_pay8 (F := Ideal) = k1_pay8 (F := Ideal) ∧
    k2_pay10 (F := Ideal) = k1_pay10 (F := Ideal) ∧
    k2_pay11 (F := Ideal) = k1_pay11 (F := Ideal) ∧
    k2_pay12 (F := Ideal) = k1_pay12 (F := Ideal) ∧
    k2_pay13 (F := Ideal) = k1_pay13 (F := Ideal) ∧
    k2_pay14 (F := Ideal) = k1_pay14 (F := Ideal) ∧
    k2_pay15 (F := Ideal) = k1_pay15 (F := Ideal) ∧
    k2_pay16 (F := Ideal) = k1_pay16 (F := Ideal) ∧
    k2_pay18 (F := Ideal) = k1_pay18 (F := Ideal) ∧
    k2_pay19 (F := Ideal) = k1_pay19 (F := Ideal) ∧
    k2_pay20 (F := Ideal) = k1_pay20 (F := Ideal) ∧
    k2_pay21 (F := Ideal) = k1_pay21 (F := Ideal) ∧
    k2_pay22 (F := Ideal) = k1_pay22 (F := Ideal) ∧
    k2_pay23 (F := Ideal) = k1_pay23 (F := Ideal) ∧
    k2_pay24 (F := Ideal) = k1_pay24 (F := Ideal) ∧
    k2_pay25 (F := Ideal) = k1_pay25 (F := Ideal) ∧
    k2_pay26 (F := Ideal) = k1_pay26 (F := Ideal) := by
  refine ⟨rfl, rfl, rfl, rfl, rfl, rfl, rfl, rfl, rfl, rfl, rfl, rfl, rfl, rfl, rfl, rfl, rfl, rfl, rfl, rfl, rfl, rfl, rfl⟩

/-- A middle block's load begins one row above the block. -/
theorem off2 : ∀ t : Fin grid2.N, (1 ≤ t.val % 7 ∧ t.val % 7 ≤ 5) →
    (Scalar.indexCast (Scalar.subi (Scalar.muli (BitVec.ofNat 32 (grid2.coords t 0).val) 32#32) 1#32)).toNat + 1 = 32 * t.val ∧ t.val ≤ 5 := by
  decide +kernel

/-- There are seven blocks. -/
theorem lt2 : ∀ t : Fin grid2.N, t.val < 7 := by decide +kernel

/-- What the first block stores. -/
theorem block2_A (c : Dev nD) (t : Fin cfg2.N) (h0 : t.val % 7 = 0) (h1 : ¬t.val % 7 = 6) (h2 : ¬(1 ≤ t.val % 7 ∧ t.val % 7 ≤ 5)) :
    outsAt2 V c t.val t.isLt = midBlock (slabV (iblk2 V c 0 t) t.val) (iblk2 V c 1 t) (iblk2 V c 2 t) (iblk2 V c 3 t) := by
  rw [outsAt2_A V c t h0 h1 h2]
  unfold out2_A_4
  rw [View.read_writes_eq_canon _ _ _ (cover2_A_4 c _ _ _ _ _ _ _ _ _ _ _ _ _ _ _ _ _ _ _ _)]
  unfold kernelRun2_A
  dsimp only
  sl_unfold_run_names
  simp only [View.readAt_eq_ld, (hs2_0 t).read_unread, (hs2_1 t).read_unread, (hs2_2 t).read_unread, (hs2_3 t).read_unread,
    View.readCov_eq_canon', same2]
  rw [canonA (iblk2 V c 0 t), View.canon_unit_zero (by decide)]
  have h : t.val = 0 := by have := lt2 t; omega
  rw [h]
  rfl

/-- What a middle block stores. -/
theorem block2_B (c : Dev nD) (t : Fin cfg2.N) (h0 : ¬t.val % 7 = 0) (h1 : ¬t.val % 7 = 6) (h2 : (1 ≤ t.val % 7 ∧ t.val % 7 ≤ 5)) :
    outsAt2 V c t.val t.isLt = midBlock (slabV (iblk2 V c 0 t) t.val) (iblk2 V c 1 t) (iblk2 V c 2 t) (iblk2 V c 3 t) := by
  rw [outsAt2_B V c t h0 h1 h2]
  unfold out2_B_4
  rw [View.read_writes_eq_canon _ _ _ (cover2_B_4 c _ _ _ _ _ _ _ _ _ _ _ _ _ _ _ _ _ _ _ _)]
  unfold kernelRun2_B
  dsimp only
  sl_unfold_run_names
  simp only [View.readAt_eq_ld, (hs2_0 t).read_unread, (hs2_1 t).read_unread, (hs2_2 t).read_unread, (hs2_3 t).read_unread,
    View.readCov_eq_canon', same2]
  rw [canonB (iblk2 V c 0 t) t.val _ (off2 t h2).1 (off2 t h2).2 (k2_off1 (grid2.coords t)) rfl, View.canon_unit_zero (by decide)]
  rfl

/-- What the last block stores. -/
theorem block2_C (c : Dev nD) (t : Fin cfg2.N) (h0 : ¬t.val % 7 = 0) (h1 : t.val % 7 = 6) (h2 : ¬(1 ≤ t.val % 7 ∧ t.val % 7 ≤ 5)) :
    outsAt2 V c t.val t.isLt = midBlock (slabV (iblk2 V c 0 t) t.val) (iblk2 V c 1 t) (iblk2 V c 2 t) (iblk2 V c 3 t) := by
  rw [outsAt2_C V c t h0 h1 h2]
  unfold out2_C_4
  rw [View.read_writes_eq_canon _ _ _ (cover2_C_4 c _ _ _ _ _ _ _ _ _ _ _ _ _ _ _ _ _ _ _ _)]
  unfold kernelRun2_C
  dsimp only
  sl_unfold_run_names
  simp only [View.readAt_eq_ld, (hs2_0 t).read_unread, (hs2_1 t).read_unread, (hs2_2 t).read_unread, (hs2_3 t).read_unread,
    View.readCov_eq_canon', same2]
  rw [canonC (iblk2 V c 0 t), View.canon_unit_zero (by decide)]
  have h : t.val = 6 := by have := lt2 t; omega
  rw [h]
  rfl

/-- What every block stores: the middle stage of its rows. -/
theorem block2 (c : Dev nD) (t : Fin cfg2.N) :
    outsAt2 V c t.val t.isLt = midBlock (slabV (iblk2 V c 0 t) t.val) (iblk2 V c 1 t) (iblk2 V c 2 t) (iblk2 V c 3 t) := by
  have := lt2 t
  by_cases h0 : t.val % 7 = 0
  · exact block2_A V c t h0 (by omega) (by omega)
  · by_cases h1 : t.val % 7 = 6
    · exact block2_C V c t h0 h1 (by omega)
    · exact block2_B V c t h0 h1 (by omega)

end Cert.KernelIdeal.Val
-- ==== Proof.Arr2.lean ====
module

public import proofs.«01_k».proof.Proof.R2
public import proofs.«01_k».proof.Proof.Stage
public import Idealize.ShloMosaic.Lib.Pipeline.ValueKit

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- Where each window's block begins. -/
theorem idx2 : ∀ t : Fin cfg2.N, (∀ a, win2_0.index t a = 0)
    ∧ (win2_1.index t (0 : Fin 2) = t.val ∧ win2_1.index t (1 : Fin 2) = 0)
    ∧ (∀ a, win2_2.index t a = 0)
    ∧ (∀ a, win2_3.index t a = 0)
    ∧ (win2_4.index t (0 : Fin 3) = t.val ∧ win2_4.index t (1 : Fin 3) = 0 ∧ win2_4.index t (2 : Fin 3) = 0) :=
  (by decide +kernel : ∀ t : Fin grid2.N, _)

/-- Window 0 is the whole of its array. -/
theorem in2_0 (c : Dev nD) (t : Fin cfg2.N) : iblk2 V c 0 t = V c main_v103 := by
  obtain ⟨h, -⟩ := idx2 t
  have h0 := h 0
  have h1 := h 1
  have h2 := h 2
  funext j
  blk_ext [iblk2, h0, h1, h2]

/-- Window 1 is 32 rows of its array. -/
theorem in2_1 (c : Dev nD) (t : Fin cfg2.N) (i : Fin 32) (w r : Fin 224) (hr : r.val = 32 * t.val + i.val) :
    iblk2 V c 1 t (ix2 i w) = V c main_v27 (ix2 r w) := by
  obtain ⟨-, ⟨h0, h1⟩, -⟩ := idx2 t
  blk_ext [iblk2, h0, h1, hr]

/-- Window 2 is the whole of its array. -/
theorem in2_2 (c : Dev nD) (t : Fin cfg2.N) : iblk2 V c 2 t = V c main_v105 := by
  obtain ⟨-, -, h, -⟩ := idx2 t
  have h0 := h 0
  have h1 := h 1
  have h2 := h 2
  funext j
  blk_ext [iblk2, h0, h1, h2]

/-- Window 3 is the whole of its array. -/
theorem in2_3 (c : Dev nD) (t : Fin cfg2.N) : iblk2 V c 3 t = V c main_v107 := by
  obtain ⟨-, -, -, h, -⟩ := idx2 t
  have h0 := h 0
  have h1 := h 1
  funext j
  blk_ext [iblk2, h0, h1]

/-- The region's output array: the middle stage at every pixel. -/
theorem arr2 (c : Dev nD) : (dat2 V c).arrAt 4 cfg2.N = fun j : S224x224x96.Idx =>
    midStage (V c main_v103) (V c main_v27) (V c main_v105) (V c main_v107) (j 0) (j 1) (j 2) := by
  refine (dat2 V c).arrAt_eq_of_covers 4 _ (by decide +kernel) fun t hf y => ?_
  obtain ⟨-, -, -, -, h0, h1, h2⟩ := idx2 t
  rw [after2_4, block2, in2_0, in2_2, in2_3]
  blk_simp
  idx_vars y
  have e0 : ((((cfg2.win 4).blk t).view.emb (ix3 y0 y1 y2) : S224x224x96.Idx) 0).val = 32 * t.val + y0.val := by
    blk_simp [h0]; omega
  have e1 : (((cfg2.win 4).blk t).view.emb (ix3 y0 y1 y2) : S224x224x96.Idx) 1 = y1 := by
    apply Fin.ext; blk_simp [h1]
  have e2 : (((cfg2.win 4).blk t).view.emb (ix3 y0 y1 y2) : S224x224x96.Idx) 2 = y2 := by
    apply Fin.ext; blk_simp [h2]
  refine Eq.trans ?_ (congrArg₂ (midStage (V c main_v103) (V c main_v27) (V c main_v105) (V c main_v107) _) e1.symm e2.symm)
  refine (midBlock_apply _ _ _ _ _ _ _ _).trans ?_
  unfold midStage
  rw [in2_1 V c t y0 y1 _ e0]
  have e : ∀ dh, 32 * t.val + (dh + y0.val) = dh + ((((cfg2.win 4).blk t).view.emb (ix3 y0 y1 y2) : S224x224x96.Idx) 0).val := by
    intro dh; omega
  simp only [e]

end Cert.KernelIdeal.Val
-- ==== Proof.R3.lean ====
module

public import proofs.«01_k».proof.Proof.Gen.KernelIdeal.Frame.Region3
public import proofs.«01_k».proof.Proof.Pads
public import proofs.«01_k».proof.Proof.Last

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- This stage's operations are the first middle stage's. -/
theorem same3 : k3_pay27 (F := Ideal) = k1_pay1 (F := Ideal) ∧
    k3_pay3 (F := Ideal) = k1_pay3 (F := Ideal) ∧
    k3_pay4 (F := Ideal) = k1_pay4 (F := Ideal) ∧
    k3_pay5 (F := Ideal) = k1_pay5 (F := Ideal) ∧
    k3_pay6 (F := Ideal) = k1_pay6 (F := Ideal) ∧
    k3_pay7 (F := Ideal) = k1_pay7 (F := Ideal) ∧
    k3_pay8 (F := Ideal) = k1_pay8 (F := Ideal) ∧
    k3_pay10 (F := Ideal) = k1_pay10 (F := Ideal) ∧
    k3_pay11 (F := Ideal) = k1_pay11 (F := Ideal) ∧
    k3_pay12 (F := Ideal) = k1_pay12 (F := Ideal) ∧
    k3_pay13 (F := Ideal) = k1_pay13 (F := Ideal) ∧
    k3_pay14 (F := Ideal) = k1_pay14 (F := Ideal) ∧
    k3_pay15 (F := Ideal) = k1_pay15 (F := Ideal) ∧
    k3_pay16 (F := Ideal) = k1_pay16 (F := Ideal) ∧
    k3_pay18 (F := Ideal) = k1_pay18 (F := Ideal) ∧
    k3_pay19 (F := Ideal) = k1_pay19 (F := Ideal) ∧
    k3_pay20 (F := Ideal) = k1_pay20 (F := Ideal) ∧
    k3_pay21 (F := Ideal) = k1_pay21 (F := Ideal) ∧
    k3_pay22 (F := Ideal) = k1_pay22 (F := Ideal) ∧
    k3_pay23 (F := Ideal) = k1_pay23 (F := Ideal) ∧
    k3_pay24 (F := Ideal) = k1_pay24 (F := Ideal) ∧
    k3_pay25 (F := Ideal) = k1_pay25 (F := Ideal) ∧
    k3_pay26 (F := Ideal) = k1_pay26 (F := Ideal) := by
  refine ⟨rfl, rfl, rfl, rfl, rfl, rfl, rfl, rfl, rfl, rfl, rfl, rfl, rfl, rfl, rfl, rfl, rfl, rfl, rfl, rfl, rfl, rfl, rfl⟩

/-- A middle block's load begins one row above the block. -/
theorem off3 : ∀ t : Fin grid3.N, (1 ≤ t.val % 7 ∧ t.val % 7 ≤ 5) →
    (Scalar.indexCast (Scalar.subi (Scalar.muli (BitVec.ofNat 32 (grid3.coords t 0).val) 32#32) 1#32)).toNat + 1 = 32 * t.val ∧ t.val ≤ 5 := by
  decide +kernel

/-- There are seven blocks. -/
theorem lt3 : ∀ t : Fin grid3.N, t.val < 7 := by decide +kernel

/-- What the first block stores. -/
theorem block3_A (c : Dev nD) (t : Fin cfg3.N) (h0 : t.val % 7 = 0) (h1 : ¬t.val % 7 = 6) (h2 : ¬(1 ≤ t.val % 7 ∧ t.val % 7 ≤ 5)) :
    outsAt3 V c t.val t.isLt = lastBlock (midBlock (slabV (iblk3 V c 0 t) t.val) (iblk3 V c 1 t) (iblk3 V c 2 t) (iblk3 V c 3 t))
      (iblk3 V c 4 t) (iblk3 V c 5 t) (iblk3 V c 6 t) (iblk3 V c 7 t) (iblk3 V c 8 t) := by
  rw [outsAt3_A V c t h0 h1 h2]
  unfold out3_A_9
  rw [View.read_writes_eq_canon _ _ _ (cover3_A_9 c _ _ _ _ _ _ _ _ _ _ _ _ _ _ _ _ _ _ _ _ _ _ _ _ _ _ _ _ _ _ _ _ _ _ _)]
  unfold kernelRun3_A
  dsimp only
  sl_unfold_run_names
  simp only [View.readAt_eq_ld, (hs3_0 t).read_unread, (hs3_1 t).read_unread, (hs3_2 t).read_unread, (hs3_3 t).read_unread, (hs3_4 t).read_unread, (hs3_5 t).read_unread,
    (hs3_6 t).read_unread, (hs3_7 t).read_unread, (hs3_8 t).read_unread,
    View.readCov_eq_canon', same3]
  rw [canonA (iblk3 V c 0 t), View.canon_unit_zero (by decide)]
  have h : t.val = 0 := by have := lt3 t; omega
  rw [h]
  rfl

/-- What a middle block stores. -/
theorem block3_B (c : Dev nD) (t : Fin cfg3.N) (h0 : ¬t.val % 7 = 0) (h1 : ¬t.val % 7 = 6) (h2 : (1 ≤ t.val % 7 ∧ t.val % 7 ≤ 5)) :
    outsAt3 V c t.val t.isLt = lastBlock (midBlock (slabV (iblk3 V c 0 t) t.val) (iblk3 V c 1 t) (iblk3 V c 2 t) (iblk3 V c 3 t))
      (iblk3 V c 4 t) (iblk3 V c 5 t) (iblk3 V c 6 t) (iblk3 V c 7 t) (iblk3 V c 8 t) := by
  rw [outsAt3_B V c t h0 h1 h2]
  unfold out3_B_9
  rw [View.read_writes_eq_canon _ _ _ (cover3_B_9 c _ _ _ _ _ _ _ _ _ _ _ _ _ _ _ _ _ _ _ _ _ _ _ _ _ _ _ _ _ _ _ _ _ _ _)]
  unfold kernelRun3_B
  dsimp only
  sl_unfold_run_names
  simp only [View.readAt_eq_ld, (hs3_0 t).read_unread, (hs3_1 t).read_unread, (hs3_2 t).read_unread, (hs3_3 t).read_unread, (hs3_4 t).read_unread, (hs3_5 t).read_unread,
    (hs3_6 t).read_unread, (hs3_7 t).read_unread, (hs3_8 t).read_unread,
    View.readCov_eq_canon', same3]
  rw [canonB (iblk3 V c 0 t) t.val _ (off3 t h2).1 (off3 t h2).2 (k3_off1 (grid3.coords t)) rfl, View.canon_unit_zero (by decide)]
  rfl

/-- What the last block stores. -/
theorem block3_C (c : Dev nD) (t : Fin cfg3.N) (h0 : ¬t.val % 7 = 0) (h1 : t.val % 7 = 6) (h2 : ¬(1 ≤ t.val % 7 ∧ t.val % 7 ≤ 5)) :
    outsAt3 V c t.val t.isLt = lastBlock (midBlock (slabV (iblk3 V c 0 t) t.val) (iblk3 V c 1 t) (iblk3 V c 2 t) (iblk3 V c 3 t))
      (iblk3 V c 4 t) (iblk3 V c 5 t) (iblk3 V c 6 t) (iblk3 V c 7 t) (iblk3 V c 8 t) := by
  rw [outsAt3_C V c t h0 h1 h2]
  unfold out3_C_9
  rw [View.read_writes_eq_canon _ _ _ (cover3_C_9 c _ _ _ _ _ _ _ _ _ _ _ _ _ _ _ _ _ _ _ _ _ _ _ _ _ _ _ _ _ _ _ _ _ _ _)]
  unfold kernelRun3_C
  dsimp only
  sl_unfold_run_names
  simp only [View.readAt_eq_ld, (hs3_0 t).read_unread, (hs3_1 t).read_unread, (hs3_2 t).read_unread, (hs3_3 t).read_unread, (hs3_4 t).read_unread, (hs3_5 t).read_unread,
    (hs3_6 t).read_unread, (hs3_7 t).read_unread, (hs3_8 t).read_unread,
    View.readCov_eq_canon', same3]
  rw [canonC (iblk3 V c 0 t), View.canon_unit_zero (by decide)]
  have h : t.val = 6 := by have := lt3 t; omega
  rw [h]
  rfl

/-- What every block stores: the last stage of its rows. -/
theorem block3 (c : Dev nD) (t : Fin cfg3.N) :
    outsAt3 V c t.val t.isLt = lastBlock (midBlock (slabV (iblk3 V c 0 t) t.val) (iblk3 V c 1 t) (iblk3 V c 2 t) (iblk3 V c 3 t))
      (iblk3 V c 4 t) (iblk3 V c 5 t) (iblk3 V c 6 t) (iblk3 V c 7 t) (iblk3 V c 8 t) := by
  have := lt3 t
  by_cases h0 : t.val % 7 = 0
  · exact block3_A V c t h0 (by omega) (by omega)
  · by_cases h1 : t.val % 7 = 6
    · exact block3_C V c t h0 h1 (by omega)
    · exact block3_B V c t h0 h1 (by omega)

end Cert.KernelIdeal.Val
-- ==== Proof.Arr3.lean ====
module

public import proofs.«01_k».proof.Proof.R3
public import proofs.«01_k».proof.Proof.Stage
public import Idealize.ShloMosaic.Lib.Pipeline.ValueKit

@[expose] public section

set_option maxRecDepth 100000

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.Pipeline (Dat Cfg Window BodyObligation cellOf)

variable (V : (c : Dev nD) → (b : Ref sig .tc) → Buf (Elt Ideal) ((c : Thread nD τ).loc b))

/-- Where each window's block begins. -/
theorem idx3 : ∀ t : Fin cfg3.N, (∀ a, win3_0.index t a = 0)
    ∧ (win3_1.index t (0 : Fin 2) = t.val ∧ win3_1.index t (1 : Fin 2) = 0)
    ∧ (∀ a, win3_2.index t a = 0)
    ∧ (∀ a, win3_3.index t a = 0)
    ∧ (win3_4.index t (0 : Fin 3) = t.val ∧ win3_4.index t (1 : Fin 3) = 0 ∧ win3_4.index t (2 : Fin 3) = 0)
    ∧ (win3_5.index t (0 : Fin 3) = t.val ∧ win3_5.index t (1 : Fin 3) = 0 ∧ win3_5.index t (2 : Fin 3) = 0)
    ∧ (win3_6.index t (0 : Fin 3) = t.val ∧ win3_6.index t (1 : Fin 3) = 0 ∧ win3_6.index t (2 : Fin 3) = 0)
    ∧ (∀ a, win3_7.index t a = 0)
    ∧ (∀ a, win3_8.index t a = 0)
    ∧ (win3_9.index t (0 : Fin 3) = 0 ∧ win3_9.index t (1 : Fin 3) = t.val ∧ win3_9.index t (2 : Fin 3) = 0) :=
  (by decide +kernel : ∀ t : Fin grid3.N, _)

/-- Window 0 is the whole of its array. -/
theorem in3_0 (c : Dev nD) (t : Fin cfg3.N) : iblk3 V c 0 t = V c main_v108 := by
  obtain ⟨h, -⟩ := idx3 t
  have h0 := h 0
  have h1 := h 1
  have h2 := h 2
  funext j
  blk_ext [iblk3, h0, h1, h2]

/-- Window 1 is 32 rows of its array. -/
theorem in3_1 (c : Dev nD) (t : Fin cfg3.N) (i : Fin 32) (w r : Fin 224) (hr : r.val = 32 * t.val + i.val) :
    iblk3 V c 1 t (ix2 i w) = V c main_v27 (ix2 r w) := by
  obtain ⟨-, ⟨h0, h1⟩, -⟩ := idx3 t
  blk_ext [iblk3, h0, h1, hr]

/-- Window 2 is the whole of its array. -/
theorem in3_2 (c : Dev nD) (t : Fin cfg3.N) : iblk3 V c 2 t = V c main_v110 := by
  obtain ⟨-, -, h, -⟩ := idx3 t
  have h0 := h 0
  have h1 := h 1
  have h2 := h 2
  funext j
  blk_ext [iblk3, h0, h1, h2]

/-- Window 3 is the whole of its array. -/
theorem in3_3 (c : Dev nD) (t : Fin cfg3.N) : iblk3 V c 3 t = V c main_v112 := by
  obtain ⟨-, -, -, h, -⟩ := idx3 t
  have h0 := h 0
  have h1 := h 1
  funext j
  blk_ext [iblk3, h0, h1]

/-- Window 4 is 32 rows of its array. -/
theorem in3_4 (c : Dev nD) (t : Fin cfg3.N) (i : Fin 32) (w r : Fin 224) (k : Fin 96) (hr : r.val = 32 * t.val + i.val) :
    iblk3 V c 4 t (ix3 i w k) = V c main_v46 (ix3 r w k) := by
  obtain ⟨-, -, -, -, ⟨h0, h1, h2⟩, -⟩ := idx3 t
  blk_ext [iblk3, h0, h1, h2, hr]

/-- Window 5 is 32 rows of its array. -/
theorem in3_5 (c : Dev nD) (t : Fin cfg3.N) (i : Fin 32) (w r : Fin 224) (k : Fin 96) (hr : r.val = 32 * t.val + i.val) :
    iblk3 V c 5 t (ix3 i w k) = V c main_v103 (ix3 r w k) := by
  obtain ⟨-, -, -, -, -, ⟨h0, h1, h2⟩, -⟩ := idx3 t
  blk_ext [iblk3, h0, h1, h2, hr]

/-- Window 6 is 32 rows of its array. -/
theorem in3_6 (c : Dev nD) (t : Fin cfg3.N) (i : Fin 32) (w r : Fin 224) (k : Fin 96) (hr : r.val = 32 * t.val + i.val) :
    iblk3 V c 6 t (ix3 i w k) = V c main_v108 (ix3 r w k) := by
  obtain ⟨-, -, -, -, -, -, ⟨h0, h1, h2⟩, -⟩ := idx3 t
  blk_ext [iblk3, h0, h1, h2, hr]

/-- Window 7 is the whole of its array. -/
theorem in3_7 (c : Dev nD) (t : Fin cfg3.N) : iblk3 V c 7 t = V c main_v49 := by
  obtain ⟨-, -, -, -, -, -, -, h, -⟩ := idx3 t
  have h0 := h 0
  have h1 := h 1
  have h2 := h 2
  funext j
  blk_ext [iblk3, h0, h1, h2]

/-- Window 8 is the whole of its array. -/
theorem in3_8 (c : Dev nD) (t : Fin cfg3.N) : iblk3 V c 8 t = V c main_v59 := by
  obtain ⟨-, -, -, -, -, -, -, -, h, -⟩ := idx3 t
  have h0 := h 0
  have h1 := h 1
  funext j
  blk_ext [iblk3, h0, h1]

/-- The region's output array: the collecting sum at every channel and pixel. -/
theorem arr3 (c : Dev nD) : (dat3 V c).arrAt 9 cfg3.N = fun j : S96x224x224.Idx =>
    lastStage (fun j => midStage (V c main_v108) (V c main_v27) (V c main_v110) (V c main_v112) (j 0) (j 1) (j 2))
      (V c main_v46) (V c main_v103) (V c main_v108) (V c main_v49) (V c main_v59) (j 0) (j 1) (j 2) := by
  refine (dat3 V c).arrAt_eq_of_covers 9 _ (by decide +kernel) fun t hf y => ?_
  obtain ⟨-, -, -, -, -, -, -, -, -, h0, h1, h2⟩ := idx3 t
  rw [after3_9, block3, in3_0, in3_2, in3_3, in3_7, in3_8]
  blk_simp
  idx_vars y
  have e0 : (((cfg3.win 9).blk t).view.emb (ix3 y0 y1 y2) : S96x224x224.Idx) 0 = y0 := by
    apply Fin.ext; blk_simp [h0]
  have e1 : ((((cfg3.win 9).blk t).view.emb (ix3 y0 y1 y2) : S96x224x224.Idx) 1).val = 32 * t.val + y1.val := by
    blk_simp [h1]; omega
  have e2 : (((cfg3.win 9).blk t).view.emb (ix3 y0 y1 y2) : S96x224x224.Idx) 2 = y2 := by
    apply Fin.ext; blk_simp [h2]
  refine Eq.trans ?_ (congrArg₂ (fun a b => lastStage (fun j => midStage (V c main_v108) (V c main_v27) (V c main_v110) (V c main_v112) (j 0) (j 1) (j 2))
      (V c main_v46) (V c main_v103) (V c main_v108) (V c main_v49) (V c main_v59) a _ b) e0.symm e2.symm)
  refine (lastBlock_apply _ _ _ _ _ _ _ _ _).trans ?_
  have e : ∀ dh, 32 * t.val + (dh + y1.val) = dh + ((((cfg3.win 9).blk t).view.emb (ix3 y0 y1 y2) : S96x224x224.Idx) 1).val := by
    intro dh; omega
  unfold lastStage
  simp only [midBlock_apply, in3_1 V c t y1 y2 _ e1, in3_4 V c t y1 y2 _ _ e1, in3_5 V c t y1 y2 _ _ e1, in3_6 V c t y1 y2 _ _ e1]
  simp only [midStage, e]
  rfl

end Cert.KernelIdeal.Val
-- ==== Proof.Chain.lean ====
/- What the kernel's program leaves in its result, stage after stage, in the reference's terms. -/
module

public import proofs.«01_k».proof.Proof.Bridge
public import proofs.«01_k».proof.Proof.Goods
public import proofs.«01_k».proof.Proof.Prep2
public import proofs.«01_k».proof.Proof.Arr0
public import proofs.«01_k».proof.Proof.Arr1
public import proofs.«01_k».proof.Proof.Arr2
public import proofs.«01_k».proof.Proof.Arr3

@[expose] public section

set_option maxRecDepth 100000

noncomputable section

namespace Cert.KernelIdeal.Val

open Idealize.ShloMosaic Idealize.ShloMosaic.TcCoe Idealize.SL.Sem Idealize.ShloMosaic.StableHlo
open Cert.KernelIdeal Cert.KernelIdeal.Gen Cert.Host
open Cert.ReferenceIdeal (stage0 stageN Pairs Pic pic)

/-- The first stage's picture. -/
def pic0 (X : Pic) (sp : S1x1x224x224.Idx → EReal) (M : Pairs) (w : S96x96x3x3.Idx → EReal) (b : S96.Idx → EReal) : S224x224x96.Idx → EReal :=
  fun j => stage0 (pic X) w b M sp (j 0) (j 1) (j 2)

/-- A later stage's picture. -/
def picN (n : Fin 3) (X : S224x224x96.Idx → EReal) (sp : S1x1x224x224.Idx → EReal) (M : Pairs) (w : S96x96x3x3.Idx → EReal)
    (b : S96.Idx → EReal) : S224x224x96.Idx → EReal :=
  fun j => stageN n X w b M sp (j 0) (j 1) (j 2)

/-- The closing sums over the four pictures. -/
def closing (f0 f1 f2 f3 : S224x224x96.Idx → EReal) (g : Fin 4 → Fin 96 → EReal) (b : S96.Idx → EReal) (o : Fin 96) (r w : Fin 224) : EReal :=
  ∑ k, g 0 k * f0 (ix3 r w k) + ∑ k, g 1 k * f1 (ix3 r w k) + ∑ k, g 2 k * f2 (ix3 r w k) + ∑ k, g 3 k * f3 (ix3 r w k) + b (ix1 o)

/-- The collecting sums are the closing sums. -/
theorem last_closing (M f0 f1 f2 : S224x224x96.Idx → EReal) (wf : S4x96x96.Idx → EReal) (bc : S8x96.Idx → EReal) (b : S96.Idx → EReal)
    (o : Fin 96) (h : bc (ix2 0 o) = b (ix1 o)) (r w : Fin 224) :
    lastStage M f0 f1 f2 wf bc o r w = closing f0 f1 f2 M (fun j k => wf (ix3 j k o)) b o r w := by
  have comm : ∀ f g : Fin 96 → EReal, ∑ k, f k * g k = ∑ k, g k * f k := fun f g => Finset.sum_congr rfl fun k _ => mul_comm _ _
  unfold lastStage closing
  rw [h]
  refine congrArg (· + b (ix1 o)) ?_
  exact congrArg₂ (· + ·) (congrArg₂ (· + ·) (congrArg₂ (· + ·) (comm _ _) (comm _ _)) (comm _ _)) (comm _ _)

variable (m : (ℓ : Loc nD τ sig) → Buf (Elt Ideal) ℓ) (ρ : Dev nD → PrngReg) (c : Dev nD)

/-- An argument as launched. -/
abbrev arg (r : Ref sig .tc) := m ((c.tc : Thread nD τ).loc r)

/-- What the stages need of the arguments and of the mask. -/
structure Fit : Prop where
  x0 : ∀ y, IsReal (arg m c main_arg0 y)
  x1 : ∀ y, IsReal (arg m c main_arg1 y)
  w0 : ∀ y, IsReal (arg m c main_arg3 y)
  b0 : ∀ y, IsReal (arg m c main_arg4 y)
  w1 : ∀ y, IsReal (arg m c main_arg5 y)
  b1 : ∀ y, IsReal (arg m c main_arg6 y)
  w2 : ∀ y, IsReal (arg m c main_arg7 y)
  b2 : ∀ y, IsReal (arg m c main_arg8 y)
  w3 : ∀ y, IsReal (arg m c main_arg9 y)
  b3 : ∀ y, IsReal (arg m c main_arg10 y)
  mask : ∀ (o : Fin 96) (s : Fin 4), Halves (cm (W3 m ρ c) (ix4 0 o s 0)) (cm (W3 m ρ c) (ix4 0 o s 1))

/-- A buffer that neither the first stage nor the operations after it write. -/
theorem keep5 (r : Ref sig .tc) (h : ∀ w : Fin cfg0.W, Pipeline.arrRef spec0 w = r → (cfg0.win w).isOut = false) (h' : r ∉ hostOps1_W) :
    at' (W5 m ρ c) r = at' (W3 m ρ c) r := (W5_of m ρ c r h').trans (W4_of m ρ c r h)

/-- The same for the second stage. -/
theorem keep7 (r : Ref sig .tc) (h : ∀ w : Fin cfg1.W, Pipeline.arrRef spec1 w = r → (cfg1.win w).isOut = false) (h' : r ∉ hostOps2_W) :
    at' (W7 m ρ c) r = at' (W5 m ρ c) r := (W7_of m ρ c r h').trans (W6_of m ρ c r h)

/-- The same for the third stage. -/
theorem keep9 (r : Ref sig .tc) (h : ∀ w : Fin cfg2.W, Pipeline.arrRef spec2 w = r → (cfg2.win w).isOut = false) (h' : r ∉ hostOps3_W) :
    at' (W9 m ρ c) r = at' (W7 m ρ c) r := (W9_of m ρ c r h').trans (W8_of m ρ c r h)

/-- The same for the fourth stage. -/
theorem keep11 (r : Ref sig .tc) (h : ∀ w : Fin cfg3.W, Pipeline.arrRef spec3 w = r → (cfg3.win w).isOut = false) (h' : r ∉ hostOps4_W) :
    at' (W11 m ρ c) r = at' (W9 m ρ c) r := (W11_of m ρ c r h').trans (W10_of m ρ c r h)

/-- The first stage's picture in the program. -/
abbrev p0 := pic0 (arg m c main_arg0) (arg m c main_arg1) (cm (W3 m ρ c)) (arg m c main_arg3) (arg m c main_arg4)
/-- The second. -/
abbrev p1 := picN 0 (p0 m ρ c) (arg m c main_arg1) (cm (W3 m ρ c)) (arg m c main_arg5) (arg m c main_arg6)
/-- The third. -/
abbrev p2 := picN 1 (p1 m ρ c) (arg m c main_arg1) (cm (W3 m ρ c)) (arg m c main_arg7) (arg m c main_arg8)
/-- The fourth. -/
abbrev p3 := picN 2 (p2 m ρ c) (arg m c main_arg1) (cm (W3 m ρ c)) (arg m c main_arg9) (arg m c main_arg10)

variable {m ρ c}

/-- The spatial mask as the stages read it. -/
theorem spatial (r w : Fin 224) : at' (W3 m ρ c) main_v27 (ix2 r w) = arg m c main_arg1 (ix4 0 0 r w) := by
  rw [(prep0 _ (fixed3 m ρ c).2.2).v27, at', W3_args m ρ c main_arg1 (by decide)]

/-- The first stage. -/
theorem first_pic (H : Fit m ρ c) : at' (W5 m ρ c) main_v46 = p0 m ρ c ∧ ∀ y, IsReal (p0 m ρ c y) := by
  have P := prep0 _ (fixed3 m ρ c).2.2
  have a : ∀ r ∈ argRefs, at' (W3 m ρ c) r = arg m c r := W3_args m ρ c
  have e : at' (W5 m ρ c) main_v46 = _ := (W5_of m ρ c main_v46 (by decide)).trans ((W4_arr m ρ c 4).trans (arr0 (V3 m ρ) c))
  have eX : chLast (at' (W3 m ρ c) main_v28) = pic (arg m c main_arg0) := funext fun y => by
    rw [← a main_arg0 (by decide)]
    exact P.v28 (y 2) (y 0) (y 1)
  have B := fun r w o => first_bridge (X := chLast (at' (W3 m ρ c) main_v28)) (spa := at' (W3 m ρ c) main_v27) (wm := at' (W3 m ρ c) main_v31)
    (cv := at' (W3 m ρ c) main_v45) (wt := arg m c main_arg3) (b := arg m c main_arg4) (M := cm (W3 m ρ c)) (sp := arg m c main_arg1)
    (fun y => by rw [eX]; exact H.x0 _) H.w0 H.b0 H.x1 H.mask spatial
    (fun t dh dw k o ht => by rw [P.v31 t dh dw k o ht, a main_arg3 (by decide)]) P.v45_0 P.v45_1
    (fun o => by rw [P.v45_2, a main_arg4 (by decide)]) r w o
  rw [eX] at B
  have e1 : (fun j : S224x224x96.Idx => firstStage (pic (arg m c main_arg0)) (at' (W3 m ρ c) main_v27) (at' (W3 m ρ c) main_v31)
      (at' (W3 m ρ c) main_v45) (j 0) (j 1) (j 2)) = p0 m ρ c := funext fun j => (B _ _ _).1
  have h1 : ∀ y, IsReal (p0 m ρ c y) := fun y => (B _ _ _).2
  refine ⟨e.trans (Eq.trans ?_ e1), h1⟩
  rw [← eX]

/-- A later stage, from the arrays that it reads. -/
theorem mid_pic (H : Fit m ρ c) (n : Fin 3) {X : S224x224x96.Idx → EReal} (hX : ∀ y, IsReal (X y)) {wm : S9x96x256.Idx → EReal}
    {cv : S8x96.Idx → EReal} (hw : ∀ y, IsReal (Val.w3 (W5 m ρ c) n y)) (hb : ∀ y, IsReal (Val.b3 (W5 m ρ c) n y))
    (ew : ∀ (t : Fin 9) (k : Fin 96) (q : Fin 256), wm (ix3 t k q) = at' (W5 m ρ c) main_v74 (ix4 n t k q))
    (ev : ∀ (a : Fin 8) (o : Fin 96), cv (ix2 a o) = at' (W5 m ρ c) main_v98 (ix3 n a o)) :
    (fun j : S224x224x96.Idx => midStage X (at' (W3 m ρ c) main_v27) wm cv (j 0) (j 1) (j 2)) =
        picN n X (arg m c main_arg1) (cm (W3 m ρ c)) (Val.w3 (W5 m ρ c) n) (Val.b3 (W5 m ρ c) n) ∧
      ∀ y, IsReal (picN n X (arg m c main_arg1) (cm (W3 m ρ c)) (Val.w3 (W5 m ρ c) n) (Val.b3 (W5 m ρ c) n) y) := by
  have P := prep1 _ (fixed5 m ρ c)
  have eM : cm (W5 m ρ c) = cm (W3 m ρ c) := keep5 m ρ c main_v25 (by decide) (by decide)
  have B := fun r w o => mid_bridge n (X := X) (spa := at' (W3 m ρ c) main_v27) (wm := wm) (cv := cv) (wt := Val.w3 (W5 m ρ c) n)
    (b := Val.b3 (W5 m ρ c) n) (M := cm (W3 m ρ c)) (sp := arg m c main_arg1) hX hw hb H.x1 H.mask spatial
    (fun t dh dw k o q ht hq => by rw [ew, P.v74 n t dh dw k o q ht hq])
    (fun t dh dw k o q ht hq => by rw [ew, P.v74d n t dh dw k o q ht hq, eM])
    (fun o => by rw [ev, P.v98_0, eM]) (fun o => by rw [ev, P.v98_1, eM]) (fun o => by rw [ev, P.v98_2, eM]) r w o
  exact ⟨funext fun j => (B _ _ _).1, fun y => (B _ _ _).2⟩

/-- The later stages' weights are the arguments. -/
theorem w3_eq : Val.w3 (W5 m ρ c) 0 = arg m c main_arg5 ∧ Val.w3 (W5 m ρ c) 1 = arg m c main_arg7 ∧ Val.w3 (W5 m ρ c) 2 = arg m c main_arg9 :=
  ⟨W5_args m ρ c main_arg5 (by decide), W5_args m ρ c main_arg7 (by decide), W5_args m ρ c main_arg9 (by decide)⟩

/-- So are their biases. -/
theorem b3_eq : Val.b3 (W5 m ρ c) 0 = arg m c main_arg6 ∧ Val.b3 (W5 m ρ c) 1 = arg m c main_arg8 ∧ Val.b3 (W5 m ρ c) 2 = arg m c main_arg10 :=
  ⟨W5_args m ρ c main_arg6 (by decide), W5_args m ρ c main_arg8 (by decide), W5_args m ρ c main_arg10 (by decide)⟩

/-- The second stage. -/
theorem second_pic (H : Fit m ρ c) : at' (W7 m ρ c) main_v103 = p1 m ρ c ∧ ∀ y, IsReal (p1 m ρ c y) := by
  have P := prep1 _ (fixed5 m ρ c)
  obtain ⟨e0, h0⟩ := first_pic H
  have e : at' (W7 m ρ c) main_v103 = _ := (W7_of m ρ c main_v103 (by decide)).trans ((W6_arr m ρ c 4).trans (arr1 (V5 m ρ) c))
  have hs : at' (W5 m ρ c) main_v27 = at' (W3 m ρ c) main_v27 := keep5 m ρ c main_v27 (by decide) (by decide)
  obtain ⟨e1, h1⟩ := mid_pic H 0 h0 (wm := at' (W5 m ρ c) main_v100) (cv := at' (W5 m ρ c) main_v102)
    (by rw [w3_eq.1]; exact H.w1) (by rw [b3_eq.1]; exact H.b1) P.v100 P.v102
  rw [w3_eq.1, b3_eq.1] at e1 h1
  refine ⟨e.trans (Eq.trans ?_ e1), h1⟩
  rw [← e0, ← hs]

/-- The third stage. -/
theorem third_pic (H : Fit m ρ c) : at' (W9 m ρ c) main_v108 = p2 m ρ c ∧ ∀ y, IsReal (p2 m ρ c y) := by
  obtain ⟨q1, q2⟩ := prep2 _ (fixed7 m ρ c)
  obtain ⟨e0, h0⟩ := second_pic H
  have e : at' (W9 m ρ c) main_v108 = _ := (W9_of m ρ c main_v108 (by decide)).trans ((W8_arr m ρ c 4).trans (arr2 (V7 m ρ) c))
  have hs : at' (W7 m ρ c) main_v27 = at' (W3 m ρ c) main_v27 :=
    (keep7 m ρ c main_v27 (by decide) (by decide)).trans (keep5 m ρ c main_v27 (by decide) (by decide))
  have k1 := keep7 m ρ c main_v74 (by decide) (by decide)
  have k2 := keep7 m ρ c main_v98 (by decide) (by decide)
  obtain ⟨e1, h1⟩ := mid_pic H 1 h0 (wm := at' (W7 m ρ c) main_v105) (cv := at' (W7 m ρ c) main_v107)
    (by rw [w3_eq.2.1]; exact H.w2) (by rw [b3_eq.2.1]; exact H.b2) (fun t k q => by rw [q1, k1]) (fun a o => by rw [q2, k2])
  rw [w3_eq.2.1, b3_eq.2.1] at e1 h1
  refine ⟨e.trans (Eq.trans ?_ e1), h1⟩
  rw [← e0, ← hs]

/-- The result. -/
theorem result_value (H : Fit m ρ c) (o : Fin 96) : ∃ g : Fin 4 → Fin 96 → EReal,
    (∀ (j : Fin 4) (k : Fin 96) (q : Fin 384), q.val = 96 * j.val + k.val → arg m c main_arg11 (ix4 o q 0 0) = g j k) ∧
    ∀ r w : Fin 224, at' (W11 m ρ c) main_v114 (ix4 0 o r w) =
      closing (p0 m ρ c) (p1 m ρ c) (p2 m ρ c) (p3 m ρ c) g (arg m c main_arg12) o r w := by
  have P := prep1 _ (fixed5 m ρ c)
  obtain ⟨q1, q2⟩ := prep3 _ (fixed9 m ρ c)
  obtain ⟨e2, h2⟩ := third_pic H
  have up : ∀ r, (∀ w : Fin cfg1.W, Pipeline.arrRef spec1 w = r → (cfg1.win w).isOut = false) → r ∉ hostOps2_W →
      (∀ w : Fin cfg2.W, Pipeline.arrRef spec2 w = r → (cfg2.win w).isOut = false) → r ∉ hostOps3_W →
      at' (W9 m ρ c) r = at' (W5 m ρ c) r := fun r h h' g g' => (keep9 m ρ c r g g').trans (keep7 m ρ c r h h')
  have hs : at' (W9 m ρ c) main_v27 = at' (W3 m ρ c) main_v27 :=
    (up main_v27 (by decide) (by decide) (by decide) (by decide)).trans (keep5 m ρ c main_v27 (by decide) (by decide))
  have k1 := up main_v74 (by decide) (by decide) (by decide) (by decide)
  have k2 := up main_v98 (by decide) (by decide) (by decide) (by decide)
  have k49 := up main_v49 (by decide) (by decide) (by decide) (by decide)
  have k59 := up main_v59 (by decide) (by decide) (by decide) (by decide)
  have f0 : at' (W9 m ρ c) main_v46 = p0 m ρ c := (up main_v46 (by decide) (by decide) (by decide) (by decide)).trans (first_pic H).1
  have f1 : at' (W9 m ρ c) main_v103 = p1 m ρ c := (keep9 m ρ c main_v103 (by decide) (by decide)).trans (second_pic H).1
  have e : at' (W10 m ρ c) main_v113 = _ := (W10_arr m ρ c 9).trans (arr3 (V9 m ρ) c)
  obtain ⟨e3, -⟩ := mid_pic H 2 h2 (wm := at' (W9 m ρ c) main_v110) (cv := at' (W9 m ρ c) main_v112)
    (by rw [w3_eq.2.2]; exact H.w3) (by rw [b3_eq.2.2]; exact H.b3) (fun t k q => by rw [q1, k1]) (fun a o => by rw [q2, k2])
  rw [w3_eq.2.2, b3_eq.2.2] at e3
  refine ⟨fun j k => at' (W9 m ρ c) main_v49 (ix3 j k o), fun j k q hq => ?_, fun r w => ?_⟩
  · show _ = at' (W9 m ρ c) main_v49 (ix3 j k o)
    rw [k49, P.v49 j k o q hq]
    exact congrFun (W5_args m ρ c main_arg11 (by decide)).symm _
  · have b : at' (W9 m ρ c) main_v59 (ix2 0 o) = arg m c main_arg12 (ix1 o) := by
      rw [k59, P.v59]
      exact congrFun (W5_args m ρ c main_arg12 (by decide)) _
    rw [prep4 _ (fixed11 m ρ c) o r w, at', W11_of m ρ c main_v113 (by decide)]
    refine (congrFun e _).trans ?_
    show lastStage (fun j : S224x224x96.Idx => midStage (at' (W9 m ρ c) main_v108) (at' (W9 m ρ c) main_v27) (at' (W9 m ρ c) main_v110)
      (at' (W9 m ρ c) main_v112) (j 0) (j 1) (j 2)) (at' (W9 m ρ c) main_v46) (at' (W9 m ρ c) main_v103) (at' (W9 m ρ c) main_v108)
      (at' (W9 m ρ c) main_v49) (at' (W9 m ρ c) main_v59) o r w = _
    rw [f0, f1, e2, hs]
    refine (congrArg (fun M => lastStage M (p0 m ρ c) (p1 m ρ c) (p2 m ρ c) (at' (W9 m ρ c) main_v49) (at' (W9 m ρ c) main_v59) o r w) e3).trans ?_
    exact last_closing _ _ _ _ _ _ _ o b r w

end Cert.KernelIdeal.Val
-- ==== Proof.PreFacts.lean ====
/- The shape facts that the precondition's operations take. -/
module

public import proofs.«01_k».proof.Pre_finite_inputs

@[expose] public section

namespace Cert.Pre_finite_inputs

/-- All of the shape facts. -/
theorem facts : Facts where
  bcast_S_S1x96x224x224 := by decide
  reducesTo_S1x96x224x224_S_d0_1_2_3 := by decide
  h_S_ := by decide
  bcast_S_S1x1x224x224 := by decide
  reducesTo_S1x1x224x224_S_d0_1_2_3 := by decide
  bcast_S_S1x96x4x2 := by decide
  reducesTo_S1x96x4x2_S_d0_1_2_3 := by decide
  bcast_S_S96x96x3x3 := by decide
  reducesTo_S96x96x3x3_S_d0_1_2_3 := by decide
  bcast_S_S96 := by decide
  reducesTo_S96_S_d0 := by decide

end Cert.Pre_finite_inputs
-- ==== Proof.PreRead.lean ====
/- What the precondition says: every entry of the first eleven arrays is a real number. -/
module

public import proofs.«01_k».proof.Proof.PreFacts
public import proofs.«01_k».proof.Proof.Algebra
public import Idealize.ShloMosaic.Lib.ReduceAll
public import Idealize.ShloMosaic.Lib.Pointwise

@[expose] public section

set_option maxRecDepth 100000

noncomputable section

namespace Cert.Pre_finite_inputs

open Idealize.ShloMosaic
open Cert.KernelIdeal.Val (IsReal)

/-- Both arguments of a conjunction that is true are true. -/
theorem both {s : Shape} {x y : IVec s 1} {o : s.Idx} (h : andi x y o = 1#1) : x o = 1#1 ∧ y o = 1#1 :=
  IntOp.andi_eq_one.1 h

/-- A number whose absolute value is below infinity is real. -/
theorem real_of_abs (a : EReal) (h : max a (-a) < ⊤) : IsReal a := by
  induction a with
  | bot => simp at h
  | top => simp at h
  | coe r => exact ⟨r, rfl⟩

/-- The word of infinity. -/
theorem word_top : (Ideal.ofBits .f32 0x7F800000#32 : EReal) = ⊤ := by
  simp [Ideal.ofBits, Ideal.ieee, -EReal.coe_mul]

/-- An index of the scalar shape. -/
instance : Subsingleton S_.Idx := ⟨fun a b => funext fun i => i.elim0⟩

/-- The test of one array: when all its entries pass, all are real. -/
theorem all_real {s : Shape} {axes : List (Fin s.rank)} (x : FVec Ideal s .f32) (hb : S_.BroadcastsInDim s ![])
    (hr : s.ReducesTo axes S_) (hu : 0 < S_.numel) (o : S_.Idx)
    (h : Host.reduce IntOp.andi (cmpf .olt (Host.absf x) (broadcastInDim s ![] hb (constant (F := Ideal) S_ .f32 0x7F800000#32)))
      (constantI S_ 1 1#1) hr hu o = 1#1) (y : s.Idx) : IsReal (x y) := by
  have e := Host.reduce_andi_all _ _ _ _ o h y
  refine real_of_abs _ ?_
  have e' : Ideal.cmp .olt (max (x y) (-(x y))) (Ideal.ofBits .f32 0x7F800000#32) = 1#1 := e
  rw [word_top] at e'
  simp only [Ideal.cmp] at e'
  by_contra hn
  rw [decide_eq_false hn] at e'
  exact absurd e' (by decide)

/-- The precondition, read: the first eleven arrays hold real numbers. -/
theorem reals [Facts] (a0 : FVec Ideal S1x96x224x224 .f32) (a1 : FVec Ideal S1x1x224x224 .f32) (a2 : FVec Ideal S1x96x4x2 .f32) (a3 : FVec Ideal S96x96x3x3 .f32) (a4 : FVec Ideal S96 .f32) (a5 : FVec Ideal S96x96x3x3 .f32) (a6 : FVec Ideal S96 .f32) (a7 : FVec Ideal S96x96x3x3 .f32) (a8 : FVec Ideal S96 .f32) (a9 : FVec Ideal S96x96x3x3 .f32) (a10 : FVec Ideal S96 .f32) (a11 : FVec Ideal S96x384x1x1 .f32) (a12 : FVec Ideal S96 .f32)
    (h : fn (F := Ideal) a0 a1 a2 a3 a4 a5 a6 a7 a8 a9 a10 a11 a12 = fun _ => 1#1) :
      (∀ y, IsReal (a0 y)) ∧
      (∀ y, IsReal (a1 y)) ∧
      (∀ y, IsReal (a2 y)) ∧
      (∀ y, IsReal (a3 y)) ∧
      (∀ y, IsReal (a4 y)) ∧
      (∀ y, IsReal (a5 y)) ∧
      (∀ y, IsReal (a6 y)) ∧
      (∀ y, IsReal (a7 y)) ∧
      (∀ y, IsReal (a8 y)) ∧
      (∀ y, IsReal (a9 y)) ∧
      (∀ y, IsReal (a10 y)) := by
  have e := congrFun h (fun i => i.elim0)
  dsimp only [fn, fn_part1, fn_part2, fn_part3] at e
  obtain ⟨e, t10⟩ := both e
  obtain ⟨e, t9⟩ := both e
  obtain ⟨e, t8⟩ := both e
  obtain ⟨e, t7⟩ := both e
  obtain ⟨e, t6⟩ := both e
  obtain ⟨e, t5⟩ := both e
  obtain ⟨e, t4⟩ := both e
  obtain ⟨e, t3⟩ := both e
  obtain ⟨e, t2⟩ := both e
  obtain ⟨e, t1⟩ := both e
  exact ⟨all_real _ _ _ _ _ e, all_real _ _ _ _ _ t1, all_real _ _ _ _ _ t2, all_real _ _ _ _ _ t3, all_real _ _ _ _ _ t4, all_real _ _ _ _ _ t5, all_real _ _ _ _ _ t6, all_real _ _ _ _ _ t7, all_real _ _ _ _ _ t8, all_real _ _ _ _ _ t9, all_real _ _ _ _ _ t10⟩

end Cert.Pre_finite_inputs
-- ==== Proof.Same.lean ====
/- The two programs' results are equal, where the arguments are and hold real numbers. -/
module

public import proofs.«01_k».proof.Proof.Prefix
public import proofs.«01_k».proof.Proof.Chain
public import proofs.«01_k».proof.Proof.PreRead

@[expose] public section

set_option maxRecDepth 100000
set_option maxHeartbeats 4000000

noncomputable section

namespace Cert.Both

open Idealize.ShloMosaic Idealize.SL.Sem Idealize.ShloMosaic.StableHlo Cert.Host Cert.KernelIdeal Cert.KernelIdeal.Gen Cert.KernelIdeal.Val
open Cert.ReferenceIdeal (pic)

variable (m : (ℓ : Loc nD τ sig) → Buf (Elt Ideal) ℓ) (ρ : Dev nD → PrngReg) (c : Dev nD)
  (W' : Valuation ReferenceIdeal.τ ReferenceIdeal.sig (Elt Ideal))

/-- The reference's arguments are the kernel's. -/
structure SameArgs : Prop where
  a0 : Eq (α := S1x96x224x224.Idx → EReal) (ReferenceIdeal.at' W' ReferenceIdeal.main_arg0) (arg m c main_arg0)
  a1 : Eq (α := S1x1x224x224.Idx → EReal) (ReferenceIdeal.at' W' ReferenceIdeal.main_arg1) (arg m c main_arg1)
  a2 : Eq (α := S1x96x4x2.Idx → EReal) (ReferenceIdeal.at' W' ReferenceIdeal.main_arg2) (arg m c main_arg2)
  a3 : Eq (α := S96x96x3x3.Idx → EReal) (ReferenceIdeal.at' W' ReferenceIdeal.main_arg3) (arg m c main_arg3)
  a4 : Eq (α := S96.Idx → EReal) (ReferenceIdeal.at' W' ReferenceIdeal.main_arg4) (arg m c main_arg4)
  a5 : Eq (α := S96x96x3x3.Idx → EReal) (ReferenceIdeal.at' W' ReferenceIdeal.main_arg5) (arg m c main_arg5)
  a6 : Eq (α := S96.Idx → EReal) (ReferenceIdeal.at' W' ReferenceIdeal.main_arg6) (arg m c main_arg6)
  a7 : Eq (α := S96x96x3x3.Idx → EReal) (ReferenceIdeal.at' W' ReferenceIdeal.main_arg7) (arg m c main_arg7)
  a8 : Eq (α := S96.Idx → EReal) (ReferenceIdeal.at' W' ReferenceIdeal.main_arg8) (arg m c main_arg8)
  a9 : Eq (α := S96x96x3x3.Idx → EReal) (ReferenceIdeal.at' W' ReferenceIdeal.main_arg9) (arg m c main_arg9)
  a10 : Eq (α := S96.Idx → EReal) (ReferenceIdeal.at' W' ReferenceIdeal.main_arg10) (arg m c main_arg10)
  a11 : Eq (α := S96x384x1x1.Idx → EReal) (ReferenceIdeal.at' W' ReferenceIdeal.main_arg11) (arg m c main_arg11)
  a12 : Eq (α := S96.Idx → EReal) (ReferenceIdeal.at' W' ReferenceIdeal.main_arg12) (arg m c main_arg12)

/-- The kernel's arguments hold real numbers, all but the last two. -/
structure Reals : Prop where
  r0 : ∀ y, IsReal ((arg m c main_arg0 : S1x96x224x224.Idx → EReal) y)
  r1 : ∀ y, IsReal ((arg m c main_arg1 : S1x1x224x224.Idx → EReal) y)
  r2 : ∀ y, IsReal ((arg m c main_arg2 : S1x96x4x2.Idx → EReal) y)
  r3 : ∀ y, IsReal ((arg m c main_arg3 : S96x96x3x3.Idx → EReal) y)
  r4 : ∀ y, IsReal ((arg m c main_arg4 : S96.Idx → EReal) y)
  r5 : ∀ y, IsReal ((arg m c main_arg5 : S96x96x3x3.Idx → EReal) y)
  r6 : ∀ y, IsReal ((arg m c main_arg6 : S96.Idx → EReal) y)
  r7 : ∀ y, IsReal ((arg m c main_arg7 : S96x96x3x3.Idx → EReal) y)
  r8 : ∀ y, IsReal ((arg m c main_arg8 : S96.Idx → EReal) y)
  r9 : ∀ y, IsReal ((arg m c main_arg9 : S96x96x3x3.Idx → EReal) y)
  r10 : ∀ y, IsReal ((arg m c main_arg10 : S96.Idx → EReal) y)

variable {m ρ c W'}

/-- The masks are equal. -/
theorem masks (A : SameArgs m c W') (h' : Holds W' (ReferenceIdeal.main (F := Ideal) c)) :
    Eq (α := ReferenceIdeal.Pairs) (cm (W3 m ρ c)) (ReferenceIdeal.at' W' ReferenceIdeal.main_v25) := by
  obtain ⟨f0, f1, f2⟩ := fixed3 m ρ c
  refine mask_same _ W' f0 f1 f2 c h' ?_
  exact (W3_args m ρ c main_arg2 (by decide)).trans A.a2.symm

/-- The arguments are fit for the stages' equations. -/
theorem fit (A : SameArgs m c W') (H : Reals m c) (h' : Holds W' (ReferenceIdeal.main (F := Ideal) c)) : Fit m ρ c where
  x0 := H.r0
  x1 := H.r1
  w0 := H.r3
  b0 := H.r4
  w1 := H.r5
  b1 := H.r6
  w2 := H.r7
  b2 := H.r8
  w3 := H.r9
  b3 := H.r10
  mask := fun o s => by
    have e := masks (ρ := ρ) A h'
    have k := mask_halves W' c h' (fun y => by rw [A.a2]; exact H.r2 y) o s
    rw [← e] at k
    exact k

/-- The pictures are equal. -/
theorem pictures (A : SameArgs m c W') (h' : Holds W' (ReferenceIdeal.main (F := Ideal) c)) :
    pic (ReferenceIdeal.at' W' ReferenceIdeal.main_v38) = p0 m ρ c ∧ pic (ReferenceIdeal.at' W' ReferenceIdeal.main_v48) = p1 m ρ c ∧
    pic (ReferenceIdeal.at' W' ReferenceIdeal.main_v58) = p2 m ρ c ∧ pic (ReferenceIdeal.at' W' ReferenceIdeal.main_v68) = p3 m ρ c := by
  have V := ReferenceIdeal.vals W' c h'
  have e := masks (ρ := ρ) A h'
  have e0 : pic (ReferenceIdeal.at' W' ReferenceIdeal.main_v38) = p0 m ρ c := by
    funext y
    refine (V.v38 (y 2) (y 0) (y 1)).trans ?_
    rw [A.a0, A.a1, A.a3, A.a4, ← e]
    rfl
  have e1 : pic (ReferenceIdeal.at' W' ReferenceIdeal.main_v48) = p1 m ρ c := by
    funext y
    refine (V.v48 (y 2) (y 0) (y 1)).trans ?_
    rw [e0, A.a1, A.a5, A.a6, ← e]
    rfl
  have e2 : pic (ReferenceIdeal.at' W' ReferenceIdeal.main_v58) = p2 m ρ c := by
    funext y
    refine (V.v58 (y 2) (y 0) (y 1)).trans ?_
    rw [e1, A.a1, A.a7, A.a8, ← e]
    rfl
  refine ⟨e0, e1, e2, ?_⟩
  funext y
  refine (V.v68 (y 2) (y 0) (y 1)).trans ?_
  rw [e2, A.a1, A.a9, A.a10, ← e]
  rfl

/-- The first results are equal. -/
theorem first_result (A : SameArgs m c W') (H : Reals m c) (h' : Holds W' (ReferenceIdeal.main (F := Ideal) c)) :
    Eq (α := S1x96x224x224.Idx → EReal) (ReferenceIdeal.at' W' ReferenceIdeal.main_v75) (Val.at' (W11 m ρ c) main_v114) := by
  have V := ReferenceIdeal.vals W' c h'
  obtain ⟨e0, e1, e2, e3⟩ := pictures (ρ := ρ) A h'
  funext y
  obtain ⟨o, r, w, rfl⟩ : ∃ (o : Fin 96) (r w : Fin 224), y = ix4 0 o r w := ⟨y 1, y 2, y 3, by
    funext a
    fin_cases a
    · exact Subsingleton.elim (α := Fin 1) _ _
    · rfl
    · rfl
    · rfl⟩
  obtain ⟨g, hg, hv⟩ := result_value (fit (ρ := ρ) A H h') o
  refine (V.v75 g o r w (fun j k q hq => ?_)).trans ?_
  · rw [A.a11]; exact hg j k q hq
  · rw [e0, e1, e2, e3, A.a12]
    exact (hv r w).symm

/-- The second results are equal. -/
theorem second_result (A : SameArgs m c W') (h' : Holds W' (ReferenceIdeal.main (F := Ideal) c)) :
    Eq (α := S1x96x4x2.Idx → EReal) (ReferenceIdeal.at' W' ReferenceIdeal.main_v25) (Val.at' (W11 m ρ c) main_v25) := by
  have k := ((((keep11 m ρ c main_v25 (by decide) (by decide)).trans (keep9 m ρ c main_v25 (by decide) (by decide))).trans
    (keep7 m ρ c main_v25 (by decide) (by decide))).trans (keep5 m ρ c main_v25 (by decide) (by decide)))
  exact (masks (ρ := ρ) A h').symm.trans k.symm

end Cert.Both
-- ==== Proof.lean ====
module

public import proofs.«01_k».proof.Defs
public import proofs.«01_k».proof.Proof.Gen.Kernel.Frame
public import proofs.«01_k».proof.Proof.Gen.KernelIdeal.Frame
public import proofs.«01_k».proof.Proof.RefEnd
public import proofs.«01_k».proof.Proof.KRun
public import proofs.«01_k».proof.Proof.Same

@[expose] public section

noncomputable section

namespace Cert.Proof

open Idealize.ShloMosaic Idealize.SL.Sem Cert.Host

/-- The reference runs, its arguments end unchanged, and it uses no semaphore. -/
theorem frame_reference : Cert.quiescent_ReferenceIdeal (hReferenceIdeal := Cert.ReferenceIdeal.Gen.facts) := by
  intro m ρ _
  obtain ⟨W, -, hk, hr⟩ := Cert.ReferenceIdeal.run (F := Ideal) m ρ
  refine (θ_run _ _ _).mono (fun r h => ⟨fun c => ?_, sem_eq_zero_of_no_sems (by decide) r.2⟩) hr
  refine ⟨?_, ?_, ?_, ?_, ?_, ?_, ?_, ?_, ?_, ?_, ?_, ?_, ?_⟩ <;>
    exact (h c _).trans (hk c _ ⟨rfl, by decide⟩)

/-- The two programs' results are equal. -/
theorem results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hp ha
  obtain ⟨W', hW, hk, hr⟩ := Cert.ReferenceIdeal.run (F := Ideal) m' g'
  have A : ∀ c, Cert.Both.SameArgs m c (W' c) := fun c => by
    obtain ⟨a0, a1, a2, a3, a4, a5, a6, a7, a8, a9, a10, a11, a12⟩ := ha c
    exact ⟨(hk c Cert.ReferenceIdeal.main_arg0 ⟨rfl, by decide⟩).trans a0, (hk c Cert.ReferenceIdeal.main_arg1 ⟨rfl, by decide⟩).trans a1, (hk c Cert.ReferenceIdeal.main_arg2 ⟨rfl, by decide⟩).trans a2, (hk c Cert.ReferenceIdeal.main_arg3 ⟨rfl, by decide⟩).trans a3, (hk c Cert.ReferenceIdeal.main_arg4 ⟨rfl, by decide⟩).trans a4, (hk c Cert.ReferenceIdeal.main_arg5 ⟨rfl, by decide⟩).trans a5, (hk c Cert.ReferenceIdeal.main_arg6 ⟨rfl, by decide⟩).trans a6, (hk c Cert.ReferenceIdeal.main_arg7 ⟨rfl, by decide⟩).trans a7, (hk c Cert.ReferenceIdeal.main_arg8 ⟨rfl, by decide⟩).trans a8, (hk c Cert.ReferenceIdeal.main_arg9 ⟨rfl, by decide⟩).trans a9, (hk c Cert.ReferenceIdeal.main_arg10 ⟨rfl, by decide⟩).trans a10, (hk c Cert.ReferenceIdeal.main_arg11 ⟨rfl, by decide⟩).trans a11, (hk c Cert.ReferenceIdeal.main_arg12 ⟨rfl, by decide⟩).trans a12⟩
  have H : ∀ c, Cert.Both.Reals m c := fun c => by
    letI := Cert.Pre_finite_inputs.facts
    obtain ⟨r0, r1, r2, r3, r4, r5, r6, r7, r8, r9, r10⟩ := Cert.Pre_finite_inputs.reals _ _ _ _ _ _ _ _ _ _ _ _ _ (hp c)
    exact ⟨r0, r1, r2, r3, r4, r5, r6, r7, r8, r9, r10⟩
  refine ⟨fun c => Cert.KernelIdeal.Val.at' (Cert.KernelIdeal.Gen.W11 m g c) Cert.KernelIdeal.main_v114,
    fun c => Cert.KernelIdeal.Val.at' (Cert.KernelIdeal.Gen.W11 m g c) Cert.KernelIdeal.main_v25, ?_, ?_⟩
  · refine (θ_run _ _ _).mono (fun r h c => ?_) (Cert.KernelIdeal.Val.run m g)
    exact ⟨h c _ (Cert.KernelIdeal.Gen.mem_uc Cert.KernelIdeal.main_v114 (by decide)),
      h c _ (Cert.KernelIdeal.Gen.mem_uc Cert.KernelIdeal.main_v25 (by decide)),
      (h c _ (Cert.KernelIdeal.Gen.mem_uc Cert.KernelIdeal.main_arg0 (by decide))).trans (Cert.KernelIdeal.Gen.W11_main_arg0 m g c),
      (h c _ (Cert.KernelIdeal.Gen.mem_uc Cert.KernelIdeal.main_arg1 (by decide))).trans (Cert.KernelIdeal.Gen.W11_main_arg1 m g c),
      (h c _ (Cert.KernelIdeal.Gen.mem_uc Cert.KernelIdeal.main_arg2 (by decide))).trans (Cert.KernelIdeal.Gen.W11_main_arg2 m g c),
      (h c _ (Cert.KernelIdeal.Gen.mem_uc Cert.KernelIdeal.main_arg3 (by decide))).trans (Cert.KernelIdeal.Gen.W11_main_arg3 m g c),
      (h c _ (Cert.KernelIdeal.Gen.mem_uc Cert.KernelIdeal.main_arg4 (by decide))).trans (Cert.KernelIdeal.Gen.W11_main_arg4 m g c),
      (h c _ (Cert.KernelIdeal.Gen.mem_uc Cert.KernelIdeal.main_arg5 (by decide))).trans (Cert.KernelIdeal.Gen.W11_main_arg5 m g c),
      (h c _ (Cert.KernelIdeal.Gen.mem_uc Cert.KernelIdeal.main_arg6 (by decide))).trans (Cert.KernelIdeal.Gen.W11_main_arg6 m g c),
      (h c _ (Cert.KernelIdeal.Gen.mem_uc Cert.KernelIdeal.main_arg7 (by decide))).trans (Cert.KernelIdeal.Gen.W11_main_arg7 m g c),
      (h c _ (Cert.KernelIdeal.Gen.mem_uc Cert.KernelIdeal.main_arg8 (by decide))).trans (Cert.KernelIdeal.Gen.W11_main_arg8 m g c),
      (h c _ (Cert.KernelIdeal.Gen.mem_uc Cert.KernelIdeal.main_arg9 (by decide))).trans (Cert.KernelIdeal.Gen.W11_main_arg9 m g c),
      (h c _ (Cert.KernelIdeal.Gen.mem_uc Cert.KernelIdeal.main_arg10 (by decide))).trans (Cert.KernelIdeal.Gen.W11_main_arg10 m g c),
      (h c _ (Cert.KernelIdeal.Gen.mem_uc Cert.KernelIdeal.main_arg11 (by decide))).trans (Cert.KernelIdeal.Gen.W11_main_arg11 m g c),
      (h c _ (Cert.KernelIdeal.Gen.mem_uc Cert.KernelIdeal.main_arg12 (by decide))).trans (Cert.KernelIdeal.Gen.W11_main_arg12 m g c)⟩
  · refine (θ_run _ _ _).mono (fun r h c => ?_) hr
    refine ⟨(h c _).trans (Cert.Both.first_result (A c) (H c) (hW c)), (h c _).trans (Cert.Both.second_result (A c) (hW c)), ?_⟩
    refine ⟨?_, ?_, ?_, ?_, ?_, ?_, ?_, ?_, ?_, ?_, ?_, ?_, ?_⟩ <;>
      exact (h c _).trans (hk c _ ⟨rfl, by decide⟩)

/-- All the claims. -/
theorem claim : Cert.Claim :=
  ⟨Cert.Kernel.Gen.facts, Cert.KernelIdeal.Gen.facts, Cert.ReferenceIdeal.Gen.facts, Cert.Pre_finite_inputs.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, results⟩

end Cert.Proof

end
